-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressReferenceIdeal (m : (ℓ : Loc Cert.CompressReferenceIdeal.nD Cert.CompressReferenceIdeal.τ Cert.CompressReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)
      ∧ r.2.mem ((c.tc : Thread Cert.MergeReferenceIdeal.nD Cert.MergeReferenceIdeal.τ).loc Cert.MergeReferenceIdeal.main_arg13) = m ((c.tc : Thread Cert.MergeReferenceIdeal.nD Cert.MergeReferenceIdeal.τ).loc Cert.MergeReferenceIdeal.main_arg13))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3)
      ∧ r.2.mem ((c.tc : Thread Cert.Compress.nD Cert.Compress.τ).loc Cert.Compress.main_arg4) = m ((c.tc : Thread Cert.Compress.nD Cert.Compress.τ).loc Cert.Compress.main_arg4)
      ∧ r.2.mem ((c.tc : Thread Cert.Compress.nD Cert.Compress.τ).loc Cert.Compress.main_arg5) = m ((c.tc : Thread Cert.Compress.nD Cert.Compress.τ).loc Cert.Compress.main_arg5)
      ∧ r.2.mem ((c.tc : Thread Cert.Compress.nD Cert.Compress.τ).loc Cert.Compress.main_arg6) = m ((c.tc : Thread Cert.Compress.nD Cert.Compress.τ).loc Cert.Compress.main_arg6)
      ∧ r.2.mem ((c.tc : Thread Cert.Compress.nD Cert.Compress.τ).loc Cert.Compress.main_arg7) = m ((c.tc : Thread Cert.Compress.nD Cert.Compress.τ).loc Cert.Compress.main_arg7))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
      ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
      ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
      ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6)
      ∧ r.2.mem ((c.tc : Thread Cert.CompressIdeal.nD Cert.CompressIdeal.τ).loc Cert.CompressIdeal.main_arg7) = m ((c.tc : Thread Cert.CompressIdeal.nD Cert.CompressIdeal.τ).loc Cert.CompressIdeal.main_arg7))
      ∧ r.2.sem = fun _ => 0)

def quiescent_CompressReferenceIdeal [hCompressReferenceIdeal : Cert.CompressReferenceIdeal.Facts] : Prop :=
  ∀ (m : (ℓ : Loc Cert.CompressReferenceIdeal.nD Cert.CompressReferenceIdeal.τ Cert.CompressReferenceIdeal.sig) → Buf (Elt Ideal) ℓ) (g : Dev Cert.CompressReferenceIdeal.nD → PrngReg), Pre_CompressReferenceIdeal m →
    θ_run (Cert.CompressReferenceIdeal.defs (F := Ideal)) (onTc (τ := Cert.CompressReferenceIdeal.τ) (Cert.CompressReferenceIdeal.main (F := Ideal))) ⟨m, fun _ => 0, g⟩ (fun r => (∀ c : Dev Cert.CompressReferenceIdeal.nD,
      r.2.mem ((c.tc : Thread Cert.CompressReferenceIdeal.nD Cert.CompressReferenceIdeal.τ).loc Cert.CompressReferenceIdeal.main_arg0) = m ((c.tc : Thread Cert.CompressReferenceIdeal.nD Cert.CompressReferenceIdeal.τ).loc Cert.CompressReferenceIdeal.main_arg0)
      ∧ r.2.mem ((c.tc : Thread Cert.CompressReferenceIdeal.nD Cert.CompressReferenceIdeal.τ).loc Cert.CompressReferenceIdeal.main_arg1) = m ((c.tc : Thread Cert.CompressReferenceIdeal.nD Cert.CompressReferenceIdeal.τ).loc Cert.CompressReferenceIdeal.main_arg1)
      ∧ r.2.mem ((c.tc : Thread Cert.CompressReferenceIdeal.nD Cert.CompressReferenceIdeal.τ).loc Cert.CompressReferenceIdeal.main_arg2) = m ((c.tc : Thread Cert.CompressReferenceIdeal.nD Cert.CompressReferenceIdeal.τ).loc Cert.CompressReferenceIdeal.main_arg2)
      ∧ r.2.mem ((c.tc : Thread Cert.CompressReferenceIdeal.nD Cert.CompressReferenceIdeal.τ).loc Cert.CompressReferenceIdeal.main_arg3) = m ((c.tc : Thread Cert.CompressReferenceIdeal.nD Cert.CompressReferenceIdeal.τ).loc Cert.CompressReferenceIdeal.main_arg3)
      ∧ r.2.mem ((c.tc : Thread Cert.CompressReferenceIdeal.nD Cert.CompressReferenceIdeal.τ).loc Cert.CompressReferenceIdeal.main_arg4) = m ((c.tc : Thread Cert.CompressReferenceIdeal.nD Cert.CompressReferenceIdeal.τ).loc Cert.CompressReferenceIdeal.main_arg4)
      ∧ r.2.mem ((c.tc : Thread Cert.CompressReferenceIdeal.nD Cert.CompressReferenceIdeal.τ).loc Cert.CompressReferenceIdeal.main_arg5) = m ((c.tc : Thread Cert.CompressReferenceIdeal.nD Cert.CompressReferenceIdeal.τ).loc Cert.CompressReferenceIdeal.main_arg5)
      ∧ r.2.mem ((c.tc : Thread Cert.CompressReferenceIdeal.nD Cert.CompressReferenceIdeal.τ).loc Cert.CompressReferenceIdeal.main_arg6) = m ((c.tc : Thread Cert.CompressReferenceIdeal.nD Cert.CompressReferenceIdeal.τ).loc Cert.CompressReferenceIdeal.main_arg6)
      ∧ r.2.mem ((c.tc : Thread Cert.CompressReferenceIdeal.nD Cert.CompressReferenceIdeal.τ).loc Cert.CompressReferenceIdeal.main_arg7) = m ((c.tc : Thread Cert.CompressReferenceIdeal.nD Cert.CompressReferenceIdeal.τ).loc Cert.CompressReferenceIdeal.main_arg7))
      ∧ r.2.sem = fun _ => 0)

def preserves_Kernel_KernelIdeal : Prop :=
  IdealRules.named_const.Statement Cert.KernelIdeal.κ "q_scale" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥
  ∧ IdealRules.named_const.Statement Cert.KernelIdeal.κ "half_mask" .f32 0xF0C9F2CA#32 ⊥
  ∧ IdealRules.named_const.Statement Cert.KernelIdeal.κ "mask" .bf16 0xF14A#16 ⊥

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v34) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)
      ∧ m' ((c.tc : Thread Cert.MergeReferenceIdeal.nD Cert.MergeReferenceIdeal.τ).loc Cert.MergeReferenceIdeal.main_arg13) = m ((c.tc : Thread Cert.MergeIdeal.nD Cert.MergeIdeal.τ).loc Cert.MergeIdeal.main_arg13)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v82) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12)
          ∧ r.2.mem ((c.tc : Thread Cert.MergeReferenceIdeal.nD Cert.MergeReferenceIdeal.τ).loc Cert.MergeReferenceIdeal.main_arg13) = m' ((c.tc : Thread Cert.MergeReferenceIdeal.nD Cert.MergeReferenceIdeal.τ).loc Cert.MergeReferenceIdeal.main_arg13))

def preserves_Compress_CompressIdeal : Prop :=
  True

def algebraic_CompressIdeal_CompressReferenceIdeal [hCompressIdeal : Cert.CompressIdeal.Facts] [hCompressReferenceIdeal : Cert.CompressReferenceIdeal.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressReferenceIdeal.nD Cert.CompressReferenceIdeal.τ Cert.CompressReferenceIdeal.sig) → Buf (Elt Ideal) ℓ) (g' : Dev Cert.CompressReferenceIdeal.nD → PrngReg), Pre_CompressIdeal m →
    (∀ c : Dev Cert.CompressIdeal.nD,
      m' ((c.tc : Thread Cert.CompressReferenceIdeal.nD Cert.CompressReferenceIdeal.τ).loc Cert.CompressReferenceIdeal.main_arg0) = m ((c.tc : Thread Cert.CompressIdeal.nD Cert.CompressIdeal.τ).loc Cert.CompressIdeal.main_arg0)
      ∧ m' ((c.tc : Thread Cert.CompressReferenceIdeal.nD Cert.CompressReferenceIdeal.τ).loc Cert.CompressReferenceIdeal.main_arg1) = m ((c.tc : Thread Cert.CompressIdeal.nD Cert.CompressIdeal.τ).loc Cert.CompressIdeal.main_arg1)
      ∧ m' ((c.tc : Thread Cert.CompressReferenceIdeal.nD Cert.CompressReferenceIdeal.τ).loc Cert.CompressReferenceIdeal.main_arg2) = m ((c.tc : Thread Cert.CompressIdeal.nD Cert.CompressIdeal.τ).loc Cert.CompressIdeal.main_arg2)
      ∧ m' ((c.tc : Thread Cert.CompressReferenceIdeal.nD Cert.CompressReferenceIdeal.τ).loc Cert.CompressReferenceIdeal.main_arg3) = m ((c.tc : Thread Cert.CompressIdeal.nD Cert.CompressIdeal.τ).loc Cert.CompressIdeal.main_arg3)
      ∧ m' ((c.tc : Thread Cert.CompressReferenceIdeal.nD Cert.CompressReferenceIdeal.τ).loc Cert.CompressReferenceIdeal.main_arg4) = m ((c.tc : Thread Cert.CompressIdeal.nD Cert.CompressIdeal.τ).loc Cert.CompressIdeal.main_arg4)
      ∧ m' ((c.tc : Thread Cert.CompressReferenceIdeal.nD Cert.CompressReferenceIdeal.τ).loc Cert.CompressReferenceIdeal.main_arg5) = m ((c.tc : Thread Cert.CompressIdeal.nD Cert.CompressIdeal.τ).loc Cert.CompressIdeal.main_arg5)
      ∧ m' ((c.tc : Thread Cert.CompressReferenceIdeal.nD Cert.CompressReferenceIdeal.τ).loc Cert.CompressReferenceIdeal.main_arg6) = m ((c.tc : Thread Cert.CompressIdeal.nD Cert.CompressIdeal.τ).loc Cert.CompressIdeal.main_arg6)
      ∧ m' ((c.tc : Thread Cert.CompressReferenceIdeal.nD Cert.CompressReferenceIdeal.τ).loc Cert.CompressReferenceIdeal.main_arg7) = m ((c.tc : Thread Cert.CompressIdeal.nD Cert.CompressIdeal.τ).loc Cert.CompressIdeal.main_arg7)) →
    ∃ (v0 : (c : Dev Cert.CompressIdeal.nD) → Buf (Elt Ideal) ((c.tc : Thread Cert.CompressIdeal.nD Cert.CompressIdeal.τ).loc Cert.CompressIdeal.main_v9_0)) (v1 : (c : Dev Cert.CompressIdeal.nD) → Buf (Elt Ideal) ((c.tc : Thread Cert.CompressIdeal.nD Cert.CompressIdeal.τ).loc Cert.CompressIdeal.main_v9_1)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v9_0) = v0 c
          ∧ r.2.mem ((c.tc : Thread Cert.CompressIdeal.nD Cert.CompressIdeal.τ).loc Cert.CompressIdeal.main_v9_1) = v1 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
          ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
          ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
          ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6)
          ∧ r.2.mem ((c.tc : Thread Cert.CompressIdeal.nD Cert.CompressIdeal.τ).loc Cert.CompressIdeal.main_arg7) = m ((c.tc : Thread Cert.CompressIdeal.nD Cert.CompressIdeal.τ).loc Cert.CompressIdeal.main_arg7))
      ∧ θ_run (Cert.CompressReferenceIdeal.defs (F := Ideal)) (onTc (τ := Cert.CompressReferenceIdeal.τ) (Cert.CompressReferenceIdeal.main (F := Ideal))) ⟨m', fun _ => 0, g'⟩ (fun r => ∀ c : Dev Cert.CompressReferenceIdeal.nD,
          r.2.mem ((c.tc : Thread Cert.CompressReferenceIdeal.nD Cert.CompressReferenceIdeal.τ).loc Cert.CompressReferenceIdeal.main_v25) = v0 c
          ∧ r.2.mem ((c.tc : Thread Cert.CompressReferenceIdeal.nD Cert.CompressReferenceIdeal.τ).loc Cert.CompressReferenceIdeal.main_v27) = v1 c
          ∧ r.2.mem ((c.tc : Thread Cert.CompressReferenceIdeal.nD Cert.CompressReferenceIdeal.τ).loc Cert.CompressReferenceIdeal.main_arg0) = m' ((c.tc : Thread Cert.CompressReferenceIdeal.nD Cert.CompressReferenceIdeal.τ).loc Cert.CompressReferenceIdeal.main_arg0)
          ∧ r.2.mem ((c.tc : Thread Cert.CompressReferenceIdeal.nD Cert.CompressReferenceIdeal.τ).loc Cert.CompressReferenceIdeal.main_arg1) = m' ((c.tc : Thread Cert.CompressReferenceIdeal.nD Cert.CompressReferenceIdeal.τ).loc Cert.CompressReferenceIdeal.main_arg1)
          ∧ r.2.mem ((c.tc : Thread Cert.CompressReferenceIdeal.nD Cert.CompressReferenceIdeal.τ).loc Cert.CompressReferenceIdeal.main_arg2) = m' ((c.tc : Thread Cert.CompressReferenceIdeal.nD Cert.CompressReferenceIdeal.τ).loc Cert.CompressReferenceIdeal.main_arg2)
          ∧ r.2.mem ((c.tc : Thread Cert.CompressReferenceIdeal.nD Cert.CompressReferenceIdeal.τ).loc Cert.CompressReferenceIdeal.main_arg3) = m' ((c.tc : Thread Cert.CompressReferenceIdeal.nD Cert.CompressReferenceIdeal.τ).loc Cert.CompressReferenceIdeal.main_arg3)
          ∧ r.2.mem ((c.tc : Thread Cert.CompressReferenceIdeal.nD Cert.CompressReferenceIdeal.τ).loc Cert.CompressReferenceIdeal.main_arg4) = m' ((c.tc : Thread Cert.CompressReferenceIdeal.nD Cert.CompressReferenceIdeal.τ).loc Cert.CompressReferenceIdeal.main_arg4)
          ∧ r.2.mem ((c.tc : Thread Cert.CompressReferenceIdeal.nD Cert.CompressReferenceIdeal.τ).loc Cert.CompressReferenceIdeal.main_arg5) = m' ((c.tc : Thread Cert.CompressReferenceIdeal.nD Cert.CompressReferenceIdeal.τ).loc Cert.CompressReferenceIdeal.main_arg5)
          ∧ r.2.mem ((c.tc : Thread Cert.CompressReferenceIdeal.nD Cert.CompressReferenceIdeal.τ).loc Cert.CompressReferenceIdeal.main_arg6) = m' ((c.tc : Thread Cert.CompressReferenceIdeal.nD Cert.CompressReferenceIdeal.τ).loc Cert.CompressReferenceIdeal.main_arg6)
          ∧ r.2.mem ((c.tc : Thread Cert.CompressReferenceIdeal.nD Cert.CompressReferenceIdeal.τ).loc Cert.CompressReferenceIdeal.main_arg7) = m' ((c.tc : Thread Cert.CompressReferenceIdeal.nD Cert.CompressReferenceIdeal.τ).loc Cert.CompressReferenceIdeal.main_arg7))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMerge : Cert.Merge.Facts) (hMergeIdeal : Cert.MergeIdeal.Facts) (hMergeReferenceIdeal : Cert.MergeReferenceIdeal.Facts) (hCompress : Cert.Compress.Facts) (hCompressIdeal : Cert.CompressIdeal.Facts) (hCompressReferenceIdeal : Cert.CompressReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Compress (hCompress := hCompress)
    ∧ quiescent_CompressIdeal (hCompressIdeal := hCompressIdeal)
    ∧ quiescent_CompressReferenceIdeal (hCompressReferenceIdeal := hCompressReferenceIdeal)
    ∧ preserves_Kernel_KernelIdeal
    ∧ preserves_Ffn_FfnIdeal
    ∧ algebraic_FfnIdeal_FfnReferenceIdeal (hFfnIdeal := hFfnIdeal) (hFfnReferenceIdeal := hFfnReferenceIdeal)
    ∧ preserves_Merge_MergeIdeal
    ∧ algebraic_MergeIdeal_MergeReferenceIdeal (hMergeIdeal := hMergeIdeal) (hMergeReferenceIdeal := hMergeReferenceIdeal)
    ∧ preserves_Compress_CompressIdeal
    ∧ algebraic_CompressIdeal_CompressReferenceIdeal (hCompressIdeal := hCompressIdeal) (hCompressReferenceIdeal := hCompressReferenceIdeal)
-- ==== Kernel.lean ====
abbrev S2x8192x8x64 : Shape := ⟨4, ![2, 8192, 8, 64]⟩
abbrev S2x8192x8x3 : Shape := ⟨4, ![2, 8192, 8, 3]⟩
abbrev S2x2x511x64 : Shape := ⟨4, ![2, 2, 511, 64]⟩
abbrev S2x8192x2x64 : Shape := ⟨4, ![2, 8192, 2, 64]⟩
abbrev S32x8 : Shape := ⟨2, ![32, 8]⟩
abbrev S2x64x128x2x4x64 : Shape := ⟨6, ![2, 64, 128, 2, 4, 64]⟩
abbrev S2x64x2x64x4x128 : Shape := ⟨6, ![2, 64, 2, 64, 4, 128]⟩
abbrev S2x64x2x64x512 : Shape := ⟨5, ![2, 64, 2, 64, 512]⟩
abbrev S2x64x128x2x12 : Shape := ⟨5, ![2, 64, 128, 2, 12]⟩
abbrev S2x64x2x12x128 : Shape := ⟨5, ![2, 64, 2, 12, 128]⟩
abbrev S_ : Shape := ⟨0, ![]⟩
abbrev S2x64x2x16x128 : Shape := ⟨5, ![2, 64, 2, 16, 128]⟩
abbrev S2x2x512x64 : Shape := ⟨4, ![2, 2, 512, 64]⟩
abbrev S2x2x64x512 : Shape := ⟨4, ![2, 2, 64, 512]⟩
abbrev S2x2x16x512 : Shape := ⟨4, ![2, 2, 16, 512]⟩
abbrev S2x2x80x512 : Shape := ⟨4, ![2, 2, 80, 512]⟩
abbrev S2x2x8192x192 : Shape := ⟨4, ![2, 2, 8192, 192]⟩
abbrev S2x2x8192x64 : Shape := ⟨4, ![2, 2, 8192, 64]⟩
abbrev S2x2x8192x256 : Shape := ⟨4, ![2, 2, 8192, 256]⟩
abbrev S2x16x512x2x64 : Shape := ⟨5, ![2, 16, 512, 2, 64]⟩
abbrev S2x2x16x64x512 : Shape := ⟨5, ![2, 2, 16, 64, 512]⟩
abbrev S2x2x16x16x512 : Shape := ⟨5, ![2, 2, 16, 16, 512]⟩
abbrev S2x2x16x80x512 : Shape := ⟨5, ![2, 2, 16, 80, 512]⟩
abbrev S2x64x128x2x64 : Shape := ⟨5, ![2, 64, 128, 2, 64]⟩
abbrev S2x2x64x64x128 : Shape := ⟨5, ![2, 2, 64, 64, 128]⟩
abbrev S2x2x64x16x128 : Shape := ⟨5, ![2, 2, 64, 16, 128]⟩
abbrev S2x2x64x80x128 : Shape := ⟨5, ![2, 2, 64, 80, 128]⟩
abbrev S18x128x128 : Shape := ⟨3, ![18, 128, 128]⟩
abbrev S8x32 : Shape := ⟨2, ![8, 32]⟩
abbrev S18x128x128x1 : Shape := ⟨4, ![18, 128, 128, 1]⟩
abbrev S8x18x128x128 : Shape := ⟨4, ![8, 18, 128, 128]⟩
abbrev S1x18x128x128 : Shape := ⟨4, ![1, 18, 128, 128]⟩
abbrev S2x4x18x128x128 : Shape := ⟨5, ![2, 4, 18, 128, 128]⟩
abbrev S2x18x128x4x128 : Shape := ⟨5, ![2, 18, 128, 4, 128]⟩
abbrev S2x18x128x512 : Shape := ⟨4, ![2, 18, 128, 512]⟩
abbrev S5x128x128 : Shape := ⟨3, ![5, 128, 128]⟩
abbrev S5x128x128x1 : Shape := ⟨4, ![5, 128, 128, 1]⟩
abbrev S8x5x128x128 : Shape := ⟨4, ![8, 5, 128, 128]⟩
abbrev S1x5x128x128 : Shape := ⟨4, ![1, 5, 128, 128]⟩
abbrev S2x4x5x128x128 : Shape := ⟨5, ![2, 4, 5, 128, 128]⟩
abbrev S2x5x128x4x128 : Shape := ⟨5, ![2, 5, 128, 4, 128]⟩
abbrev S2x5x128x512 : Shape := ⟨4, ![2, 5, 128, 512]⟩
abbrev S2x1x128x512 : Shape := ⟨4, ![2, 1, 128, 512]⟩
abbrev S19x8x128 : Shape := ⟨3, ![19, 8, 128]⟩
abbrev S19x8x128x1 : Shape := ⟨4, ![19, 8, 128, 1]⟩
abbrev S8x19x8x128 : Shape := ⟨4, ![8, 19, 8, 128]⟩
abbrev S1x19x8x128 : Shape := ⟨4, ![1, 19, 8, 128]⟩
abbrev S2x4x19x8x128 : Shape := ⟨5, ![2, 4, 19, 8, 128]⟩
abbrev S2x19x8x4x128 : Shape := ⟨5, ![2, 19, 8, 4, 128]⟩
abbrev S2x19x8x512 : Shape := ⟨4, ![2, 19, 8, 512]⟩
abbrev S2x1x8x512 : Shape := ⟨4, ![2, 1, 8, 512]⟩
abbrev S2x20x128x512 : Shape := ⟨4, ![2, 20, 128, 512]⟩
abbrev S2x20x8x512 : Shape := ⟨4, ![2, 20, 8, 512]⟩
abbrev S128x512 : Shape := ⟨2, ![128, 512]⟩
abbrev S2x64x512x128 : Shape := ⟨4, ![2, 64, 512, 128]⟩
abbrev S1x1x2x64x512 : Shape := ⟨5, ![1, 1, 2, 64, 512]⟩
abbrev S1x1x2x16x128 : Shape := ⟨5, ![1, 1, 2, 16, 128]⟩
abbrev S1x2x512x64 : Shape := ⟨4, ![1, 2, 512, 64]⟩
abbrev S1x2x80x512 : Shape := ⟨4, ![1, 2, 80, 512]⟩
abbrev S1x2x8192x256 : Shape := ⟨4, ![1, 2, 8192, 256]⟩
abbrev S1x2x16x80x512 : Shape := ⟨5, ![1, 2, 16, 80, 512]⟩
abbrev S1x2x8192x64 : Shape := ⟨4, ![1, 2, 8192, 64]⟩
abbrev S1x2x64x80x128 : Shape := ⟨5, ![1, 2, 64, 80, 128]⟩
abbrev S1x1x512x128 : Shape := ⟨4, ![1, 1, 512, 128]⟩
abbrev S2x256x512 : Shape := ⟨3, ![2, 256, 512]⟩
abbrev S2x512x512 : Shape := ⟨3, ![2, 512, 512]⟩
abbrev S64x512 : Shape := ⟨2, ![64, 512]⟩
abbrev S1x1x1x64x512 : Shape := ⟨5, ![1, 1, 1, 64, 512]⟩
abbrev S1x1x8x512 : Shape := ⟨4, ![1, 1, 8, 512]⟩
abbrev S8x512 : Shape := ⟨2, ![8, 512]⟩
abbrev S1x1x512x64 : Shape := ⟨4, ![1, 1, 512, 64]⟩
abbrev S512x64 : Shape := ⟨2, ![512, 64]⟩
abbrev S512x512 : Shape := ⟨2, ![512, 512]⟩
abbrev S512 : Shape := ⟨1, ![512]⟩
abbrev S1x512 : Shape := ⟨2, ![1, 512]⟩
abbrev S1x1x80x512 : Shape := ⟨4, ![1, 1, 80, 512]⟩
abbrev S80x512 : Shape := ⟨2, ![80, 512]⟩
abbrev S128x128 : Shape := ⟨2, ![128, 128]⟩
abbrev S1x1x128x512 : Shape := ⟨4, ![1, 1, 128, 512]⟩
abbrev S1x1x1x80x128 : Shape := ⟨5, ![1, 1, 1, 80, 128]⟩
abbrev S80x128 : Shape := ⟨2, ![80, 128]⟩
abbrev S1x1x640x64 : Shape := ⟨4, ![1, 1, 640, 64]⟩
abbrev S640x64 : Shape := ⟨2, ![640, 64]⟩
abbrev S640x512 : Shape := ⟨2, ![640, 512]⟩
abbrev S80x640 : Shape := ⟨2, ![80, 640]⟩
abbrev S128 : Shape := ⟨1, ![128]⟩
abbrev S1x128 : Shape := ⟨2, ![1, 128]⟩
abbrev S1x64x512 : Shape := ⟨3, ![1, 64, 512]⟩
abbrev S1x128x512 : Shape := ⟨3, ![1, 128, 512]⟩
abbrev S1x1x384x64 : Shape := ⟨4, ![1, 1, 384, 64]⟩
abbrev S384x64 : Shape := ⟨2, ![384, 64]⟩
abbrev S384x512 : Shape := ⟨2, ![384, 512]⟩
abbrev S1x1x80x384 : Shape := ⟨4, ![1, 1, 80, 384]⟩
abbrev S80x384 : Shape := ⟨2, ![80, 384]⟩
abbrev S96x384 : Shape := ⟨2, ![96, 384]⟩
abbrev S96x512 : Shape := ⟨2, ![96, 512]⟩
abbrev S96x128 : Shape := ⟨2, ![96, 128]⟩
abbrev S32x128 : Shape := ⟨2, ![32, 128]⟩
abbrev S1x1x256x64 : Shape := ⟨4, ![1, 1, 256, 64]⟩
abbrev S256x64 : Shape := ⟨2, ![256, 64]⟩
abbrev S256x512 : Shape := ⟨2, ![256, 512]⟩
abbrev S1x1x80x256 : Shape := ⟨4, ![1, 1, 80, 256]⟩
abbrev S80x256 : Shape := ⟨2, ![80, 256]⟩
abbrev S64x256 : Shape := ⟨2, ![64, 256]⟩
abbrev S64x128 : Shape := ⟨2, ![64, 128]⟩
abbrev S1x1x128x64 : Shape := ⟨4, ![1, 1, 128, 64]⟩
abbrev S128x64 : Shape := ⟨2, ![128, 64]⟩
abbrev S1x1x80x128 : Shape := ⟨4, ![1, 1, 80, 128]⟩
abbrev S32x512 : Shape := ⟨2, ![32, 512]⟩
abbrev S1x1x512x256 : Shape := ⟨4, ![1, 1, 512, 256]⟩
abbrev S512x256 : Shape := ⟨2, ![512, 256]⟩
abbrev S1x256x512 : Shape := ⟨3, ![1, 256, 512]⟩
abbrev S1x512x512 : Shape := ⟨3, ![1, 512, 512]⟩
abbrev S1x1x1x80x512 : Shape := ⟨5, ![1, 1, 1, 80, 512]⟩
abbrev S1x1x1x16x128 : Shape := ⟨5, ![1, 1, 1, 16, 128]⟩
abbrev S16x128 : Shape := ⟨2, ![16, 128]⟩
abbrev S1x1x64x128 : Shape := ⟨4, ![1, 1, 64, 128]⟩

abbrev nBuf : Space → Nat
  | .hbm => 331
  | .vmem => 18
  | .smem => 0
  | _ => 0

abbrev hbmTy0_0 (i : Nat) : BufTy := match i % 128 with
  | 0 => ⟨S2x8192x8x64, .f32⟩
  | 1 => ⟨S2x8192x8x3, .f32⟩
  | 2 => ⟨S2x2x511x64, .f32⟩
  | 3 => ⟨S2x2x511x64, .f32⟩
  | 4 => ⟨S2x8192x2x64, .f32⟩
  | 5 => ⟨S2x8192x2x64, .f32⟩
  | 6 => ⟨S2x8192x2x64, .f32⟩
  | 7 => ⟨S2x8192x2x64, .f32⟩
  | 8 => ⟨S32x8, .f32⟩
  | 9 => ⟨S2x64x128x2x4x64, .f32⟩
  | 10 => ⟨S2x64x2x64x4x128, .f32⟩
  | 11 => ⟨S2x64x2x64x512, .f32⟩
  | 12 => ⟨S2x64x128x2x12, .f32⟩
  | 13 => ⟨S2x64x2x12x128, .f32⟩
  | 14 => ⟨S_, .i32⟩
  | 15 => ⟨S_, .f32⟩
  | 16 => ⟨S2x64x2x16x128, .f32⟩
  | 17 => ⟨S_, .i32⟩
  | 18 => ⟨S_, .f32⟩
  | 19 => ⟨S2x2x512x64, .f32⟩
  | 20 => ⟨S2x2x512x64, .bf16⟩
  | 21 => ⟨S_, .i32⟩
  | 22 => ⟨S_, .f32⟩
  | 23 => ⟨S2x2x512x64, .f32⟩
  | 24 => ⟨S2x2x512x64, .bf16⟩
  | 25 => ⟨S2x2x64x512, .bf16⟩
  | 26 => ⟨S2x2x16x512, .i32⟩
  | 27 => ⟨S_, .i32⟩
  | 28 => ⟨S2x2x16x512, .i32⟩
  | 29 => ⟨S2x2x16x512, .i1⟩
  | 30 => ⟨S_, .f32⟩
  | 31 => ⟨S_, .f32⟩
  | 32 => ⟨S2x2x16x512, .f32⟩
  | 33 => ⟨S2x2x16x512, .f32⟩
  | 34 => ⟨S2x2x16x512, .f32⟩
  | 35 => ⟨S2x2x16x512, .bf16⟩
  | 36 => ⟨S2x2x80x512, .bf16⟩
  | 37 => ⟨S2x2x8192x192, .i32⟩
  | 38 => ⟨S2x2x8192x192, .i32⟩
  | 39 => ⟨S_, .i32⟩
  | 40 => ⟨S2x2x8192x192, .i32⟩
  | 41 => ⟨S2x2x8192x192, .i32⟩
  | 42 => ⟨S2x2x8192x192, .i32⟩
  | 43 => ⟨S_, .i32⟩
  | 44 => ⟨S2x2x8192x192, .i32⟩
  | 45 => ⟨S2x2x8192x192, .i1⟩
  | 46 => ⟨S_, .i32⟩
  | 47 => ⟨S2x2x8192x192, .i32⟩
  | 48 => ⟨S2x2x8192x192, .i1⟩
  | 49 => ⟨S2x2x8192x192, .i1⟩
  | 50 => ⟨S_, .f32⟩
  | 51 => ⟨S_, .f32⟩
  | 52 => ⟨S2x2x8192x192, .f32⟩
  | 53 => ⟨S2x2x8192x192, .f32⟩
  | 54 => ⟨S2x2x8192x192, .f32⟩
  | 55 => ⟨S2x2x8192x192, .bf16⟩
  | 56 => ⟨S2x8192x2x64, .bf16⟩
  | 57 => ⟨S2x2x8192x64, .bf16⟩
  | 58 => ⟨S2x2x8192x256, .bf16⟩
  | 59 => ⟨S2x8192x2x64, .bf16⟩
  | 60 => ⟨S2x16x512x2x64, .bf16⟩
  | 61 => ⟨S2x2x16x64x512, .bf16⟩
  | 62 => ⟨S2x2x16x16x512, .i32⟩
  | 63 => ⟨S_, .i32⟩
  | 64 => ⟨S2x2x16x16x512, .i32⟩
  | 65 => ⟨S2x2x16x16x512, .i1⟩
  | 66 => ⟨S_, .f32⟩
  | 67 => ⟨S_, .f32⟩
  | 68 => ⟨S2x2x16x16x512, .f32⟩
  | 69 => ⟨S2x2x16x16x512, .f32⟩
  | 70 => ⟨S2x2x16x16x512, .f32⟩
  | 71 => ⟨S2x2x16x16x512, .bf16⟩
  | 72 => ⟨S2x2x16x80x512, .bf16⟩
  | 73 => ⟨S2x8192x2x64, .bf16⟩
  | 74 => ⟨S2x2x8192x64, .bf16⟩
  | 75 => ⟨S2x8192x2x64, .bf16⟩
  | 76 => ⟨S2x64x128x2x64, .bf16⟩
  | 77 => ⟨S2x2x64x64x128, .bf16⟩
  | 78 => ⟨S2x2x64x16x128, .i32⟩
  | 79 => ⟨S_, .i32⟩
  | 80 => ⟨S2x2x64x16x128, .i32⟩
  | 81 => ⟨S2x2x64x16x128, .i1⟩
  | 82 => ⟨S_, .f32⟩
  | 83 => ⟨S_, .f32⟩
  | 84 => ⟨S2x2x64x16x128, .f32⟩
  | 85 => ⟨S2x2x64x16x128, .f32⟩
  | 86 => ⟨S2x2x64x16x128, .f32⟩
  | 87 => ⟨S2x2x64x16x128, .bf16⟩
  | 88 => ⟨S2x2x64x80x128, .bf16⟩
  | 89 => ⟨S18x128x128, .i32⟩
  | 90 => ⟨S18x128x128, .i32⟩
  | 91 => ⟨S18x128x128, .i32⟩
  | 92 => ⟨S_, .i32⟩
  | 93 => ⟨S18x128x128, .i32⟩
  | 94 => ⟨S18x128x128, .i32⟩
  | 95 => ⟨S18x128x128, .i32⟩
  | 96 => ⟨S_, .i32⟩
  | 97 => ⟨S18x128x128, .i32⟩
  | 98 => ⟨S18x128x128, .i32⟩
  | 99 => ⟨S18x128x128, .i32⟩
  | 100 => ⟨S_, .i32⟩
  | 101 => ⟨S18x128x128, .i32⟩
  | 102 => ⟨S18x128x128, .i32⟩
  | 103 => ⟨S_, .i32⟩
  | 104 => ⟨S18x128x128, .i32⟩
  | 105 => ⟨S18x128x128, .i1⟩
  | 106 => ⟨S_, .i32⟩
  | 107 => ⟨S18x128x128, .i32⟩
  | 108 => ⟨S18x128x128, .i1⟩
  | 109 => ⟨S18x128x128, .i1⟩
  | 110 => ⟨S8x32, .f32⟩
  | 111 => ⟨S_, .i32⟩
  | 112 => ⟨S18x128x128, .i32⟩
  | 113 => ⟨S18x128x128, .i32⟩
  | 114 => ⟨S_, .i32⟩
  | 115 => ⟨S18x128x128, .i32⟩
  | 116 => ⟨S18x128x128, .i32⟩
  | 117 => ⟨S18x128x128, .f32⟩
  | 118 => ⟨S_, .f32⟩
  | 119 => ⟨S18x128x128, .f32⟩
  | 120 => ⟨S18x128x128, .f32⟩
  | 121 => ⟨S18x128x128, .f32⟩
  | 122 => ⟨S_, .f32⟩
  | 123 => ⟨S18x128x128, .f32⟩
  | 124 => ⟨S18x128x128, .f32⟩
  | 125 => ⟨S_, .f32⟩
  | 126 => ⟨S18x128x128, .f32⟩
  | 127 => ⟨S18x128x128, .f32⟩
  | _ => ⟨S2x8192x8x64, .f32⟩

abbrev hbmTy0_1 (i : Nat) : BufTy := match i % 128 with
  | 0 => ⟨S18x128x128, .i32⟩
  | 1 => ⟨S_, .i32⟩
  | 2 => ⟨S18x128x128, .i32⟩
  | 3 => ⟨S18x128x128, .i32⟩
  | 4 => ⟨S_, .i32⟩
  | 5 => ⟨S18x128x128, .i32⟩
  | 6 => ⟨S18x128x128, .i32⟩
  | 7 => ⟨S_, .i32⟩
  | 8 => ⟨S18x128x128, .i32⟩
  | 9 => ⟨S18x128x128, .i1⟩
  | 10 => ⟨S18x128x128, .i32⟩
  | 11 => ⟨S_, .i32⟩
  | 12 => ⟨S18x128x128, .i32⟩
  | 13 => ⟨S18x128x128, .i1⟩
  | 14 => ⟨S_, .i32⟩
  | 15 => ⟨S18x128x128, .i32⟩
  | 16 => ⟨S18x128x128, .i32⟩
  | 17 => ⟨S18x128x128, .i32⟩
  | 18 => ⟨S18x128x128x1, .i32⟩
  | 19 => ⟨S8x18x128x128, .f32⟩
  | 20 => ⟨S1x18x128x128, .i1⟩
  | 21 => ⟨S_, .f32⟩
  | 22 => ⟨S_, .f32⟩
  | 23 => ⟨S8x18x128x128, .i1⟩
  | 24 => ⟨S8x18x128x128, .f32⟩
  | 25 => ⟨S8x18x128x128, .f32⟩
  | 26 => ⟨S2x4x18x128x128, .f32⟩
  | 27 => ⟨S2x18x128x4x128, .f32⟩
  | 28 => ⟨S2x18x128x512, .f32⟩
  | 29 => ⟨S5x128x128, .i32⟩
  | 30 => ⟨S5x128x128, .i32⟩
  | 31 => ⟨S5x128x128, .i32⟩
  | 32 => ⟨S_, .i32⟩
  | 33 => ⟨S5x128x128, .i32⟩
  | 34 => ⟨S5x128x128, .i32⟩
  | 35 => ⟨S5x128x128, .i32⟩
  | 36 => ⟨S_, .i32⟩
  | 37 => ⟨S5x128x128, .i32⟩
  | 38 => ⟨S5x128x128, .i32⟩
  | 39 => ⟨S5x128x128, .i32⟩
  | 40 => ⟨S_, .i32⟩
  | 41 => ⟨S5x128x128, .i32⟩
  | 42 => ⟨S5x128x128, .i32⟩
  | 43 => ⟨S_, .i32⟩
  | 44 => ⟨S5x128x128, .i32⟩
  | 45 => ⟨S5x128x128, .i1⟩
  | 46 => ⟨S_, .i32⟩
  | 47 => ⟨S5x128x128, .i32⟩
  | 48 => ⟨S5x128x128, .i1⟩
  | 49 => ⟨S5x128x128, .i1⟩
  | 50 => ⟨S8x32, .f32⟩
  | 51 => ⟨S_, .i32⟩
  | 52 => ⟨S5x128x128, .i32⟩
  | 53 => ⟨S5x128x128, .i32⟩
  | 54 => ⟨S_, .i32⟩
  | 55 => ⟨S5x128x128, .i32⟩
  | 56 => ⟨S5x128x128, .i32⟩
  | 57 => ⟨S5x128x128, .f32⟩
  | 58 => ⟨S_, .f32⟩
  | 59 => ⟨S5x128x128, .f32⟩
  | 60 => ⟨S5x128x128, .f32⟩
  | 61 => ⟨S5x128x128, .f32⟩
  | 62 => ⟨S_, .f32⟩
  | 63 => ⟨S5x128x128, .f32⟩
  | 64 => ⟨S5x128x128, .f32⟩
  | 65 => ⟨S_, .f32⟩
  | 66 => ⟨S5x128x128, .f32⟩
  | 67 => ⟨S5x128x128, .f32⟩
  | 68 => ⟨S5x128x128, .i32⟩
  | 69 => ⟨S_, .i32⟩
  | 70 => ⟨S5x128x128, .i32⟩
  | 71 => ⟨S5x128x128, .i32⟩
  | 72 => ⟨S_, .i32⟩
  | 73 => ⟨S5x128x128, .i32⟩
  | 74 => ⟨S5x128x128, .i32⟩
  | 75 => ⟨S_, .i32⟩
  | 76 => ⟨S5x128x128, .i32⟩
  | 77 => ⟨S5x128x128, .i1⟩
  | 78 => ⟨S5x128x128, .i32⟩
  | 79 => ⟨S_, .i32⟩
  | 80 => ⟨S5x128x128, .i32⟩
  | 81 => ⟨S5x128x128, .i1⟩
  | 82 => ⟨S_, .i32⟩
  | 83 => ⟨S5x128x128, .i32⟩
  | 84 => ⟨S5x128x128, .i32⟩
  | 85 => ⟨S5x128x128, .i32⟩
  | 86 => ⟨S5x128x128x1, .i32⟩
  | 87 => ⟨S8x5x128x128, .f32⟩
  | 88 => ⟨S1x5x128x128, .i1⟩
  | 89 => ⟨S_, .f32⟩
  | 90 => ⟨S_, .f32⟩
  | 91 => ⟨S8x5x128x128, .i1⟩
  | 92 => ⟨S8x5x128x128, .f32⟩
  | 93 => ⟨S8x5x128x128, .f32⟩
  | 94 => ⟨S2x4x5x128x128, .f32⟩
  | 95 => ⟨S2x5x128x4x128, .f32⟩
  | 96 => ⟨S2x5x128x512, .f32⟩
  | 97 => ⟨S2x1x128x512, .f32⟩
  | 98 => ⟨S19x8x128, .i32⟩
  | 99 => ⟨S19x8x128, .i32⟩
  | 100 => ⟨S19x8x128, .i32⟩
  | 101 => ⟨S_, .i32⟩
  | 102 => ⟨S19x8x128, .i32⟩
  | 103 => ⟨S19x8x128, .i32⟩
  | 104 => ⟨S19x8x128, .i32⟩
  | 105 => ⟨S_, .i32⟩
  | 106 => ⟨S19x8x128, .i32⟩
  | 107 => ⟨S19x8x128, .i32⟩
  | 108 => ⟨S19x8x128, .i32⟩
  | 109 => ⟨S_, .i32⟩
  | 110 => ⟨S19x8x128, .i32⟩
  | 111 => ⟨S19x8x128, .i32⟩
  | 112 => ⟨S_, .i32⟩
  | 113 => ⟨S19x8x128, .i32⟩
  | 114 => ⟨S19x8x128, .i1⟩
  | 115 => ⟨S_, .i32⟩
  | 116 => ⟨S19x8x128, .i32⟩
  | 117 => ⟨S19x8x128, .i1⟩
  | 118 => ⟨S19x8x128, .i1⟩
  | 119 => ⟨S8x32, .f32⟩
  | 120 => ⟨S_, .i32⟩
  | 121 => ⟨S19x8x128, .i32⟩
  | 122 => ⟨S19x8x128, .i32⟩
  | 123 => ⟨S_, .i32⟩
  | 124 => ⟨S19x8x128, .i32⟩
  | 125 => ⟨S19x8x128, .i32⟩
  | 126 => ⟨S19x8x128, .f32⟩
  | 127 => ⟨S_, .f32⟩
  | _ => ⟨S2x8192x8x64, .f32⟩

abbrev hbmTy0_2 (i : Nat) : BufTy := match i % 128 with
  | 0 => ⟨S19x8x128, .f32⟩
  | 1 => ⟨S19x8x128, .f32⟩
  | 2 => ⟨S19x8x128, .f32⟩
  | 3 => ⟨S_, .f32⟩
  | 4 => ⟨S19x8x128, .f32⟩
  | 5 => ⟨S19x8x128, .f32⟩
  | 6 => ⟨S_, .f32⟩
  | 7 => ⟨S19x8x128, .f32⟩
  | 8 => ⟨S19x8x128, .f32⟩
  | 9 => ⟨S19x8x128, .i32⟩
  | 10 => ⟨S_, .i32⟩
  | 11 => ⟨S19x8x128, .i32⟩
  | 12 => ⟨S19x8x128, .i32⟩
  | 13 => ⟨S_, .i32⟩
  | 14 => ⟨S19x8x128, .i32⟩
  | 15 => ⟨S19x8x128, .i32⟩
  | 16 => ⟨S_, .i32⟩
  | 17 => ⟨S19x8x128, .i32⟩
  | 18 => ⟨S19x8x128, .i1⟩
  | 19 => ⟨S19x8x128, .i32⟩
  | 20 => ⟨S_, .i32⟩
  | 21 => ⟨S19x8x128, .i32⟩
  | 22 => ⟨S19x8x128, .i1⟩
  | 23 => ⟨S_, .i32⟩
  | 24 => ⟨S19x8x128, .i32⟩
  | 25 => ⟨S19x8x128, .i32⟩
  | 26 => ⟨S19x8x128, .i32⟩
  | 27 => ⟨S19x8x128x1, .i32⟩
  | 28 => ⟨S8x19x8x128, .f32⟩
  | 29 => ⟨S1x19x8x128, .i1⟩
  | 30 => ⟨S_, .f32⟩
  | 31 => ⟨S_, .f32⟩
  | 32 => ⟨S8x19x8x128, .i1⟩
  | 33 => ⟨S8x19x8x128, .f32⟩
  | 34 => ⟨S8x19x8x128, .f32⟩
  | 35 => ⟨S2x4x19x8x128, .f32⟩
  | 36 => ⟨S2x19x8x4x128, .f32⟩
  | 37 => ⟨S2x19x8x512, .f32⟩
  | 38 => ⟨S_, .f32⟩
  | 39 => ⟨S2x1x128x512, .f32⟩
  | 40 => ⟨S_, .f32⟩
  | 41 => ⟨S2x1x8x512, .f32⟩
  | 42 => ⟨S2x20x128x512, .f32⟩
  | 43 => ⟨S2x20x8x512, .f32⟩
  | 44 => ⟨S128x512, .i32⟩
  | 45 => ⟨S_, .i32⟩
  | 46 => ⟨S128x512, .i32⟩
  | 47 => ⟨S128x512, .i32⟩
  | 48 => ⟨S128x512, .i32⟩
  | 49 => ⟨S_, .i32⟩
  | 50 => ⟨S128x512, .i32⟩
  | 51 => ⟨S128x512, .i32⟩
  | 52 => ⟨S_, .i32⟩
  | 53 => ⟨S128x512, .i32⟩
  | 54 => ⟨S128x512, .i32⟩
  | 55 => ⟨S128x512, .i1⟩
  | 56 => ⟨S_, .i32⟩
  | 57 => ⟨S128x512, .i32⟩
  | 58 => ⟨S128x512, .i32⟩
  | 59 => ⟨S_, .i32⟩
  | 60 => ⟨S128x512, .i32⟩
  | 61 => ⟨S128x512, .i32⟩
  | 62 => ⟨S128x512, .i1⟩
  | 63 => ⟨S128x512, .i1⟩
  | 64 => ⟨S_, .i32⟩
  | 65 => ⟨S128x512, .i32⟩
  | 66 => ⟨S128x512, .i1⟩
  | 67 => ⟨S128x512, .i1⟩
  | 68 => ⟨S_, .f32⟩
  | 69 => ⟨S_, .f32⟩
  | 70 => ⟨S128x512, .f32⟩
  | 71 => ⟨S128x512, .f32⟩
  | 72 => ⟨S128x512, .f32⟩
  | 73 => ⟨S128x512, .bf16⟩
  | 74 => ⟨S2x64x512x128, .bf16⟩
  | _ => ⟨S2x8192x8x64, .f32⟩

abbrev hbmTy (i : Nat) : BufTy := match i / 128 with
  | 0 => hbmTy0_0 i
  | 1 => hbmTy0_1 i
  | 2 => hbmTy0_2 i
  | _ => ⟨S2x8192x8x64, .f32⟩

abbrev bufTy : (tb : Table) → Fin (tcTables nBuf tb) → BufTy
  | .hbm, ⟨i, _⟩ => hbmTy i
  | .local _ .vmem, ⟨0, _⟩ => ⟨S1x1x2x64x512, .f32⟩
  | .local _ .vmem, ⟨1, _⟩ => ⟨S1x1x2x64x512, .f32⟩
  | .local _ .vmem, ⟨2, _⟩ => ⟨S1x1x2x16x128, .f32⟩
  | .local _ .vmem, ⟨3, _⟩ => ⟨S1x1x2x16x128, .f32⟩
  | .local _ .vmem, ⟨4, _⟩ => ⟨S2x20x128x512, .f32⟩
  | .local _ .vmem, ⟨5, _⟩ => ⟨S1x2x512x64, .bf16⟩
  | .local _ .vmem, ⟨6, _⟩ => ⟨S1x2x80x512, .bf16⟩
  | .local _ .vmem, ⟨7, _⟩ => ⟨S1x2x8192x256, .bf16⟩
  | .local _ .vmem, ⟨8, _⟩ => ⟨S1x2x16x80x512, .bf16⟩
  | .local _ .vmem, ⟨9, _⟩ => ⟨S1x2x8192x64, .bf16⟩
  | .local _ .vmem, ⟨10, _⟩ => ⟨S1x2x64x80x128, .bf16⟩
  | .local _ .vmem, ⟨11, _⟩ => ⟨S2x20x8x512, .f32⟩
  | .local _ .vmem, ⟨12, _⟩ => ⟨S128x512, .bf16⟩
  | .local _ .vmem, ⟨13, _⟩ => ⟨S1x1x512x128, .bf16⟩
  | .local _ .vmem, ⟨14, _⟩ => ⟨S1x1x512x128, .bf16⟩
  | .local _ .vmem, ⟨15, _⟩ => ⟨S2x256x512, .bf16⟩
  | .local _ .vmem, ⟨16, _⟩ => ⟨S2x512x512, .f32⟩
  | .local _ .vmem, ⟨17, _⟩ => ⟨S2x512x512, .bf16⟩
  | _, _ => ⟨S2x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_c_0 : Ref sig .tc := ⟨.hbm, 17, rfl⟩
abbrev main_call1_v0 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_call2_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_cst_3 : Ref sig .tc := ⟨.hbm, 31, rfl⟩
abbrev main_call3_v0 : Ref sig .tc := ⟨.hbm, 32, rfl⟩
abbrev main_call3_v1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_5 : Ref sig .tc := ⟨.hbm, 43, rfl⟩
abbrev main_v22 : Ref sig .tc := ⟨.hbm, 44, rfl⟩
abbrev main_v23 : Ref sig .tc := ⟨.hbm, 45, rfl⟩
abbrev main_c_6 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_7 : Ref sig .tc := ⟨.hbm, 50, rfl⟩
abbrev main_cst_8 : Ref sig .tc := ⟨.hbm, 51, rfl⟩
abbrev main_call4_v0 : Ref sig .tc := ⟨.hbm, 52, rfl⟩
abbrev main_call4_v1 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_c_9 : Ref sig .tc := ⟨.hbm, 63, rfl⟩
abbrev main_v36 : Ref sig .tc := ⟨.hbm, 64, rfl⟩
abbrev main_v37 : Ref sig .tc := ⟨.hbm, 65, rfl⟩
abbrev main_cst_10 : Ref sig .tc := ⟨.hbm, 66, rfl⟩
abbrev main_cst_11 : Ref sig .tc := ⟨.hbm, 67, rfl⟩
abbrev main_call5_v0 : Ref sig .tc := ⟨.hbm, 68, rfl⟩
abbrev main_call5_v1 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_c_12 : Ref sig .tc := ⟨.hbm, 79, rfl⟩
abbrev main_v47 : Ref sig .tc := ⟨.hbm, 80, rfl⟩
abbrev main_v48 : Ref sig .tc := ⟨.hbm, 81, rfl⟩
abbrev main_cst_13 : Ref sig .tc := ⟨.hbm, 82, rfl⟩
abbrev main_cst_14 : Ref sig .tc := ⟨.hbm, 83, rfl⟩
abbrev main_call6_v0 : Ref sig .tc := ⟨.hbm, 84, rfl⟩
abbrev main_call6_v1 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_c_15 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_c_16 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_c_17 : Ref sig .tc := ⟨.hbm, 100, rfl⟩
abbrev main_v61 : Ref sig .tc := ⟨.hbm, 101, rfl⟩
abbrev main_v62 : Ref sig .tc := ⟨.hbm, 102, rfl⟩
abbrev main_c_18 : Ref sig .tc := ⟨.hbm, 103, rfl⟩
abbrev main_v63 : Ref sig .tc := ⟨.hbm, 104, rfl⟩
abbrev main_v64 : Ref sig .tc := ⟨.hbm, 105, rfl⟩
abbrev main_c_19 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_c_20 : Ref sig .tc := ⟨.hbm, 111, rfl⟩
abbrev main_v69 : Ref sig .tc := ⟨.hbm, 112, rfl⟩
abbrev main_v70 : Ref sig .tc := ⟨.hbm, 113, rfl⟩
abbrev main_c_21 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_cst_22 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_23 : Ref sig .tc := ⟨.hbm, 122, rfl⟩
abbrev main_v77 : Ref sig .tc := ⟨.hbm, 123, rfl⟩
abbrev main_v78 : Ref sig .tc := ⟨.hbm, 124, rfl⟩
abbrev main_cst_24 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_c_25 : Ref sig .tc := ⟨.hbm, 129, rfl⟩
abbrev main_v82 : Ref sig .tc := ⟨.hbm, 130, rfl⟩
abbrev main_v83 : Ref sig .tc := ⟨.hbm, 131, rfl⟩
abbrev main_c_26 : Ref sig .tc := ⟨.hbm, 132, rfl⟩
abbrev main_v84 : Ref sig .tc := ⟨.hbm, 133, rfl⟩
abbrev main_v85 : Ref sig .tc := ⟨.hbm, 134, rfl⟩
abbrev main_c_27 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_c_28 : Ref sig .tc := ⟨.hbm, 139, rfl⟩
abbrev main_v89 : Ref sig .tc := ⟨.hbm, 140, rfl⟩
abbrev main_v90 : Ref sig .tc := ⟨.hbm, 141, rfl⟩
abbrev main_c_29 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_cst_30 : Ref sig .tc := ⟨.hbm, 149, rfl⟩
abbrev main_call8_v0 : Ref sig .tc := ⟨.hbm, 150, rfl⟩
abbrev main_call8_v1 : Ref sig .tc := ⟨.hbm, 151, rfl⟩
abbrev main_call8_v2 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_c_31 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_c_32 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_c_33 : Ref sig .tc := ⟨.hbm, 168, rfl⟩
abbrev main_v110 : Ref sig .tc := ⟨.hbm, 169, rfl⟩
abbrev main_v111 : Ref sig .tc := ⟨.hbm, 170, rfl⟩
abbrev main_c_34 : Ref sig .tc := ⟨.hbm, 171, rfl⟩
abbrev main_v112 : Ref sig .tc := ⟨.hbm, 172, rfl⟩
abbrev main_v113 : Ref sig .tc := ⟨.hbm, 173, rfl⟩
abbrev main_c_35 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_c_36 : Ref sig .tc := ⟨.hbm, 179, rfl⟩
abbrev main_v118 : Ref sig .tc := ⟨.hbm, 180, rfl⟩
abbrev main_v119 : Ref sig .tc := ⟨.hbm, 181, rfl⟩
abbrev main_c_37 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_cst_38 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_cst_39 : Ref sig .tc := ⟨.hbm, 190, rfl⟩
abbrev main_v126 : Ref sig .tc := ⟨.hbm, 191, rfl⟩
abbrev main_v127 : Ref sig .tc := ⟨.hbm, 192, rfl⟩
abbrev main_cst_40 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_c_41 : Ref sig .tc := ⟨.hbm, 197, rfl⟩
abbrev main_v131 : Ref sig .tc := ⟨.hbm, 198, rfl⟩
abbrev main_v132 : Ref sig .tc := ⟨.hbm, 199, rfl⟩
abbrev main_c_42 : Ref sig .tc := ⟨.hbm, 200, rfl⟩
abbrev main_v133 : Ref sig .tc := ⟨.hbm, 201, rfl⟩
abbrev main_v134 : Ref sig .tc := ⟨.hbm, 202, rfl⟩
abbrev main_c_43 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_c_44 : Ref sig .tc := ⟨.hbm, 207, rfl⟩
abbrev main_v138 : Ref sig .tc := ⟨.hbm, 208, rfl⟩
abbrev main_v139 : Ref sig .tc := ⟨.hbm, 209, rfl⟩
abbrev main_c_45 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_cst_46 : Ref sig .tc := ⟨.hbm, 217, rfl⟩
abbrev main_call10_v0 : Ref sig .tc := ⟨.hbm, 218, rfl⟩
abbrev main_call10_v1 : Ref sig .tc := ⟨.hbm, 219, rfl⟩
abbrev main_call10_v2 : Ref sig .tc := ⟨.hbm, 220, rfl⟩
abbrev main_v146 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_v153 : Ref sig .tc := ⟨.hbm, 228, rfl⟩
abbrev main_c_47 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_c_48 : Ref sig .tc := ⟨.hbm, 233, rfl⟩
abbrev main_v157 : Ref sig .tc := ⟨.hbm, 234, rfl⟩
abbrev main_v158 : Ref sig .tc := ⟨.hbm, 235, rfl⟩
abbrev main_v159 : Ref sig .tc := ⟨.hbm, 236, rfl⟩
abbrev main_c_49 : Ref sig .tc := ⟨.hbm, 237, rfl⟩
abbrev main_v160 : Ref sig .tc := ⟨.hbm, 238, rfl⟩
abbrev main_v161 : Ref sig .tc := ⟨.hbm, 239, rfl⟩
abbrev main_c_50 : Ref sig .tc := ⟨.hbm, 240, rfl⟩
abbrev main_v162 : Ref sig .tc := ⟨.hbm, 241, rfl⟩
abbrev main_v163 : Ref sig .tc := ⟨.hbm, 242, rfl⟩
abbrev main_c_51 : Ref sig .tc := ⟨.hbm, 243, rfl⟩
abbrev main_v164 : Ref sig .tc := ⟨.hbm, 244, rfl⟩
abbrev main_v165 : Ref sig .tc := ⟨.hbm, 245, rfl⟩
abbrev main_v166 : Ref sig .tc := ⟨.hbm, 246, rfl⟩
abbrev main_v167 : Ref sig .tc := ⟨.hbm, 247, rfl⟩
abbrev main_c_52 : Ref sig .tc := ⟨.hbm, 248, rfl⟩
abbrev main_v168 : Ref sig .tc := ⟨.hbm, 249, rfl⟩
abbrev main_v169 : Ref sig .tc := ⟨.hbm, 250, rfl⟩
abbrev main_c_53 : Ref sig .tc := ⟨.hbm, 251, rfl⟩
abbrev main_v170 : Ref sig .tc := ⟨.hbm, 252, rfl⟩
abbrev main_v171 : Ref sig .tc := ⟨.hbm, 253, rfl⟩
abbrev main_v172 : Ref sig .tc := ⟨.hbm, 254, rfl⟩
abbrev main_cst_54 : Ref sig .tc := ⟨.hbm, 255, rfl⟩
abbrev main_v173 : Ref sig .tc := ⟨.hbm, 256, rfl⟩
abbrev main_v174 : Ref sig .tc := ⟨.hbm, 257, rfl⟩
abbrev main_v175 : Ref sig .tc := ⟨.hbm, 258, rfl⟩
abbrev main_cst_55 : Ref sig .tc := ⟨.hbm, 259, rfl⟩
abbrev main_v176 : Ref sig .tc := ⟨.hbm, 260, rfl⟩
abbrev main_v177 : Ref sig .tc := ⟨.hbm, 261, rfl⟩
abbrev main_cst_56 : Ref sig .tc := ⟨.hbm, 262, rfl⟩
abbrev main_v178 : Ref sig .tc := ⟨.hbm, 263, rfl⟩
abbrev main_v179 : Ref sig .tc := ⟨.hbm, 264, rfl⟩
abbrev main_v180 : Ref sig .tc := ⟨.hbm, 265, rfl⟩
abbrev main_c_57 : Ref sig .tc := ⟨.hbm, 266, rfl⟩
abbrev main_v181 : Ref sig .tc := ⟨.hbm, 267, rfl⟩
abbrev main_v182 : Ref sig .tc := ⟨.hbm, 268, rfl⟩
abbrev main_c_58 : Ref sig .tc := ⟨.hbm, 269, rfl⟩
abbrev main_v183 : Ref sig .tc := ⟨.hbm, 270, rfl⟩
abbrev main_v184 : Ref sig .tc := ⟨.hbm, 271, rfl⟩
abbrev main_c_59 : Ref sig .tc := ⟨.hbm, 272, rfl⟩
abbrev main_v185 : Ref sig .tc := ⟨.hbm, 273, rfl⟩
abbrev main_v186 : Ref sig .tc := ⟨.hbm, 274, rfl⟩
abbrev main_v187 : Ref sig .tc := ⟨.hbm, 275, rfl⟩
abbrev main_c_60 : Ref sig .tc := ⟨.hbm, 276, rfl⟩
abbrev main_v188 : Ref sig .tc := ⟨.hbm, 277, rfl⟩
abbrev main_v189 : Ref sig .tc := ⟨.hbm, 278, rfl⟩
abbrev main_c_61 : Ref sig .tc := ⟨.hbm, 279, rfl⟩
abbrev main_v190 : Ref sig .tc := ⟨.hbm, 280, rfl⟩
abbrev main_v191 : Ref sig .tc := ⟨.hbm, 281, rfl⟩
abbrev main_v192 : Ref sig .tc := ⟨.hbm, 282, rfl⟩
abbrev main_v193 : Ref sig .tc := ⟨.hbm, 283, rfl⟩
abbrev main_v194 : Ref sig .tc := ⟨.hbm, 284, rfl⟩
abbrev main_v195 : Ref sig .tc := ⟨.hbm, 285, rfl⟩
abbrev main_cst_62 : Ref sig .tc := ⟨.hbm, 286, rfl⟩
abbrev main_call12_v0 : Ref sig .tc := ⟨.hbm, 287, rfl⟩
abbrev main_call12_v1 : Ref sig .tc := ⟨.hbm, 288, rfl⟩
abbrev main_call12_v2 : Ref sig .tc := ⟨.hbm, 289, rfl⟩
abbrev main_v196 : Ref sig .tc := ⟨.hbm, 290, rfl⟩
abbrev main_v197 : Ref sig .tc := ⟨.hbm, 291, rfl⟩
abbrev main_v198 : Ref sig .tc := ⟨.hbm, 292, rfl⟩
abbrev main_v199 : Ref sig .tc := ⟨.hbm, 293, rfl⟩
abbrev main_cst_63 : Ref sig .tc := ⟨.hbm, 294, rfl⟩
abbrev main_v200 : Ref sig .tc := ⟨.hbm, 295, rfl⟩
abbrev main_cst_64 : Ref sig .tc := ⟨.hbm, 296, rfl⟩
abbrev main_v201 : Ref sig .tc := ⟨.hbm, 297, rfl⟩
abbrev main_v202 : Ref sig .tc := ⟨.hbm, 298, rfl⟩
abbrev main_v203 : Ref sig .tc := ⟨.hbm, 299, rfl⟩
abbrev main_v204 : Ref sig .tc := ⟨.hbm, 300, rfl⟩
abbrev main_c_65 : Ref sig .tc := ⟨.hbm, 301, rfl⟩
abbrev main_v205 : Ref sig .tc := ⟨.hbm, 302, rfl⟩
abbrev main_v206 : Ref sig .tc := ⟨.hbm, 303, rfl⟩
abbrev main_v207 : Ref sig .tc := ⟨.hbm, 304, rfl⟩
abbrev main_c_66 : Ref sig .tc := ⟨.hbm, 305, rfl⟩
abbrev main_v208 : Ref sig .tc := ⟨.hbm, 306, rfl⟩
abbrev main_v209 : Ref sig .tc := ⟨.hbm, 307, rfl⟩
abbrev main_c_67 : Ref sig .tc := ⟨.hbm, 308, rfl⟩
abbrev main_v210 : Ref sig .tc := ⟨.hbm, 309, rfl⟩
abbrev main_v211 : Ref sig .tc := ⟨.hbm, 310, rfl⟩
abbrev main_v212 : Ref sig .tc := ⟨.hbm, 311, rfl⟩
abbrev main_c_68 : Ref sig .tc := ⟨.hbm, 312, rfl⟩
abbrev main_v213 : Ref sig .tc := ⟨.hbm, 313, rfl⟩
abbrev main_v214 : Ref sig .tc := ⟨.hbm, 314, rfl⟩
abbrev main_c_69 : Ref sig .tc := ⟨.hbm, 315, rfl⟩
abbrev main_v215 : Ref sig .tc := ⟨.hbm, 316, rfl⟩
abbrev main_v216 : Ref sig .tc := ⟨.hbm, 317, rfl⟩
abbrev main_v217 : Ref sig .tc := ⟨.hbm, 318, rfl⟩
abbrev main_v218 : Ref sig .tc := ⟨.hbm, 319, rfl⟩
abbrev main_c_70 : Ref sig .tc := ⟨.hbm, 320, rfl⟩
abbrev main_v219 : Ref sig .tc := ⟨.hbm, 321, rfl⟩
abbrev main_v220 : Ref sig .tc := ⟨.hbm, 322, rfl⟩
abbrev main_v221 : Ref sig .tc := ⟨.hbm, 323, rfl⟩
abbrev main_cst_71 : Ref sig .tc := ⟨.hbm, 324, rfl⟩
abbrev main_cst_72 : Ref sig .tc := ⟨.hbm, 325, rfl⟩
abbrev main_call13_v0 : Ref sig .tc := ⟨.hbm, 326, rfl⟩
abbrev main_call13_v1 : Ref sig .tc := ⟨.hbm, 327, rfl⟩
abbrev main_v222 : Ref sig .tc := ⟨.hbm, 328, rfl⟩
abbrev main_v223 : Ref sig .tc := ⟨.hbm, 329, rfl⟩
abbrev main_v224 : Ref sig .tc := ⟨.hbm, 330, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨2, ![2, 64], ![false, false]⟩

def k0_cond1 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let v0 : BitVec 32 := Scalar.divsi arg1 c16_i32
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.maxsi v16 c0_i32_4
  let c3_i32 : BitVec 32 := 3#32
  let v18 : BitVec 32 := Scalar.minsi v17 c3_i32
  let c0_i32_5 : BitVec 32 := 0#32
  let v19 : BitVec 1 := Scalar.cmpi .ne v18 c0_i32_5
  v19

def k0_cond2 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let v0 : BitVec 32 := Scalar.divsi arg1 c16_i32
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.maxsi v16 c0_i32_4
  let c3_i32 : BitVec 32 := 3#32
  let v18 : BitVec 32 := Scalar.minsi v17 c3_i32
  let c1_i32_172 : BitVec 32 := 1#32
  let v342 : BitVec 32 := Scalar.subi v18 c1_i32_172
  let c0_i32_173 : BitVec 32 := 0#32
  let v343 : BitVec 1 := Scalar.cmpi .ne v342 c0_i32_173
  v343

def k0_cond3 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let v0 : BitVec 32 := Scalar.divsi arg1 c16_i32
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.maxsi v16 c0_i32_4
  let c3_i32 : BitVec 32 := 3#32
  let v18 : BitVec 32 := Scalar.minsi v17 c3_i32
  let c1_i32_172 : BitVec 32 := 1#32
  let v342 : BitVec 32 := Scalar.subi v18 c1_i32_172
  let c1_i32_174 : BitVec 32 := 1#32
  let v345 : BitVec 32 := Scalar.subi v342 c1_i32_174
  let c0_i32_175 : BitVec 32 := 0#32
  let v346 : BitVec 1 := Scalar.cmpi .ne v345 c0_i32_175
  v346

def k0_off1 (i : grid0.Coords) (c0_i32_182 : BitVec 32) (c0_i32_183 : BitVec 32) : Fin 4 → Nat :=
  let c0_186 : Index := 0#32
  let arg1 : BitVec 32 := BitVec.ofNat 32 (i 1).val
  let v353 : BitVec 32 := Scalar.subi arg1 c0_i32_182
  let v354 : BitVec 32 := Scalar.subi v353 c0_i32_183
  let c0_i32_184 : BitVec 32 := 0#32
  let v355 : BitVec 1 := Scalar.cmpi .slt v354 c0_i32_184
  let c19_i32 : BitVec 32 := 19#32
  let c18_i32_185 : BitVec 32 := 18#32
  let v356 : BitVec 32 := Scalar.minsi v354 c18_i32_185
  let v357 : BitVec 32 := Scalar.select v355 c19_i32 v356
  let v358 : Index := Scalar.indexCast v357
  let c0_187 : Index := 0#32
  let c0_188 : Index := 0#32
  ![0, v358.toNat, 0, 0]
def k0_mult1 (i : grid0.Coords) : BitVec 32 :=
  let arg1 : BitVec 32 := BitVec.ofNat 32 (i 1).val
  let c4_i32_703 : BitVec 32 := 4#32
  let v914 : BitVec 32 := Scalar.subi arg1 c4_i32_703
  let c0_i32_704 : BitVec 32 := 0#32
  let v915 : BitVec 32 := Scalar.maxsi v914 c0_i32_704
  let c128_i32 : BitVec 32 := 128#32
  let v916 : BitVec 32 := Scalar.muli v915 c128_i32
  v916
def k0_off2 (i : grid0.Coords) (c0_i32_705 : BitVec 32) : Fin 4 → Nat :=
  let c0_710 : Index := 0#32
  let arg1 : BitVec 32 := BitVec.ofNat 32 (i 1).val
  let c4_i32_703 : BitVec 32 := 4#32
  let v914 : BitVec 32 := Scalar.subi arg1 c4_i32_703
  let c0_i32_704 : BitVec 32 := 0#32
  let v915 : BitVec 32 := Scalar.maxsi v914 c0_i32_704
  let v918 : BitVec 32 := Scalar.subi arg1 v915
  let v919 : BitVec 32 := Scalar.subi v918 c0_i32_705
  let c0_i32_706 : BitVec 32 := 0#32
  let v920 : BitVec 1 := Scalar.cmpi .slt v919 c0_i32_706
  let c18_i32_709 : BitVec 32 := 18#32
  let c4_i32_707 : BitVec 32 := 4#32
  let v921 : BitVec 1 := Scalar.cmpi .eq v919 c4_i32_707
  let c19_i32_708 : BitVec 32 := 19#32
  let v922 : BitVec 32 := Scalar.select v921 c19_i32_708 v919
  let v923 : BitVec 32 := Scalar.select v920 c18_i32_709 v922
  let v924 : Index := Scalar.indexCast v923
  let c0_711 : Index := 0#32
  let c0_712 : Index := 0#32
  ![0, v924.toNat, 0, 0]
def k0_off3 (i : grid0.Coords) (c0_i32_713 : BitVec 32) : Fin 5 → Nat :=
  let c0_714 : Index := 0#32
  let c0_715 : Index := 0#32
  let arg1 : BitVec 32 := BitVec.ofNat 32 (i 1).val
  let c4_i32_703 : BitVec 32 := 4#32
  let v914 : BitVec 32 := Scalar.subi arg1 c4_i32_703
  let c0_i32_704 : BitVec 32 := 0#32
  let v915 : BitVec 32 := Scalar.maxsi v914 c0_i32_704
  let v927 : BitVec 32 := Scalar.addi v915 c0_i32_713
  let v928 : Index := Scalar.indexCast v927
  let c0_716 : Index := 0#32
  let c0_717 : Index := 0#32
  ![0, 0, v928.toNat, 0, 0]
def k0_off4 (i : grid0.Coords) : Fin 4 → Nat :=
  let c0_770 : Index := 0#32
  let c0_771 : Index := 0#32
  let arg1 : BitVec 32 := BitVec.ofNat 32 (i 1).val
  let c4_i32_703 : BitVec 32 := 4#32
  let v914 : BitVec 32 := Scalar.subi arg1 c4_i32_703
  let c0_i32_704 : BitVec 32 := 0#32
  let v915 : BitVec 32 := Scalar.maxsi v914 c0_i32_704
  let c128_i32 : BitVec 32 := 128#32
  let v916 : BitVec 32 := Scalar.muli v915 c128_i32
  let v917 : BitVec 32 := v916
  let v983 : Index := Scalar.indexCast v917
  let c0_772 : Index := 0#32
  ![0, 0, v983.toNat, 0]
def k0_off5 (i : grid0.Coords) (c0_i32_879 : BitVec 32) (c0_i32_880 : BitVec 32) : Fin 4 → Nat :=
  let c1_884 : Index := 1#32
  let arg1 : BitVec 32 := BitVec.ofNat 32 (i 1).val
  let v1274 : BitVec 32 := Scalar.subi arg1 c0_i32_879
  let v1275 : BitVec 32 := Scalar.subi v1274 c0_i32_880
  let c0_i32_881 : BitVec 32 := 0#32
  let v1276 : BitVec 1 := Scalar.cmpi .slt v1275 c0_i32_881
  let c19_i32_883 : BitVec 32 := 19#32
  let c18_i32_882 : BitVec 32 := 18#32
  let v1277 : BitVec 32 := Scalar.minsi v1275 c18_i32_882
  let v1278 : BitVec 32 := Scalar.select v1276 c19_i32_883 v1277
  let v1279 : Index := Scalar.indexCast v1278
  let c0_885 : Index := 0#32
  let c0_886 : Index := 0#32
  ![1, v1279.toNat, 0, 0]
def k0_mult2 (i : grid0.Coords) : BitVec 32 :=
  let arg1 : BitVec 32 := BitVec.ofNat 32 (i 1).val
  let c4_i32_1414 : BitVec 32 := 4#32
  let v1835 : BitVec 32 := Scalar.subi arg1 c4_i32_1414
  let c0_i32_1415 : BitVec 32 := 0#32
  let v1836 : BitVec 32 := Scalar.maxsi v1835 c0_i32_1415
  let c128_i32_1416 : BitVec 32 := 128#32
  let v1837 : BitVec 32 := Scalar.muli v1836 c128_i32_1416
  v1837
def k0_off6 (i : grid0.Coords) (c0_i32_1417 : BitVec 32) : Fin 4 → Nat :=
  let c1_1422 : Index := 1#32
  let arg1 : BitVec 32 := BitVec.ofNat 32 (i 1).val
  let c4_i32_1414 : BitVec 32 := 4#32
  let v1835 : BitVec 32 := Scalar.subi arg1 c4_i32_1414
  let c0_i32_1415 : BitVec 32 := 0#32
  let v1836 : BitVec 32 := Scalar.maxsi v1835 c0_i32_1415
  let v1839 : BitVec 32 := Scalar.subi arg1 v1836
  let v1840 : BitVec 32 := Scalar.subi v1839 c0_i32_1417
  let c0_i32_1418 : BitVec 32 := 0#32
  let v1841 : BitVec 1 := Scalar.cmpi .slt v1840 c0_i32_1418
  let c18_i32_1421 : BitVec 32 := 18#32
  let c4_i32_1419 : BitVec 32 := 4#32
  let v1842 : BitVec 1 := Scalar.cmpi .eq v1840 c4_i32_1419
  let c19_i32_1420 : BitVec 32 := 19#32
  let v1843 : BitVec 32 := Scalar.select v1842 c19_i32_1420 v1840
  let v1844 : BitVec 32 := Scalar.select v1841 c18_i32_1421 v1843
  let v1845 : Index := Scalar.indexCast v1844
  let c0_1423 : Index := 0#32
  let c0_1424 : Index := 0#32
  ![1, v1845.toNat, 0, 0]
def k0_off7 (i : grid0.Coords) (c0_i32_1425 : BitVec 32) : Fin 5 → Nat :=
  let c0_1426 : Index := 0#32
  let c1_1427 : Index := 1#32
  let arg1 : BitVec 32 := BitVec.ofNat 32 (i 1).val
  let c4_i32_1414 : BitVec 32 := 4#32
  let v1835 : BitVec 32 := Scalar.subi arg1 c4_i32_1414
  let c0_i32_1415 : BitVec 32 := 0#32
  let v1836 : BitVec 32 := Scalar.maxsi v1835 c0_i32_1415
  let v1848 : BitVec 32 := Scalar.addi v1836 c0_i32_1425
  let v1849 : Index := Scalar.indexCast v1848
  let c0_1428 : Index := 0#32
  let c0_1429 : Index := 0#32
  ![0, 1, v1849.toNat, 0, 0]
def k0_off8 (i : grid0.Coords) : Fin 4 → Nat :=
  let c0_1482 : Index := 0#32
  let c1_1483 : Index := 1#32
  let arg1 : BitVec 32 := BitVec.ofNat 32 (i 1).val
  let c4_i32_1414 : BitVec 32 := 4#32
  let v1835 : BitVec 32 := Scalar.subi arg1 c4_i32_1414
  let c0_i32_1415 : BitVec 32 := 0#32
  let v1836 : BitVec 32 := Scalar.maxsi v1835 c0_i32_1415
  let c128_i32_1416 : BitVec 32 := 128#32
  let v1837 : BitVec 32 := Scalar.muli v1836 c128_i32_1416
  let v1838 : BitVec 32 := v1837
  let v1904 : Index := Scalar.indexCast v1838
  let c0_1484 : Index := 0#32
  ![0, 1, v1904.toNat, 0]
def k0_off9 (i : grid0.Coords) (c0_i32_182 : BitVec 32) (c0_i32_183 : BitVec 32) : Fin 4 → Nat :=
  let c0_186 : Index := 0#32
  let arg1 : BitVec 32 := BitVec.ofNat 32 (i 1).val
  let v353 : BitVec 32 := Scalar.subi arg1 c0_i32_182
  let v354 : BitVec 32 := Scalar.subi v353 c0_i32_183
  let c0_i32_184 : BitVec 32 := 0#32
  let v355 : BitVec 1 := Scalar.cmpi .slt v354 c0_i32_184
  let c19_i32 : BitVec 32 := 19#32
  let c18_i32_185 : BitVec 32 := 18#32
  let v356 : BitVec 32 := Scalar.minsi v354 c18_i32_185
  let v357 : BitVec 32 := Scalar.select v355 c19_i32 v356
  let v358 : Index := Scalar.indexCast v357
  let c0_187 : Index := 0#32
  let c0_188 : Index := 0#32
  ![0, v358.toNat, 0, 0]
def k0_mult3 (i : grid0.Coords) : BitVec 32 :=
  let arg1 : BitVec 32 := BitVec.ofNat 32 (i 1).val
  let c4_i32_575 : BitVec 32 := 4#32
  let v781 : BitVec 32 := Scalar.subi arg1 c4_i32_575
  let c0_i32_576 : BitVec 32 := 0#32
  let v782 : BitVec 32 := Scalar.maxsi v781 c0_i32_576
  let c128_i32 : BitVec 32 := 128#32
  let v783 : BitVec 32 := Scalar.muli v782 c128_i32
  v783
def k0_off10 (i : grid0.Coords) (c0_i32_577 : BitVec 32) : Fin 4 → Nat :=
  let c0_582 : Index := 0#32
  let arg1 : BitVec 32 := BitVec.ofNat 32 (i 1).val
  let c4_i32_575 : BitVec 32 := 4#32
  let v781 : BitVec 32 := Scalar.subi arg1 c4_i32_575
  let c0_i32_576 : BitVec 32 := 0#32
  let v782 : BitVec 32 := Scalar.maxsi v781 c0_i32_576
  let v785 : BitVec 32 := Scalar.subi arg1 v782
  let v786 : BitVec 32 := Scalar.subi v785 c0_i32_577
  let c0_i32_578 : BitVec 32 := 0#32
  let v787 : BitVec 1 := Scalar.cmpi .slt v786 c0_i32_578
  let c18_i32_581 : BitVec 32 := 18#32
  let c4_i32_579 : BitVec 32 := 4#32
  let v788 : BitVec 1 := Scalar.cmpi .eq v786 c4_i32_579
  let c19_i32_580 : BitVec 32 := 19#32
  let v789 : BitVec 32 := Scalar.select v788 c19_i32_580 v786
  let v790 : BitVec 32 := Scalar.select v787 c18_i32_581 v789
  let v791 : Index := Scalar.indexCast v790
  let c0_583 : Index := 0#32
  let c0_584 : Index := 0#32
  ![0, v791.toNat, 0, 0]
def k0_off11 (i : grid0.Coords) (c0_i32_585 : BitVec 32) : Fin 5 → Nat :=
  let c0_586 : Index := 0#32
  let c0_587 : Index := 0#32
  let arg1 : BitVec 32 := BitVec.ofNat 32 (i 1).val
  let c4_i32_575 : BitVec 32 := 4#32
  let v781 : BitVec 32 := Scalar.subi arg1 c4_i32_575
  let c0_i32_576 : BitVec 32 := 0#32
  let v782 : BitVec 32 := Scalar.maxsi v781 c0_i32_576
  let v794 : BitVec 32 := Scalar.addi v782 c0_i32_585
  let v795 : Index := Scalar.indexCast v794
  let c0_588 : Index := 0#32
  let c0_589 : Index := 0#32
  ![0, 0, v795.toNat, 0, 0]
def k0_off12 (i : grid0.Coords) : Fin 4 → Nat :=
  let c0_642 : Index := 0#32
  let c0_643 : Index := 0#32
  let arg1 : BitVec 32 := BitVec.ofNat 32 (i 1).val
  let c4_i32_575 : BitVec 32 := 4#32
  let v781 : BitVec 32 := Scalar.subi arg1 c4_i32_575
  let c0_i32_576 : BitVec 32 := 0#32
  let v782 : BitVec 32 := Scalar.maxsi v781 c0_i32_576
  let c128_i32 : BitVec 32 := 128#32
  let v783 : BitVec 32 := Scalar.muli v782 c128_i32
  let v784 : BitVec 32 := v783
  let v850 : Index := Scalar.indexCast v784
  let c0_644 : Index := 0#32
  ![0, 0, v850.toNat, 0]
def k0_off13 (i : grid0.Coords) (c0_i32_752 : BitVec 32) (c0_i32_753 : BitVec 32) : Fin 4 → Nat :=
  let c1_757 : Index := 1#32
  let arg1 : BitVec 32 := BitVec.ofNat 32 (i 1).val
  let v1143 : BitVec 32 := Scalar.subi arg1 c0_i32_752
  let v1144 : BitVec 32 := Scalar.subi v1143 c0_i32_753
  let c0_i32_754 : BitVec 32 := 0#32
  let v1145 : BitVec 1 := Scalar.cmpi .slt v1144 c0_i32_754
  let c19_i32_756 : BitVec 32 := 19#32
  let c18_i32_755 : BitVec 32 := 18#32
  let v1146 : BitVec 32 := Scalar.minsi v1144 c18_i32_755
  let v1147 : BitVec 32 := Scalar.select v1145 c19_i32_756 v1146
  let v1148 : Index := Scalar.indexCast v1147
  let c0_758 : Index := 0#32
  let c0_759 : Index := 0#32
  ![1, v1148.toNat, 0, 0]
def k0_mult4 (i : grid0.Coords) : BitVec 32 :=
  let arg1 : BitVec 32 := BitVec.ofNat 32 (i 1).val
  let c4_i32_1157 : BitVec 32 := 4#32
  let v1571 : BitVec 32 := Scalar.subi arg1 c4_i32_1157
  let c0_i32_1158 : BitVec 32 := 0#32
  let v1572 : BitVec 32 := Scalar.maxsi v1571 c0_i32_1158
  let c128_i32_1159 : BitVec 32 := 128#32
  let v1573 : BitVec 32 := Scalar.muli v1572 c128_i32_1159
  v1573
def k0_off14 (i : grid0.Coords) (c0_i32_1160 : BitVec 32) : Fin 4 → Nat :=
  let c1_1165 : Index := 1#32
  let arg1 : BitVec 32 := BitVec.ofNat 32 (i 1).val
  let c4_i32_1157 : BitVec 32 := 4#32
  let v1571 : BitVec 32 := Scalar.subi arg1 c4_i32_1157
  let c0_i32_1158 : BitVec 32 := 0#32
  let v1572 : BitVec 32 := Scalar.maxsi v1571 c0_i32_1158
  let v1575 : BitVec 32 := Scalar.subi arg1 v1572
  let v1576 : BitVec 32 := Scalar.subi v1575 c0_i32_1160
  let c0_i32_1161 : BitVec 32 := 0#32
  let v1577 : BitVec 1 := Scalar.cmpi .slt v1576 c0_i32_1161
  let c18_i32_1164 : BitVec 32 := 18#32
  let c4_i32_1162 : BitVec 32 := 4#32
  let v1578 : BitVec 1 := Scalar.cmpi .eq v1576 c4_i32_1162
  let c19_i32_1163 : BitVec 32 := 19#32
  let v1579 : BitVec 32 := Scalar.select v1578 c19_i32_1163 v1576
  let v1580 : BitVec 32 := Scalar.select v1577 c18_i32_1164 v1579
  let v1581 : Index := Scalar.indexCast v1580
  let c0_1166 : Index := 0#32
  let c0_1167 : Index := 0#32
  ![1, v1581.toNat, 0, 0]
def k0_off15 (i : grid0.Coords) (c0_i32_1168 : BitVec 32) : Fin 5 → Nat :=
  let c0_1169 : Index := 0#32
  let c1_1170 : Index := 1#32
  let arg1 : BitVec 32 := BitVec.ofNat 32 (i 1).val
  let c4_i32_1157 : BitVec 32 := 4#32
  let v1571 : BitVec 32 := Scalar.subi arg1 c4_i32_1157
  let c0_i32_1158 : BitVec 32 := 0#32
  let v1572 : BitVec 32 := Scalar.maxsi v1571 c0_i32_1158
  let v1584 : BitVec 32 := Scalar.addi v1572 c0_i32_1168
  let v1585 : Index := Scalar.indexCast v1584
  let c0_1171 : Index := 0#32
  let c0_1172 : Index := 0#32
  ![0, 1, v1585.toNat, 0, 0]
def k0_off16 (i : grid0.Coords) : Fin 4 → Nat :=
  let c0_1225 : Index := 0#32
  let c1_1226 : Index := 1#32
  let arg1 : BitVec 32 := BitVec.ofNat 32 (i 1).val
  let c4_i32_1157 : BitVec 32 := 4#32
  let v1571 : BitVec 32 := Scalar.subi arg1 c4_i32_1157
  let c0_i32_1158 : BitVec 32 := 0#32
  let v1572 : BitVec 32 := Scalar.maxsi v1571 c0_i32_1158
  let c128_i32_1159 : BitVec 32 := 128#32
  let v1573 : BitVec 32 := Scalar.muli v1572 c128_i32_1159
  let v1574 : BitVec 32 := v1573
  let v1640 : Index := Scalar.indexCast v1574
  let c0_1227 : Index := 0#32
  ![0, 1, v1640.toNat, 0]
def k0_off17 (i : grid0.Coords) (c0_i32_180 : BitVec 32) (c0_i32_181 : BitVec 32) : Fin 4 → Nat :=
  let c0_184 : Index := 0#32
  let arg1 : BitVec 32 := BitVec.ofNat 32 (i 1).val
  let v350 : BitVec 32 := Scalar.subi arg1 c0_i32_180
  let v351 : BitVec 32 := Scalar.subi v350 c0_i32_181
  let c0_i32_182 : BitVec 32 := 0#32
  let v352 : BitVec 1 := Scalar.cmpi .slt v351 c0_i32_182
  let c19_i32 : BitVec 32 := 19#32
  let c18_i32_183 : BitVec 32 := 18#32
  let v353 : BitVec 32 := Scalar.minsi v351 c18_i32_183
  let v354 : BitVec 32 := Scalar.select v352 c19_i32 v353
  let v355 : Index := Scalar.indexCast v354
  let c0_185 : Index := 0#32
  let c0_186 : Index := 0#32
  ![0, v355.toNat, 0, 0]
def k0_mult5 (i : grid0.Coords) : BitVec 32 :=
  let arg1 : BitVec 32 := BitVec.ofNat 32 (i 1).val
  let c4_i32_446 : BitVec 32 := 4#32
  let v650 : BitVec 32 := Scalar.subi arg1 c4_i32_446
  let c0_i32_447 : BitVec 32 := 0#32
  let v651 : BitVec 32 := Scalar.maxsi v650 c0_i32_447
  let c128_i32 : BitVec 32 := 128#32
  let v652 : BitVec 32 := Scalar.muli v651 c128_i32
  v652
def k0_off18 (i : grid0.Coords) (c0_i32_448 : BitVec 32) : Fin 4 → Nat :=
  let c0_453 : Index := 0#32
  let arg1 : BitVec 32 := BitVec.ofNat 32 (i 1).val
  let c4_i32_446 : BitVec 32 := 4#32
  let v650 : BitVec 32 := Scalar.subi arg1 c4_i32_446
  let c0_i32_447 : BitVec 32 := 0#32
  let v651 : BitVec 32 := Scalar.maxsi v650 c0_i32_447
  let v654 : BitVec 32 := Scalar.subi arg1 v651
  let v655 : BitVec 32 := Scalar.subi v654 c0_i32_448
  let c0_i32_449 : BitVec 32 := 0#32
  let v656 : BitVec 1 := Scalar.cmpi .slt v655 c0_i32_449
  let c18_i32_452 : BitVec 32 := 18#32
  let c4_i32_450 : BitVec 32 := 4#32
  let v657 : BitVec 1 := Scalar.cmpi .eq v655 c4_i32_450
  let c19_i32_451 : BitVec 32 := 19#32
  let v658 : BitVec 32 := Scalar.select v657 c19_i32_451 v655
  let v659 : BitVec 32 := Scalar.select v656 c18_i32_452 v658
  let v660 : Index := Scalar.indexCast v659
  let c0_454 : Index := 0#32
  let c0_455 : Index := 0#32
  ![0, v660.toNat, 0, 0]
def k0_off19 (i : grid0.Coords) (c0_i32_456 : BitVec 32) : Fin 5 → Nat :=
  let c0_457 : Index := 0#32
  let c0_458 : Index := 0#32
  let arg1 : BitVec 32 := BitVec.ofNat 32 (i 1).val
  let c4_i32_446 : BitVec 32 := 4#32
  let v650 : BitVec 32 := Scalar.subi arg1 c4_i32_446
  let c0_i32_447 : BitVec 32 := 0#32
  let v651 : BitVec 32 := Scalar.maxsi v650 c0_i32_447
  let v663 : BitVec 32 := Scalar.addi v651 c0_i32_456
  let v664 : Index := Scalar.indexCast v663
  let c0_459 : Index := 0#32
  let c0_460 : Index := 0#32
  ![0, 0, v664.toNat, 0, 0]
def k0_off20 (i : grid0.Coords) : Fin 4 → Nat :=
  let c0_513 : Index := 0#32
  let c0_514 : Index := 0#32
  let arg1 : BitVec 32 := BitVec.ofNat 32 (i 1).val
  let c4_i32_446 : BitVec 32 := 4#32
  let v650 : BitVec 32 := Scalar.subi arg1 c4_i32_446
  let c0_i32_447 : BitVec 32 := 0#32
  let v651 : BitVec 32 := Scalar.maxsi v650 c0_i32_447
  let c128_i32 : BitVec 32 := 128#32
  let v652 : BitVec 32 := Scalar.muli v651 c128_i32
  let v653 : BitVec 32 := v652
  let v719 : Index := Scalar.indexCast v653
  let c0_515 : Index := 0#32
  ![0, 0, v719.toNat, 0]
def k0_off21 (i : grid0.Coords) (c0_i32_623 : BitVec 32) (c0_i32_624 : BitVec 32) : Fin 4 → Nat :=
  let c1_628 : Index := 1#32
  let arg1 : BitVec 32 := BitVec.ofNat 32 (i 1).val
  let v1012 : BitVec 32 := Scalar.subi arg1 c0_i32_623
  let v1013 : BitVec 32 := Scalar.subi v1012 c0_i32_624
  let c0_i32_625 : BitVec 32 := 0#32
  let v1014 : BitVec 1 := Scalar.cmpi .slt v1013 c0_i32_625
  let c19_i32_627 : BitVec 32 := 19#32
  let c18_i32_626 : BitVec 32 := 18#32
  let v1015 : BitVec 32 := Scalar.minsi v1013 c18_i32_626
  let v1016 : BitVec 32 := Scalar.select v1014 c19_i32_627 v1015
  let v1017 : Index := Scalar.indexCast v1016
  let c0_629 : Index := 0#32
  let c0_630 : Index := 0#32
  ![1, v1017.toNat, 0, 0]
def k0_mult6 (i : grid0.Coords) : BitVec 32 :=
  let arg1 : BitVec 32 := BitVec.ofNat 32 (i 1).val
  let c4_i32_900 : BitVec 32 := 4#32
  let v1312 : BitVec 32 := Scalar.subi arg1 c4_i32_900
  let c0_i32_901 : BitVec 32 := 0#32
  let v1313 : BitVec 32 := Scalar.maxsi v1312 c0_i32_901
  let c128_i32_902 : BitVec 32 := 128#32
  let v1314 : BitVec 32 := Scalar.muli v1313 c128_i32_902
  v1314
def k0_off22 (i : grid0.Coords) (c0_i32_903 : BitVec 32) : Fin 4 → Nat :=
  let c1_908 : Index := 1#32
  let arg1 : BitVec 32 := BitVec.ofNat 32 (i 1).val
  let c4_i32_900 : BitVec 32 := 4#32
  let v1312 : BitVec 32 := Scalar.subi arg1 c4_i32_900
  let c0_i32_901 : BitVec 32 := 0#32
  let v1313 : BitVec 32 := Scalar.maxsi v1312 c0_i32_901
  let v1316 : BitVec 32 := Scalar.subi arg1 v1313
  let v1317 : BitVec 32 := Scalar.subi v1316 c0_i32_903
  let c0_i32_904 : BitVec 32 := 0#32
  let v1318 : BitVec 1 := Scalar.cmpi .slt v1317 c0_i32_904
  let c18_i32_907 : BitVec 32 := 18#32
  let c4_i32_905 : BitVec 32 := 4#32
  let v1319 : BitVec 1 := Scalar.cmpi .eq v1317 c4_i32_905
  let c19_i32_906 : BitVec 32 := 19#32
  let v1320 : BitVec 32 := Scalar.select v1319 c19_i32_906 v1317
  let v1321 : BitVec 32 := Scalar.select v1318 c18_i32_907 v1320
  let v1322 : Index := Scalar.indexCast v1321
  let c0_909 : Index := 0#32
  let c0_910 : Index := 0#32
  ![1, v1322.toNat, 0, 0]
def k0_off23 (i : grid0.Coords) (c0_i32_911 : BitVec 32) : Fin 5 → Nat :=
  let c0_912 : Index := 0#32
  let c1_913 : Index := 1#32
  let arg1 : BitVec 32 := BitVec.ofNat 32 (i 1).val
  let c4_i32_900 : BitVec 32 := 4#32
  let v1312 : BitVec 32 := Scalar.subi arg1 c4_i32_900
  let c0_i32_901 : BitVec 32 := 0#32
  let v1313 : BitVec 32 := Scalar.maxsi v1312 c0_i32_901
  let v1325 : BitVec 32 := Scalar.addi v1313 c0_i32_911
  let v1326 : Index := Scalar.indexCast v1325
  let c0_914 : Index := 0#32
  let c0_915 : Index := 0#32
  ![0, 1, v1326.toNat, 0, 0]
def k0_off24 (i : grid0.Coords) : Fin 4 → Nat :=
  let c0_968 : Index := 0#32
  let c1_969 : Index := 1#32
  let arg1 : BitVec 32 := BitVec.ofNat 32 (i 1).val
  let c4_i32_900 : BitVec 32 := 4#32
  let v1312 : BitVec 32 := Scalar.subi arg1 c4_i32_900
  let c0_i32_901 : BitVec 32 := 0#32
  let v1313 : BitVec 32 := Scalar.maxsi v1312 c0_i32_901
  let c128_i32_902 : BitVec 32 := 128#32
  let v1314 : BitVec 32 := Scalar.muli v1313 c128_i32_902
  let v1315 : BitVec 32 := v1314
  let v1381 : Index := Scalar.indexCast v1315
  let c0_970 : Index := 0#32
  ![0, 1, v1381.toNat, 0]
def k0_off25 (i : grid0.Coords) (c0_i32_179 : BitVec 32) : Fin 4 → Nat :=
  let c0_182 : Index := 0#32
  let arg1 : BitVec 32 := BitVec.ofNat 32 (i 1).val
  let c0_i32_178 : BitVec 32 := 0#32
  let v347 : BitVec 32 := Scalar.subi arg1 c0_i32_178
  let v348 : BitVec 32 := Scalar.subi v347 c0_i32_179
  let c0_i32_180 : BitVec 32 := 0#32
  let v349 : BitVec 1 := Scalar.cmpi .slt v348 c0_i32_180
  let c19_i32 : BitVec 32 := 19#32
  let c18_i32_181 : BitVec 32 := 18#32
  let v350 : BitVec 32 := Scalar.minsi v348 c18_i32_181
  let v351 : BitVec 32 := Scalar.select v349 c19_i32 v350
  let v352 : Index := Scalar.indexCast v351
  let c0_183 : Index := 0#32
  let c0_184 : Index := 0#32
  ![0, v352.toNat, 0, 0]
def k0_mult7 (i : grid0.Coords) : BitVec 32 :=
  let arg1 : BitVec 32 := BitVec.ofNat 32 (i 1).val
  let c4_i32_316 : BitVec 32 := 4#32
  let v519 : BitVec 32 := Scalar.subi arg1 c4_i32_316
  let c0_i32_317 : BitVec 32 := 0#32
  let v520 : BitVec 32 := Scalar.maxsi v519 c0_i32_317
  let c128_i32 : BitVec 32 := 128#32
  let v521 : BitVec 32 := Scalar.muli v520 c128_i32
  v521
def k0_off26 (i : grid0.Coords) (c0_i32_318 : BitVec 32) : Fin 4 → Nat :=
  let c0_323 : Index := 0#32
  let arg1 : BitVec 32 := BitVec.ofNat 32 (i 1).val
  let c4_i32_316 : BitVec 32 := 4#32
  let v519 : BitVec 32 := Scalar.subi arg1 c4_i32_316
  let c0_i32_317 : BitVec 32 := 0#32
  let v520 : BitVec 32 := Scalar.maxsi v519 c0_i32_317
  let v523 : BitVec 32 := Scalar.subi arg1 v520
  let v524 : BitVec 32 := Scalar.subi v523 c0_i32_318
  let c0_i32_319 : BitVec 32 := 0#32
  let v525 : BitVec 1 := Scalar.cmpi .slt v524 c0_i32_319
  let c18_i32_322 : BitVec 32 := 18#32
  let c4_i32_320 : BitVec 32 := 4#32
  let v526 : BitVec 1 := Scalar.cmpi .eq v524 c4_i32_320
  let c19_i32_321 : BitVec 32 := 19#32
  let v527 : BitVec 32 := Scalar.select v526 c19_i32_321 v524
  let v528 : BitVec 32 := Scalar.select v525 c18_i32_322 v527
  let v529 : Index := Scalar.indexCast v528
  let c0_324 : Index := 0#32
  let c0_325 : Index := 0#32
  ![0, v529.toNat, 0, 0]
def k0_off27 (i : grid0.Coords) (c0_i32_326 : BitVec 32) : Fin 5 → Nat :=
  let c0_327 : Index := 0#32
  let c0_328 : Index := 0#32
  let arg1 : BitVec 32 := BitVec.ofNat 32 (i 1).val
  let c4_i32_316 : BitVec 32 := 4#32
  let v519 : BitVec 32 := Scalar.subi arg1 c4_i32_316
  let c0_i32_317 : BitVec 32 := 0#32
  let v520 : BitVec 32 := Scalar.maxsi v519 c0_i32_317
  let v532 : BitVec 32 := Scalar.addi v520 c0_i32_326
  let v533 : Index := Scalar.indexCast v532
  let c0_329 : Index := 0#32
  let c0_330 : Index := 0#32
  ![0, 0, v533.toNat, 0, 0]
def k0_off28 (i : grid0.Coords) : Fin 4 → Nat :=
  let c0_383 : Index := 0#32
  let c0_384 : Index := 0#32
  let arg1 : BitVec 32 := BitVec.ofNat 32 (i 1).val
  let c4_i32_316 : BitVec 32 := 4#32
  let v519 : BitVec 32 := Scalar.subi arg1 c4_i32_316
  let c0_i32_317 : BitVec 32 := 0#32
  let v520 : BitVec 32 := Scalar.maxsi v519 c0_i32_317
  let c128_i32 : BitVec 32 := 128#32
  let v521 : BitVec 32 := Scalar.muli v520 c128_i32
  let v522 : BitVec 32 := v521
  let v588 : Index := Scalar.indexCast v522
  let c0_385 : Index := 0#32
  ![0, 0, v588.toNat, 0]
def k0_off29 (i : grid0.Coords) (c0_i32_494 : BitVec 32) : Fin 4 → Nat :=
  let c1_498 : Index := 1#32
  let arg1 : BitVec 32 := BitVec.ofNat 32 (i 1).val
  let c0_i32_493 : BitVec 32 := 0#32
  let v881 : BitVec 32 := Scalar.subi arg1 c0_i32_493
  let v882 : BitVec 32 := Scalar.subi v881 c0_i32_494
  let c0_i32_495 : BitVec 32 := 0#32
  let v883 : BitVec 1 := Scalar.cmpi .slt v882 c0_i32_495
  let c19_i32_497 : BitVec 32 := 19#32
  let c18_i32_496 : BitVec 32 := 18#32
  let v884 : BitVec 32 := Scalar.minsi v882 c18_i32_496
  let v885 : BitVec 32 := Scalar.select v883 c19_i32_497 v884
  let v886 : Index := Scalar.indexCast v885
  let c0_499 : Index := 0#32
  let c0_500 : Index := 0#32
  ![1, v886.toNat, 0, 0]
def k0_mult8 (i : grid0.Coords) : BitVec 32 :=
  let arg1 : BitVec 32 := BitVec.ofNat 32 (i 1).val
  let c4_i32_642 : BitVec 32 := 4#32
  let v1053 : BitVec 32 := Scalar.subi arg1 c4_i32_642
  let c0_i32_643 : BitVec 32 := 0#32
  let v1054 : BitVec 32 := Scalar.maxsi v1053 c0_i32_643
  let c128_i32_644 : BitVec 32 := 128#32
  let v1055 : BitVec 32 := Scalar.muli v1054 c128_i32_644
  v1055
def k0_off30 (i : grid0.Coords) (c0_i32_645 : BitVec 32) : Fin 4 → Nat :=
  let c1_650 : Index := 1#32
  let arg1 : BitVec 32 := BitVec.ofNat 32 (i 1).val
  let c4_i32_642 : BitVec 32 := 4#32
  let v1053 : BitVec 32 := Scalar.subi arg1 c4_i32_642
  let c0_i32_643 : BitVec 32 := 0#32
  let v1054 : BitVec 32 := Scalar.maxsi v1053 c0_i32_643
  let v1057 : BitVec 32 := Scalar.subi arg1 v1054
  let v1058 : BitVec 32 := Scalar.subi v1057 c0_i32_645
  let c0_i32_646 : BitVec 32 := 0#32
  let v1059 : BitVec 1 := Scalar.cmpi .slt v1058 c0_i32_646
  let c18_i32_649 : BitVec 32 := 18#32
  let c4_i32_647 : BitVec 32 := 4#32
  let v1060 : BitVec 1 := Scalar.cmpi .eq v1058 c4_i32_647
  let c19_i32_648 : BitVec 32 := 19#32
  let v1061 : BitVec 32 := Scalar.select v1060 c19_i32_648 v1058
  let v1062 : BitVec 32 := Scalar.select v1059 c18_i32_649 v1061
  let v1063 : Index := Scalar.indexCast v1062
  let c0_651 : Index := 0#32
  let c0_652 : Index := 0#32
  ![1, v1063.toNat, 0, 0]
def k0_off31 (i : grid0.Coords) (c0_i32_653 : BitVec 32) : Fin 5 → Nat :=
  let c0_654 : Index := 0#32
  let c1_655 : Index := 1#32
  let arg1 : BitVec 32 := BitVec.ofNat 32 (i 1).val
  let c4_i32_642 : BitVec 32 := 4#32
  let v1053 : BitVec 32 := Scalar.subi arg1 c4_i32_642
  let c0_i32_643 : BitVec 32 := 0#32
  let v1054 : BitVec 32 := Scalar.maxsi v1053 c0_i32_643
  let v1066 : BitVec 32 := Scalar.addi v1054 c0_i32_653
  let v1067 : Index := Scalar.indexCast v1066
  let c0_656 : Index := 0#32
  let c0_657 : Index := 0#32
  ![0, 1, v1067.toNat, 0, 0]
def k0_off32 (i : grid0.Coords) : Fin 4 → Nat :=
  let c0_710 : Index := 0#32
  let c1_711 : Index := 1#32
  let arg1 : BitVec 32 := BitVec.ofNat 32 (i 1).val
  let c4_i32_642 : BitVec 32 := 4#32
  let v1053 : BitVec 32 := Scalar.subi arg1 c4_i32_642
  let c0_i32_643 : BitVec 32 := 0#32
  let v1054 : BitVec 32 := Scalar.maxsi v1053 c0_i32_643
  let c128_i32_644 : BitVec 32 := 128#32
  let v1055 : BitVec 32 := Scalar.muli v1054 c128_i32_644
  let v1056 : BitVec 32 := v1055
  let v1122 : Index := Scalar.indexCast v1056
  let c0_712 : Index := 0#32
  ![0, 1, v1122.toNat, 0]
def k0_mult9 : BitVec 32 :=
  let c0_i32_6 : BitVec 32 := 0#32
  let c15_i32 : BitVec 32 := 15#32
  let v21 : BitVec 32 := Scalar.minsi c0_i32_6 c15_i32
  let c512_i32 : BitVec 32 := 512#32
  let v22 : BitVec 32 := Scalar.muli v21 c512_i32
  v22
def k0_off33 (i : grid0.Coords) (c0_i32_8 : BitVec 32) : Fin 4 → Nat :=
  let c0 : Index := 0#32
  let arg1 : BitVec 32 := BitVec.ofNat 32 (i 1).val
  let c0_i32_7 : BitVec 32 := 0#32
  let v24 : BitVec 32 := Scalar.subi arg1 c0_i32_7
  let v25 : BitVec 32 := Scalar.subi v24 c0_i32_8
  let c0_i32_9 : BitVec 32 := 0#32
  let v26 : BitVec 1 := Scalar.cmpi .slt v25 c0_i32_9
  let c18_i32 : BitVec 32 := 18#32
  let c17_i32 : BitVec 32 := 17#32
  let v27 : BitVec 32 := Scalar.minsi v25 c17_i32
  let v28 : BitVec 32 := Scalar.select v26 c18_i32 v27
  let v29 : Index := Scalar.indexCast v28
  let c0_10 : Index := 0#32
  let c0_11 : Index := 0#32
  ![0, v29.toNat, 0, 0]
def k0_off34 : Fin 4 → Nat :=
  let c0_35 : Index := 0#32
  let c0_36 : Index := 0#32
  let c0_i32_6 : BitVec 32 := 0#32
  let c15_i32 : BitVec 32 := 15#32
  let v21 : BitVec 32 := Scalar.minsi c0_i32_6 c15_i32
  let c512_i32 : BitVec 32 := 512#32
  let v22 : BitVec 32 := Scalar.muli v21 c512_i32
  let v23 : BitVec 32 := v22
  let v56 : Index := Scalar.indexCast v23
  let c0_37 : Index := 0#32
  ![0, 0, v56.toNat, 0]
def k0_mult10 : BitVec 32 :=
  let c0_i32_50 : BitVec 32 := 0#32
  let c15_i32_51 : BitVec 32 := 15#32
  let v77 : BitVec 32 := Scalar.minsi c0_i32_50 c15_i32_51
  let c512_i32_52 : BitVec 32 := 512#32
  let v78 : BitVec 32 := Scalar.muli v77 c512_i32_52
  v78
def k0_off35 (i : grid0.Coords) (c0_i32_54 : BitVec 32) : Fin 4 → Nat :=
  let c1 : Index := 1#32
  let arg1 : BitVec 32 := BitVec.ofNat 32 (i 1).val
  let c0_i32_53 : BitVec 32 := 0#32
  let v80 : BitVec 32 := Scalar.subi arg1 c0_i32_53
  let v81 : BitVec 32 := Scalar.subi v80 c0_i32_54
  let c0_i32_55 : BitVec 32 := 0#32
  let v82 : BitVec 1 := Scalar.cmpi .slt v81 c0_i32_55
  let c18_i32_57 : BitVec 32 := 18#32
  let c17_i32_56 : BitVec 32 := 17#32
  let v83 : BitVec 32 := Scalar.minsi v81 c17_i32_56
  let v84 : BitVec 32 := Scalar.select v82 c18_i32_57 v83
  let v85 : Index := Scalar.indexCast v84
  let c0_58 : Index := 0#32
  let c0_59 : Index := 0#32
  ![1, v85.toNat, 0, 0]
def k0_off36 : Fin 4 → Nat :=
  let c0_84 : Index := 0#32
  let c1_85 : Index := 1#32
  let c0_i32_50 : BitVec 32 := 0#32
  let c15_i32_51 : BitVec 32 := 15#32
  let v77 : BitVec 32 := Scalar.minsi c0_i32_50 c15_i32_51
  let c512_i32_52 : BitVec 32 := 512#32
  let v78 : BitVec 32 := Scalar.muli v77 c512_i32_52
  let v79 : BitVec 32 := v78
  let v112 : Index := Scalar.indexCast v79
  let c0_86 : Index := 0#32
  ![0, 1, v112.toNat, 0]
@[reducible] def k0_t1_loop (i : grid0.Coords) : Scf.Loop 32 :=
  let c0_i32_111 : BitVec 32 := 0#32
  let arg1 : BitVec 32 := BitVec.ofNat 32 (i 1).val
  let c0_i32_104 : BitVec 32 := 0#32
  let v138 : BitVec 1 := Scalar.cmpi .sgt arg1 c0_i32_104
  let v139 : BitVec 32 := Scalar.extui v138
  let c0_i32_105 : BitVec 32 := 0#32
  let v140 : BitVec 1 := Scalar.cmpi .slt arg1 c0_i32_105
  let v141 : BitVec 32 := Scalar.extui v140
  let v142 : BitVec 32 := Scalar.subi v139 v141
  let c4_i32 : BitVec 32 := 4#32
  let c0_i32_106 : BitVec 32 := 0#32
  let v143 : BitVec 1 := Scalar.cmpi .sgt c4_i32 c0_i32_106
  let v144 : BitVec 32 := Scalar.extui v143
  let c0_i32_107 : BitVec 32 := 0#32
  let v145 : BitVec 1 := Scalar.cmpi .slt c4_i32 c0_i32_107
  let v146 : BitVec 32 := Scalar.extui v145
  let v147 : BitVec 32 := Scalar.subi v144 v146
  let v148 : BitVec 1 := Scalar.cmpi .ne v142 v147
  let v149 : BitVec 32 := Scalar.remsi arg1 c4_i32
  let c0_i32_108 : BitVec 32 := 0#32
  let v150 : BitVec 1 := Scalar.cmpi .ne v149 c0_i32_108
  let v151 : BitVec 1 := Scalar.andi v148 v150
  let v137 : BitVec 32 := Scalar.divsi arg1 c4_i32
  let c1_i32_109 : BitVec 32 := 1#32
  let v152 : BitVec 32 := Scalar.subi v137 c1_i32_109
  let v153 : BitVec 32 := Scalar.select v151 v152 v137
  let c1_i32_110 : BitVec 32 := 1#32
  let v154 : BitVec 32 := Scalar.addi v153 c1_i32_110
  let v155 : BitVec 32 := Scalar.subi v154 c0_i32_111
  let c1_i32_112 : BitVec 32 := 1#32
  let v157 : BitVec 32 := Scalar.divsi v155 c1_i32_112
  let v158 : BitVec 32 := Scalar.muli v157 c1_i32_112
  let v159 : BitVec 32 := Scalar.addi c0_i32_111 v158
  let c1_i32_113 : BitVec 32 := 1#32
  ⟨c0_i32_111, v159, c1_i32_113⟩
def k0_off37 (i : grid0.Coords) (k0_t1 : Fin (k0_t1_loop i).trips) : Fin 5 → Nat :=
  let c0_174 : Index := 0#32
  let c0_175 : Index := 0#32
  let c0_i32_111 : BitVec 32 := 0#32
  let c1_i32_113 : BitVec 32 := 1#32
  let arg17 : BitVec 32 := Scf.iv c0_i32_111 c1_i32_113 k0_t1
  let c1_i32_172 : BitVec 32 := 1#32
  let v342 : BitVec 32 := Scalar.subi arg17 c1_i32_172
  let c0_i32_173 : BitVec 32 := 0#32
  let v343 : BitVec 32 := Scalar.maxsi v342 c0_i32_173
  let v344 : Index := Scalar.indexCast v343
  let c0_176 : Index := 0#32
  let c0_177 : Index := 0#32
  ![0, 0, v344.toNat, 0, 0]
def k0_mult11 (i : grid0.Coords) (k0_t1 : Fin (k0_t1_loop i).trips) : BitVec 32 :=
  let c0_i32_111 : BitVec 32 := 0#32
  let c1_i32_113 : BitVec 32 := 1#32
  let arg17 : BitVec 32 := Scf.iv c0_i32_111 c1_i32_113 k0_t1
  let c1_i32_188 : BitVec 32 := 1#32
  let v365 : BitVec 32 := Scalar.addi arg17 c1_i32_188
  let c15_i32_189 : BitVec 32 := 15#32
  let v366 : BitVec 32 := Scalar.minsi v365 c15_i32_189
  let c512_i32_190 : BitVec 32 := 512#32
  let v367 : BitVec 32 := Scalar.muli v366 c512_i32_190
  v367
def k0_off38 (i : grid0.Coords) (k0_t1 : Fin (k0_t1_loop i).trips) (c0_i32_192 : BitVec 32) : Fin 4 → Nat :=
  let c0_196 : Index := 0#32
  let arg1 : BitVec 32 := BitVec.ofNat 32 (i 1).val
  let c4_i32_191 : BitVec 32 := 4#32
  let c0_i32_111 : BitVec 32 := 0#32
  let c1_i32_113 : BitVec 32 := 1#32
  let arg17 : BitVec 32 := Scf.iv c0_i32_111 c1_i32_113 k0_t1
  let c1_i32_188 : BitVec 32 := 1#32
  let v365 : BitVec 32 := Scalar.addi arg17 c1_i32_188
  let v369 : BitVec 32 := Scalar.muli c4_i32_191 v365
  let v370 : BitVec 32 := Scalar.subi arg1 v369
  let v371 : BitVec 32 := Scalar.subi v370 c0_i32_192
  let c0_i32_193 : BitVec 32 := 0#32
  let v372 : BitVec 1 := Scalar.cmpi .slt v371 c0_i32_193
  let c18_i32_195 : BitVec 32 := 18#32
  let c17_i32_194 : BitVec 32 := 17#32
  let v373 : BitVec 32 := Scalar.minsi v371 c17_i32_194
  let v374 : BitVec 32 := Scalar.select v372 c18_i32_195 v373
  let v375 : Index := Scalar.indexCast v374
  let c0_197 : Index := 0#32
  let c0_198 : Index := 0#32
  ![0, v375.toNat, 0, 0]
def k0_off39 (i : grid0.Coords) (k0_t1 : Fin (k0_t1_loop i).trips) : Fin 4 → Nat :=
  let c0_223 : Index := 0#32
  let c0_224 : Index := 0#32
  let c0_i32_111 : BitVec 32 := 0#32
  let c1_i32_113 : BitVec 32 := 1#32
  let arg17 : BitVec 32 := Scf.iv c0_i32_111 c1_i32_113 k0_t1
  let c1_i32_188 : BitVec 32 := 1#32
  let v365 : BitVec 32 := Scalar.addi arg17 c1_i32_188
  let c15_i32_189 : BitVec 32 := 15#32
  let v366 : BitVec 32 := Scalar.minsi v365 c15_i32_189
  let c512_i32_190 : BitVec 32 := 512#32
  let v367 : BitVec 32 := Scalar.muli v366 c512_i32_190
  let v368 : BitVec 32 := v367
  let v405 : Index := Scalar.indexCast v368
  let c0_225 : Index := 0#32
  ![0, 0, v405.toNat, 0]
def k0_off40 (i : grid0.Coords) (k0_t1 : Fin (k0_t1_loop i).trips) : Fin 5 → Nat :=
  let c0_239 : Index := 0#32
  let c1_240 : Index := 1#32
  let c0_i32_111 : BitVec 32 := 0#32
  let c1_i32_113 : BitVec 32 := 1#32
  let arg17 : BitVec 32 := Scf.iv c0_i32_111 c1_i32_113 k0_t1
  let c1_i32_237 : BitVec 32 := 1#32
  let v424 : BitVec 32 := Scalar.subi arg17 c1_i32_237
  let c0_i32_238 : BitVec 32 := 0#32
  let v425 : BitVec 32 := Scalar.maxsi v424 c0_i32_238
  let v426 : Index := Scalar.indexCast v425
  let c0_241 : Index := 0#32
  let c0_242 : Index := 0#32
  ![0, 1, v426.toNat, 0, 0]
def k0_mult12 (i : grid0.Coords) (k0_t1 : Fin (k0_t1_loop i).trips) : BitVec 32 :=
  let c0_i32_111 : BitVec 32 := 0#32
  let c1_i32_113 : BitVec 32 := 1#32
  let arg17 : BitVec 32 := Scf.iv c0_i32_111 c1_i32_113 k0_t1
  let c1_i32_253 : BitVec 32 := 1#32
  let v447 : BitVec 32 := Scalar.addi arg17 c1_i32_253
  let c15_i32_254 : BitVec 32 := 15#32
  let v448 : BitVec 32 := Scalar.minsi v447 c15_i32_254
  let c512_i32_255 : BitVec 32 := 512#32
  let v449 : BitVec 32 := Scalar.muli v448 c512_i32_255
  v449
def k0_off41 (i : grid0.Coords) (k0_t1 : Fin (k0_t1_loop i).trips) (c0_i32_257 : BitVec 32) : Fin 4 → Nat :=
  let c1_261 : Index := 1#32
  let arg1 : BitVec 32 := BitVec.ofNat 32 (i 1).val
  let c4_i32_256 : BitVec 32 := 4#32
  let c0_i32_111 : BitVec 32 := 0#32
  let c1_i32_113 : BitVec 32 := 1#32
  let arg17 : BitVec 32 := Scf.iv c0_i32_111 c1_i32_113 k0_t1
  let c1_i32_253 : BitVec 32 := 1#32
  let v447 : BitVec 32 := Scalar.addi arg17 c1_i32_253
  let v451 : BitVec 32 := Scalar.muli c4_i32_256 v447
  let v452 : BitVec 32 := Scalar.subi arg1 v451
  let v453 : BitVec 32 := Scalar.subi v452 c0_i32_257
  let c0_i32_258 : BitVec 32 := 0#32
  let v454 : BitVec 1 := Scalar.cmpi .slt v453 c0_i32_258
  let c18_i32_260 : BitVec 32 := 18#32
  let c17_i32_259 : BitVec 32 := 17#32
  let v455 : BitVec 32 := Scalar.minsi v453 c17_i32_259
  let v456 : BitVec 32 := Scalar.select v454 c18_i32_260 v455
  let v457 : Index := Scalar.indexCast v456
  let c0_262 : Index := 0#32
  let c0_263 : Index := 0#32
  ![1, v457.toNat, 0, 0]
def k0_off42 (i : grid0.Coords) (k0_t1 : Fin (k0_t1_loop i).trips) : Fin 4 → Nat :=
  let c0_288 : Index := 0#32
  let c1_289 : Index := 1#32
  let c0_i32_111 : BitVec 32 := 0#32
  let c1_i32_113 : BitVec 32 := 1#32
  let arg17 : BitVec 32 := Scf.iv c0_i32_111 c1_i32_113 k0_t1
  let c1_i32_253 : BitVec 32 := 1#32
  let v447 : BitVec 32 := Scalar.addi arg17 c1_i32_253
  let c15_i32_254 : BitVec 32 := 15#32
  let v448 : BitVec 32 := Scalar.minsi v447 c15_i32_254
  let c512_i32_255 : BitVec 32 := 512#32
  let v449 : BitVec 32 := Scalar.muli v448 c512_i32_255
  let v450 : BitVec 32 := v449
  let v487 : Index := Scalar.indexCast v450
  let c0_290 : Index := 0#32
  ![0, 1, v487.toNat, 0]
@[reducible] def k0_t2_loop (i : grid0.Coords) : Scf.Loop 32 :=
  let c0_i32_111 : BitVec 32 := 0#32
  let arg1 : BitVec 32 := BitVec.ofNat 32 (i 1).val
  let c0_i32_104 : BitVec 32 := 0#32
  let v138 : BitVec 1 := Scalar.cmpi .sgt arg1 c0_i32_104
  let v139 : BitVec 32 := Scalar.extui v138
  let c0_i32_105 : BitVec 32 := 0#32
  let v140 : BitVec 1 := Scalar.cmpi .slt arg1 c0_i32_105
  let v141 : BitVec 32 := Scalar.extui v140
  let v142 : BitVec 32 := Scalar.subi v139 v141
  let c4_i32 : BitVec 32 := 4#32
  let c0_i32_106 : BitVec 32 := 0#32
  let v143 : BitVec 1 := Scalar.cmpi .sgt c4_i32 c0_i32_106
  let v144 : BitVec 32 := Scalar.extui v143
  let c0_i32_107 : BitVec 32 := 0#32
  let v145 : BitVec 1 := Scalar.cmpi .slt c4_i32 c0_i32_107
  let v146 : BitVec 32 := Scalar.extui v145
  let v147 : BitVec 32 := Scalar.subi v144 v146
  let v148 : BitVec 1 := Scalar.cmpi .ne v142 v147
  let v149 : BitVec 32 := Scalar.remsi arg1 c4_i32
  let c0_i32_108 : BitVec 32 := 0#32
  let v150 : BitVec 1 := Scalar.cmpi .ne v149 c0_i32_108
  let v151 : BitVec 1 := Scalar.andi v148 v150
  let v137 : BitVec 32 := Scalar.divsi arg1 c4_i32
  let c1_i32_109 : BitVec 32 := 1#32
  let v152 : BitVec 32 := Scalar.subi v137 c1_i32_109
  let v153 : BitVec 32 := Scalar.select v151 v152 v137
  let c1_i32_110 : BitVec 32 := 1#32
  let v154 : BitVec 32 := Scalar.addi v153 c1_i32_110
  let v155 : BitVec 32 := Scalar.subi v154 c0_i32_111
  let c1_i32_112 : BitVec 32 := 1#32
  let v157 : BitVec 32 := Scalar.divsi v155 c1_i32_112
  let v158 : BitVec 32 := Scalar.muli v157 c1_i32_112
  let v159 : BitVec 32 := Scalar.addi c0_i32_111 v158
  let v156 : BitVec 32 := Scalar.addi c0_i32_111 v155
  let c1_i32_114 : BitVec 32 := 1#32
  ⟨v159, v156, c1_i32_114⟩
def k0_off43 (i : grid0.Coords) (k0_t2 : Fin (k0_t2_loop i).trips) : Fin 5 → Nat :=
  let c0_174 : Index := 0#32
  let c0_175 : Index := 0#32
  let c0_i32_111 : BitVec 32 := 0#32
  let arg1 : BitVec 32 := BitVec.ofNat 32 (i 1).val
  let c0_i32_104 : BitVec 32 := 0#32
  let v138 : BitVec 1 := Scalar.cmpi .sgt arg1 c0_i32_104
  let v139 : BitVec 32 := Scalar.extui v138
  let c0_i32_105 : BitVec 32 := 0#32
  let v140 : BitVec 1 := Scalar.cmpi .slt arg1 c0_i32_105
  let v141 : BitVec 32 := Scalar.extui v140
  let v142 : BitVec 32 := Scalar.subi v139 v141
  let c4_i32 : BitVec 32 := 4#32
  let c0_i32_106 : BitVec 32 := 0#32
  let v143 : BitVec 1 := Scalar.cmpi .sgt c4_i32 c0_i32_106
  let v144 : BitVec 32 := Scalar.extui v143
  let c0_i32_107 : BitVec 32 := 0#32
  let v145 : BitVec 1 := Scalar.cmpi .slt c4_i32 c0_i32_107
  let v146 : BitVec 32 := Scalar.extui v145
  let v147 : BitVec 32 := Scalar.subi v144 v146
  let v148 : BitVec 1 := Scalar.cmpi .ne v142 v147
  let v149 : BitVec 32 := Scalar.remsi arg1 c4_i32
  let c0_i32_108 : BitVec 32 := 0#32
  let v150 : BitVec 1 := Scalar.cmpi .ne v149 c0_i32_108
  let v151 : BitVec 1 := Scalar.andi v148 v150
  let v137 : BitVec 32 := Scalar.divsi arg1 c4_i32
  let c1_i32_109 : BitVec 32 := 1#32
  let v152 : BitVec 32 := Scalar.subi v137 c1_i32_109
  let v153 : BitVec 32 := Scalar.select v151 v152 v137
  let c1_i32_110 : BitVec 32 := 1#32
  let v154 : BitVec 32 := Scalar.addi v153 c1_i32_110
  let v155 : BitVec 32 := Scalar.subi v154 c0_i32_111
  let c1_i32_112 : BitVec 32 := 1#32
  let v157 : BitVec 32 := Scalar.divsi v155 c1_i32_112
  let v158 : BitVec 32 := Scalar.muli v157 c1_i32_112
  let v159 : BitVec 32 := Scalar.addi c0_i32_111 v158
  let c1_i32_114 : BitVec 32 := 1#32
  let arg17 : BitVec 32 := Scf.iv v159 c1_i32_114 k0_t2
  let c1_i32_172 : BitVec 32 := 1#32
  let v342 : BitVec 32 := Scalar.subi arg17 c1_i32_172
  let c0_i32_173 : BitVec 32 := 0#32
  let v343 : BitVec 32 := Scalar.maxsi v342 c0_i32_173
  let v344 : Index := Scalar.indexCast v343
  let c0_176 : Index := 0#32
  let c0_177 : Index := 0#32
  ![0, 0, v344.toNat, 0, 0]
def k0_mult13 (i : grid0.Coords) (k0_t2 : Fin (k0_t2_loop i).trips) : BitVec 32 :=
  let c0_i32_111 : BitVec 32 := 0#32
  let arg1 : BitVec 32 := BitVec.ofNat 32 (i 1).val
  let c0_i32_104 : BitVec 32 := 0#32
  let v138 : BitVec 1 := Scalar.cmpi .sgt arg1 c0_i32_104
  let v139 : BitVec 32 := Scalar.extui v138
  let c0_i32_105 : BitVec 32 := 0#32
  let v140 : BitVec 1 := Scalar.cmpi .slt arg1 c0_i32_105
  let v141 : BitVec 32 := Scalar.extui v140
  let v142 : BitVec 32 := Scalar.subi v139 v141
  let c4_i32 : BitVec 32 := 4#32
  let c0_i32_106 : BitVec 32 := 0#32
  let v143 : BitVec 1 := Scalar.cmpi .sgt c4_i32 c0_i32_106
  let v144 : BitVec 32 := Scalar.extui v143
  let c0_i32_107 : BitVec 32 := 0#32
  let v145 : BitVec 1 := Scalar.cmpi .slt c4_i32 c0_i32_107
  let v146 : BitVec 32 := Scalar.extui v145
  let v147 : BitVec 32 := Scalar.subi v144 v146
  let v148 : BitVec 1 := Scalar.cmpi .ne v142 v147
  let v149 : BitVec 32 := Scalar.remsi arg1 c4_i32
  let c0_i32_108 : BitVec 32 := 0#32
  let v150 : BitVec 1 := Scalar.cmpi .ne v149 c0_i32_108
  let v151 : BitVec 1 := Scalar.andi v148 v150
  let v137 : BitVec 32 := Scalar.divsi arg1 c4_i32
  let c1_i32_109 : BitVec 32 := 1#32
  let v152 : BitVec 32 := Scalar.subi v137 c1_i32_109
  let v153 : BitVec 32 := Scalar.select v151 v152 v137
  let c1_i32_110 : BitVec 32 := 1#32
  let v154 : BitVec 32 := Scalar.addi v153 c1_i32_110
  let v155 : BitVec 32 := Scalar.subi v154 c0_i32_111
  let c1_i32_112 : BitVec 32 := 1#32
  let v157 : BitVec 32 := Scalar.divsi v155 c1_i32_112
  let v158 : BitVec 32 := Scalar.muli v157 c1_i32_112
  let v159 : BitVec 32 := Scalar.addi c0_i32_111 v158
  let c1_i32_114 : BitVec 32 := 1#32
  let arg17 : BitVec 32 := Scf.iv v159 c1_i32_114 k0_t2
  let c1_i32_188 : BitVec 32 := 1#32
  let v365 : BitVec 32 := Scalar.addi arg17 c1_i32_188
  let c15_i32_189 : BitVec 32 := 15#32
  let v366 : BitVec 32 := Scalar.minsi v365 c15_i32_189
  let c512_i32_190 : BitVec 32 := 512#32
  let v367 : BitVec 32 := Scalar.muli v366 c512_i32_190
  v367
def k0_off44 (i : grid0.Coords) (k0_t2 : Fin (k0_t2_loop i).trips) (c0_i32_192 : BitVec 32) : Fin 4 → Nat :=
  let c0_196 : Index := 0#32
  let arg1 : BitVec 32 := BitVec.ofNat 32 (i 1).val
  let c4_i32_191 : BitVec 32 := 4#32
  let c0_i32_111 : BitVec 32 := 0#32
  let c0_i32_104 : BitVec 32 := 0#32
  let v138 : BitVec 1 := Scalar.cmpi .sgt arg1 c0_i32_104
  let v139 : BitVec 32 := Scalar.extui v138
  let c0_i32_105 : BitVec 32 := 0#32
  let v140 : BitVec 1 := Scalar.cmpi .slt arg1 c0_i32_105
  let v141 : BitVec 32 := Scalar.extui v140
  let v142 : BitVec 32 := Scalar.subi v139 v141
  let c4_i32 : BitVec 32 := 4#32
  let c0_i32_106 : BitVec 32 := 0#32
  let v143 : BitVec 1 := Scalar.cmpi .sgt c4_i32 c0_i32_106
  let v144 : BitVec 32 := Scalar.extui v143
  let c0_i32_107 : BitVec 32 := 0#32
  let v145 : BitVec 1 := Scalar.cmpi .slt c4_i32 c0_i32_107
  let v146 : BitVec 32 := Scalar.extui v145
  let v147 : BitVec 32 := Scalar.subi v144 v146
  let v148 : BitVec 1 := Scalar.cmpi .ne v142 v147
  let v149 : BitVec 32 := Scalar.remsi arg1 c4_i32
  let c0_i32_108 : BitVec 32 := 0#32
  let v150 : BitVec 1 := Scalar.cmpi .ne v149 c0_i32_108
  let v151 : BitVec 1 := Scalar.andi v148 v150
  let v137 : BitVec 32 := Scalar.divsi arg1 c4_i32
  let c1_i32_109 : BitVec 32 := 1#32
  let v152 : BitVec 32 := Scalar.subi v137 c1_i32_109
  let v153 : BitVec 32 := Scalar.select v151 v152 v137
  let c1_i32_110 : BitVec 32 := 1#32
  let v154 : BitVec 32 := Scalar.addi v153 c1_i32_110
  let v155 : BitVec 32 := Scalar.subi v154 c0_i32_111
  let c1_i32_112 : BitVec 32 := 1#32
  let v157 : BitVec 32 := Scalar.divsi v155 c1_i32_112
  let v158 : BitVec 32 := Scalar.muli v157 c1_i32_112
  let v159 : BitVec 32 := Scalar.addi c0_i32_111 v158
  let c1_i32_114 : BitVec 32 := 1#32
  let arg17 : BitVec 32 := Scf.iv v159 c1_i32_114 k0_t2
  let c1_i32_188 : BitVec 32 := 1#32
  let v365 : BitVec 32 := Scalar.addi arg17 c1_i32_188
  let v369 : BitVec 32 := Scalar.muli c4_i32_191 v365
  let v370 : BitVec 32 := Scalar.subi arg1 v369
  let v371 : BitVec 32 := Scalar.subi v370 c0_i32_192
  let c0_i32_193 : BitVec 32 := 0#32
  let v372 : BitVec 1 := Scalar.cmpi .slt v371 c0_i32_193
  let c18_i32_195 : BitVec 32 := 18#32
  let c17_i32_194 : BitVec 32 := 17#32
  let v373 : BitVec 32 := Scalar.minsi v371 c17_i32_194
  let v374 : BitVec 32 := Scalar.select v372 c18_i32_195 v373
  let v375 : Index := Scalar.indexCast v374
  let c0_197 : Index := 0#32
  let c0_198 : Index := 0#32
  ![0, v375.toNat, 0, 0]
def k0_off45 (i : grid0.Coords) (k0_t2 : Fin (k0_t2_loop i).trips) : Fin 4 → Nat :=
  let c0_223 : Index := 0#32
  let c0_224 : Index := 0#32
  let c0_i32_111 : BitVec 32 := 0#32
  let arg1 : BitVec 32 := BitVec.ofNat 32 (i 1).val
  let c0_i32_104 : BitVec 32 := 0#32
  let v138 : BitVec 1 := Scalar.cmpi .sgt arg1 c0_i32_104
  let v139 : BitVec 32 := Scalar.extui v138
  let c0_i32_105 : BitVec 32 := 0#32
  let v140 : BitVec 1 := Scalar.cmpi .slt arg1 c0_i32_105
  let v141 : BitVec 32 := Scalar.extui v140
  let v142 : BitVec 32 := Scalar.subi v139 v141
  let c4_i32 : BitVec 32 := 4#32
  let c0_i32_106 : BitVec 32 := 0#32
  let v143 : BitVec 1 := Scalar.cmpi .sgt c4_i32 c0_i32_106
  let v144 : BitVec 32 := Scalar.extui v143
  let c0_i32_107 : BitVec 32 := 0#32
  let v145 : BitVec 1 := Scalar.cmpi .slt c4_i32 c0_i32_107
  let v146 : BitVec 32 := Scalar.extui v145
  let v147 : BitVec 32 := Scalar.subi v144 v146
  let v148 : BitVec 1 := Scalar.cmpi .ne v142 v147
  let v149 : BitVec 32 := Scalar.remsi arg1 c4_i32
  let c0_i32_108 : BitVec 32 := 0#32
  let v150 : BitVec 1 := Scalar.cmpi .ne v149 c0_i32_108
  let v151 : BitVec 1 := Scalar.andi v148 v150
  let v137 : BitVec 32 := Scalar.divsi arg1 c4_i32
  let c1_i32_109 : BitVec 32 := 1#32
  let v152 : BitVec 32 := Scalar.subi v137 c1_i32_109
  let v153 : BitVec 32 := Scalar.select v151 v152 v137
  let c1_i32_110 : BitVec 32 := 1#32
  let v154 : BitVec 32 := Scalar.addi v153 c1_i32_110
  let v155 : BitVec 32 := Scalar.subi v154 c0_i32_111
  let c1_i32_112 : BitVec 32 := 1#32
  let v157 : BitVec 32 := Scalar.divsi v155 c1_i32_112
  let v158 : BitVec 32 := Scalar.muli v157 c1_i32_112
  let v159 : BitVec 32 := Scalar.addi c0_i32_111 v158
  let c1_i32_114 : BitVec 32 := 1#32
  let arg17 : BitVec 32 := Scf.iv v159 c1_i32_114 k0_t2
  let c1_i32_188 : BitVec 32 := 1#32
  let v365 : BitVec 32 := Scalar.addi arg17 c1_i32_188
  let c15_i32_189 : BitVec 32 := 15#32
  let v366 : BitVec 32 := Scalar.minsi v365 c15_i32_189
  let c512_i32_190 : BitVec 32 := 512#32
  let v367 : BitVec 32 := Scalar.muli v366 c512_i32_190
  let v368 : BitVec 32 := v367
  let v405 : Index := Scalar.indexCast v368
  let c0_225 : Index := 0#32
  ![0, 0, v405.toNat, 0]
def k0_off46 (i : grid0.Coords) (k0_t2 : Fin (k0_t2_loop i).trips) : Fin 5 → Nat :=
  let c0_239 : Index := 0#32
  let c1_240 : Index := 1#32
  let c0_i32_111 : BitVec 32 := 0#32
  let arg1 : BitVec 32 := BitVec.ofNat 32 (i 1).val
  let c0_i32_104 : BitVec 32 := 0#32
  let v138 : BitVec 1 := Scalar.cmpi .sgt arg1 c0_i32_104
  let v139 : BitVec 32 := Scalar.extui v138
  let c0_i32_105 : BitVec 32 := 0#32
  let v140 : BitVec 1 := Scalar.cmpi .slt arg1 c0_i32_105
  let v141 : BitVec 32 := Scalar.extui v140
  let v142 : BitVec 32 := Scalar.subi v139 v141
  let c4_i32 : BitVec 32 := 4#32
  let c0_i32_106 : BitVec 32 := 0#32
  let v143 : BitVec 1 := Scalar.cmpi .sgt c4_i32 c0_i32_106
  let v144 : BitVec 32 := Scalar.extui v143
  let c0_i32_107 : BitVec 32 := 0#32
  let v145 : BitVec 1 := Scalar.cmpi .slt c4_i32 c0_i32_107
  let v146 : BitVec 32 := Scalar.extui v145
  let v147 : BitVec 32 := Scalar.subi v144 v146
  let v148 : BitVec 1 := Scalar.cmpi .ne v142 v147
  let v149 : BitVec 32 := Scalar.remsi arg1 c4_i32
  let c0_i32_108 : BitVec 32 := 0#32
  let v150 : BitVec 1 := Scalar.cmpi .ne v149 c0_i32_108
  let v151 : BitVec 1 := Scalar.andi v148 v150
  let v137 : BitVec 32 := Scalar.divsi arg1 c4_i32
  let c1_i32_109 : BitVec 32 := 1#32
  let v152 : BitVec 32 := Scalar.subi v137 c1_i32_109
  let v153 : BitVec 32 := Scalar.select v151 v152 v137
  let c1_i32_110 : BitVec 32 := 1#32
  let v154 : BitVec 32 := Scalar.addi v153 c1_i32_110
  let v155 : BitVec 32 := Scalar.subi v154 c0_i32_111
  let c1_i32_112 : BitVec 32 := 1#32
  let v157 : BitVec 32 := Scalar.divsi v155 c1_i32_112
  let v158 : BitVec 32 := Scalar.muli v157 c1_i32_112
  let v159 : BitVec 32 := Scalar.addi c0_i32_111 v158
  let c1_i32_114 : BitVec 32 := 1#32
  let arg17 : BitVec 32 := Scf.iv v159 c1_i32_114 k0_t2
  let c1_i32_237 : BitVec 32 := 1#32
  let v424 : BitVec 32 := Scalar.subi arg17 c1_i32_237
  let c0_i32_238 : BitVec 32 := 0#32
  let v425 : BitVec 32 := Scalar.maxsi v424 c0_i32_238
  let v426 : Index := Scalar.indexCast v425
  let c0_241 : Index := 0#32
  let c0_242 : Index := 0#32
  ![0, 1, v426.toNat, 0, 0]
def k0_mult14 (i : grid0.Coords) (k0_t2 : Fin (k0_t2_loop i).trips) : BitVec 32 :=
  let c0_i32_111 : BitVec 32 := 0#32
  let arg1 : BitVec 32 := BitVec.ofNat 32 (i 1).val
  let c0_i32_104 : BitVec 32 := 0#32
  let v138 : BitVec 1 := Scalar.cmpi .sgt arg1 c0_i32_104
  let v139 : BitVec 32 := Scalar.extui v138
  let c0_i32_105 : BitVec 32 := 0#32
  let v140 : BitVec 1 := Scalar.cmpi .slt arg1 c0_i32_105
  let v141 : BitVec 32 := Scalar.extui v140
  let v142 : BitVec 32 := Scalar.subi v139 v141
  let c4_i32 : BitVec 32 := 4#32
  let c0_i32_106 : BitVec 32 := 0#32
  let v143 : BitVec 1 := Scalar.cmpi .sgt c4_i32 c0_i32_106
  let v144 : BitVec 32 := Scalar.extui v143
  let c0_i32_107 : BitVec 32 := 0#32
  let v145 : BitVec 1 := Scalar.cmpi .slt c4_i32 c0_i32_107
  let v146 : BitVec 32 := Scalar.extui v145
  let v147 : BitVec 32 := Scalar.subi v144 v146
  let v148 : BitVec 1 := Scalar.cmpi .ne v142 v147
  let v149 : BitVec 32 := Scalar.remsi arg1 c4_i32
  let c0_i32_108 : BitVec 32 := 0#32
  let v150 : BitVec 1 := Scalar.cmpi .ne v149 c0_i32_108
  let v151 : BitVec 1 := Scalar.andi v148 v150
  let v137 : BitVec 32 := Scalar.divsi arg1 c4_i32
  let c1_i32_109 : BitVec 32 := 1#32
  let v152 : BitVec 32 := Scalar.subi v137 c1_i32_109
  let v153 : BitVec 32 := Scalar.select v151 v152 v137
  let c1_i32_110 : BitVec 32 := 1#32
  let v154 : BitVec 32 := Scalar.addi v153 c1_i32_110
  let v155 : BitVec 32 := Scalar.subi v154 c0_i32_111
  let c1_i32_112 : BitVec 32 := 1#32
  let v157 : BitVec 32 := Scalar.divsi v155 c1_i32_112
  let v158 : BitVec 32 := Scalar.muli v157 c1_i32_112
  let v159 : BitVec 32 := Scalar.addi c0_i32_111 v158
  let c1_i32_114 : BitVec 32 := 1#32
  let arg17 : BitVec 32 := Scf.iv v159 c1_i32_114 k0_t2
  let c1_i32_253 : BitVec 32 := 1#32
  let v447 : BitVec 32 := Scalar.addi arg17 c1_i32_253
  let c15_i32_254 : BitVec 32 := 15#32
  let v448 : BitVec 32 := Scalar.minsi v447 c15_i32_254
  let c512_i32_255 : BitVec 32 := 512#32
  let v449 : BitVec 32 := Scalar.muli v448 c512_i32_255
  v449
def k0_off47 (i : grid0.Coords) (k0_t2 : Fin (k0_t2_loop i).trips) (c0_i32_257 : BitVec 32) : Fin 4 → Nat :=
  let c1_261 : Index := 1#32
  let arg1 : BitVec 32 := BitVec.ofNat 32 (i 1).val
  let c4_i32_256 : BitVec 32 := 4#32
  let c0_i32_111 : BitVec 32 := 0#32
  let c0_i32_104 : BitVec 32 := 0#32
  let v138 : BitVec 1 := Scalar.cmpi .sgt arg1 c0_i32_104
  let v139 : BitVec 32 := Scalar.extui v138
  let c0_i32_105 : BitVec 32 := 0#32
  let v140 : BitVec 1 := Scalar.cmpi .slt arg1 c0_i32_105
  let v141 : BitVec 32 := Scalar.extui v140
  let v142 : BitVec 32 := Scalar.subi v139 v141
  let c4_i32 : BitVec 32 := 4#32
  let c0_i32_106 : BitVec 32 := 0#32
  let v143 : BitVec 1 := Scalar.cmpi .sgt c4_i32 c0_i32_106
  let v144 : BitVec 32 := Scalar.extui v143
  let c0_i32_107 : BitVec 32 := 0#32
  let v145 : BitVec 1 := Scalar.cmpi .slt c4_i32 c0_i32_107
  let v146 : BitVec 32 := Scalar.extui v145
  let v147 : BitVec 32 := Scalar.subi v144 v146
  let v148 : BitVec 1 := Scalar.cmpi .ne v142 v147
  let v149 : BitVec 32 := Scalar.remsi arg1 c4_i32
  let c0_i32_108 : BitVec 32 := 0#32
  let v150 : BitVec 1 := Scalar.cmpi .ne v149 c0_i32_108
  let v151 : BitVec 1 := Scalar.andi v148 v150
  let v137 : BitVec 32 := Scalar.divsi arg1 c4_i32
  let c1_i32_109 : BitVec 32 := 1#32
  let v152 : BitVec 32 := Scalar.subi v137 c1_i32_109
  let v153 : BitVec 32 := Scalar.select v151 v152 v137
  let c1_i32_110 : BitVec 32 := 1#32
  let v154 : BitVec 32 := Scalar.addi v153 c1_i32_110
  let v155 : BitVec 32 := Scalar.subi v154 c0_i32_111
  let c1_i32_112 : BitVec 32 := 1#32
  let v157 : BitVec 32 := Scalar.divsi v155 c1_i32_112
  let v158 : BitVec 32 := Scalar.muli v157 c1_i32_112
  let v159 : BitVec 32 := Scalar.addi c0_i32_111 v158
  let c1_i32_114 : BitVec 32 := 1#32
  let arg17 : BitVec 32 := Scf.iv v159 c1_i32_114 k0_t2
  let c1_i32_253 : BitVec 32 := 1#32
  let v447 : BitVec 32 := Scalar.addi arg17 c1_i32_253
  let v451 : BitVec 32 := Scalar.muli c4_i32_256 v447
  let v452 : BitVec 32 := Scalar.subi arg1 v451
  let v453 : BitVec 32 := Scalar.subi v452 c0_i32_257
  let c0_i32_258 : BitVec 32 := 0#32
  let v454 : BitVec 1 := Scalar.cmpi .slt v453 c0_i32_258
  let c18_i32_260 : BitVec 32 := 18#32
  let c17_i32_259 : BitVec 32 := 17#32
  let v455 : BitVec 32 := Scalar.minsi v453 c17_i32_259
  let v456 : BitVec 32 := Scalar.select v454 c18_i32_260 v455
  let v457 : Index := Scalar.indexCast v456
  let c0_262 : Index := 0#32
  let c0_263 : Index := 0#32
  ![1, v457.toNat, 0, 0]
def k0_off48 (i : grid0.Coords) (k0_t2 : Fin (k0_t2_loop i).trips) : Fin 4 → Nat :=
  let c0_288 : Index := 0#32
  let c1_289 : Index := 1#32
  let c0_i32_111 : BitVec 32 := 0#32
  let arg1 : BitVec 32 := BitVec.ofNat 32 (i 1).val
  let c0_i32_104 : BitVec 32 := 0#32
  let v138 : BitVec 1 := Scalar.cmpi .sgt arg1 c0_i32_104
  let v139 : BitVec 32 := Scalar.extui v138
  let c0_i32_105 : BitVec 32 := 0#32
  let v140 : BitVec 1 := Scalar.cmpi .slt arg1 c0_i32_105
  let v141 : BitVec 32 := Scalar.extui v140
  let v142 : BitVec 32 := Scalar.subi v139 v141
  let c4_i32 : BitVec 32 := 4#32
  let c0_i32_106 : BitVec 32 := 0#32
  let v143 : BitVec 1 := Scalar.cmpi .sgt c4_i32 c0_i32_106
  let v144 : BitVec 32 := Scalar.extui v143
  let c0_i32_107 : BitVec 32 := 0#32
  let v145 : BitVec 1 := Scalar.cmpi .slt c4_i32 c0_i32_107
  let v146 : BitVec 32 := Scalar.extui v145
  let v147 : BitVec 32 := Scalar.subi v144 v146
  let v148 : BitVec 1 := Scalar.cmpi .ne v142 v147
  let v149 : BitVec 32 := Scalar.remsi arg1 c4_i32
  let c0_i32_108 : BitVec 32 := 0#32
  let v150 : BitVec 1 := Scalar.cmpi .ne v149 c0_i32_108
  let v151 : BitVec 1 := Scalar.andi v148 v150
  let v137 : BitVec 32 := Scalar.divsi arg1 c4_i32
  let c1_i32_109 : BitVec 32 := 1#32
  let v152 : BitVec 32 := Scalar.subi v137 c1_i32_109
  let v153 : BitVec 32 := Scalar.select v151 v152 v137
  let c1_i32_110 : BitVec 32 := 1#32
  let v154 : BitVec 32 := Scalar.addi v153 c1_i32_110
  let v155 : BitVec 32 := Scalar.subi v154 c0_i32_111
  let c1_i32_112 : BitVec 32 := 1#32
  let v157 : BitVec 32 := Scalar.divsi v155 c1_i32_112
  let v158 : BitVec 32 := Scalar.muli v157 c1_i32_112
  let v159 : BitVec 32 := Scalar.addi c0_i32_111 v158
  let c1_i32_114 : BitVec 32 := 1#32
  let arg17 : BitVec 32 := Scf.iv v159 c1_i32_114 k0_t2
  let c1_i32_253 : BitVec 32 := 1#32
  let v447 : BitVec 32 := Scalar.addi arg17 c1_i32_253
  let c15_i32_254 : BitVec 32 := 15#32
  let v448 : BitVec 32 := Scalar.minsi v447 c15_i32_254
  let c512_i32_255 : BitVec 32 := 512#32
  let v449 : BitVec 32 := Scalar.muli v448 c512_i32_255
  let v450 : BitVec 32 := v449
  let v487 : Index := Scalar.indexCast v450
  let c0_290 : Index := 0#32
  ![0, 1, v487.toNat, 0]
def k0_off49 (i : grid0.Coords) : Fin 5 → Nat :=
  let c0_116 : Index := 0#32
  let c0_117 : Index := 0#32
  let arg1 : BitVec 32 := BitVec.ofNat 32 (i 1).val
  let c0_i32_104 : BitVec 32 := 0#32
  let v138 : BitVec 1 := Scalar.cmpi .sgt arg1 c0_i32_104
  let v139 : BitVec 32 := Scalar.extui v138
  let c0_i32_105 : BitVec 32 := 0#32
  let v140 : BitVec 1 := Scalar.cmpi .slt arg1 c0_i32_105
  let v141 : BitVec 32 := Scalar.extui v140
  let v142 : BitVec 32 := Scalar.subi v139 v141
  let c4_i32 : BitVec 32 := 4#32
  let c0_i32_106 : BitVec 32 := 0#32
  let v143 : BitVec 1 := Scalar.cmpi .sgt c4_i32 c0_i32_106
  let v144 : BitVec 32 := Scalar.extui v143
  let c0_i32_107 : BitVec 32 := 0#32
  let v145 : BitVec 1 := Scalar.cmpi .slt c4_i32 c0_i32_107
  let v146 : BitVec 32 := Scalar.extui v145
  let v147 : BitVec 32 := Scalar.subi v144 v146
  let v148 : BitVec 1 := Scalar.cmpi .ne v142 v147
  let v149 : BitVec 32 := Scalar.remsi arg1 c4_i32
  let c0_i32_108 : BitVec 32 := 0#32
  let v150 : BitVec 1 := Scalar.cmpi .ne v149 c0_i32_108
  let v151 : BitVec 1 := Scalar.andi v148 v150
  let v137 : BitVec 32 := Scalar.divsi arg1 c4_i32
  let c1_i32_109 : BitVec 32 := 1#32
  let v152 : BitVec 32 := Scalar.subi v137 c1_i32_109
  let v153 : BitVec 32 := Scalar.select v151 v152 v137
  let c1_i32_110 : BitVec 32 := 1#32
  let v154 : BitVec 32 := Scalar.addi v153 c1_i32_110
  let c1_i32_115 : BitVec 32 := 1#32
  let v162 : BitVec 32 := Scalar.subi v154 c1_i32_115
  let v163 : Index := Scalar.indexCast v162
  let c0_118 : Index := 0#32
  let c0_119 : Index := 0#32
  ![0, 0, v163.toNat, 0, 0]
def k0_off50 (i : grid0.Coords) : Fin 5 → Nat :=
  let c0_145 : Index := 0#32
  let c1_146 : Index := 1#32
  let arg1 : BitVec 32 := BitVec.ofNat 32 (i 1).val
  let c0_i32_104 : BitVec 32 := 0#32
  let v138 : BitVec 1 := Scalar.cmpi .sgt arg1 c0_i32_104
  let v139 : BitVec 32 := Scalar.extui v138
  let c0_i32_105 : BitVec 32 := 0#32
  let v140 : BitVec 1 := Scalar.cmpi .slt arg1 c0_i32_105
  let v141 : BitVec 32 := Scalar.extui v140
  let v142 : BitVec 32 := Scalar.subi v139 v141
  let c4_i32 : BitVec 32 := 4#32
  let c0_i32_106 : BitVec 32 := 0#32
  let v143 : BitVec 1 := Scalar.cmpi .sgt c4_i32 c0_i32_106
  let v144 : BitVec 32 := Scalar.extui v143
  let c0_i32_107 : BitVec 32 := 0#32
  let v145 : BitVec 1 := Scalar.cmpi .slt c4_i32 c0_i32_107
  let v146 : BitVec 32 := Scalar.extui v145
  let v147 : BitVec 32 := Scalar.subi v144 v146
  let v148 : BitVec 1 := Scalar.cmpi .ne v142 v147
  let v149 : BitVec 32 := Scalar.remsi arg1 c4_i32
  let c0_i32_108 : BitVec 32 := 0#32
  let v150 : BitVec 1 := Scalar.cmpi .ne v149 c0_i32_108
  let v151 : BitVec 1 := Scalar.andi v148 v150
  let v137 : BitVec 32 := Scalar.divsi arg1 c4_i32
  let c1_i32_109 : BitVec 32 := 1#32
  let v152 : BitVec 32 := Scalar.subi v137 c1_i32_109
  let v153 : BitVec 32 := Scalar.select v151 v152 v137
  let c1_i32_110 : BitVec 32 := 1#32
  let v154 : BitVec 32 := Scalar.addi v153 c1_i32_110
  let c1_i32_144 : BitVec 32 := 1#32
  let v252 : BitVec 32 := Scalar.subi v154 c1_i32_144
  let v253 : Index := Scalar.indexCast v252
  let c0_147 : Index := 0#32
  let c0_148 : Index := 0#32
  ![0, 1, v253.toNat, 0, 0]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x2x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2x20x128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2x512x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x2x80x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x2x8192x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x2x16x80x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1x2x8192x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1x2x64x80x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S2x20x8x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "half_mask" => some ⊥
  | "log2e" => some (((Real.log 2)⁻¹ : ℝ) : EReal)
  | "mask" => some ⊥
  | "q_scale" => some (((1 / 8) * (Real.log 2)⁻¹ : ℝ) : EReal)
  | _ => none
-- ==== ReferenceIdeal.lean ====
abbrev S2x8192x8x64 : Shape := ⟨4, ![2, 8192, 8, 64]⟩
abbrev S2x8192x8x3 : Shape := ⟨4, ![2, 8192, 8, 3]⟩
abbrev S2x2x511x64 : Shape := ⟨4, ![2, 2, 511, 64]⟩
abbrev S2x8192x2x64 : Shape := ⟨4, ![2, 8192, 2, 64]⟩
abbrev S32x8 : Shape := ⟨2, ![32, 8]⟩
abbrev S2x8192x2x4x64 : Shape := ⟨5, ![2, 8192, 2, 4, 64]⟩
abbrev S2x8192x2x4x3 : Shape := ⟨5, ![2, 8192, 2, 4, 3]⟩
abbrev S32x2x4 : Shape := ⟨3, ![32, 2, 4]⟩
abbrev S2x4x32 : Shape := ⟨3, ![2, 4, 32]⟩
abbrev S8192x511 : Shape := ⟨2, ![8192, 511]⟩
abbrev S_ : Shape := ⟨0, ![]⟩
abbrev S2x2x511x8192x4 : Shape := ⟨5, ![2, 2, 511, 8192, 4]⟩
abbrev S2x2x4x8192x511 : Shape := ⟨5, ![2, 2, 4, 8192, 511]⟩
abbrev S8192x511x1 : Shape := ⟨3, ![8192, 511, 1]⟩
abbrev S2x4x8192x511 : Shape := ⟨4, ![2, 4, 8192, 511]⟩
abbrev S1x2x4x8192x511 : Shape := ⟨5, ![1, 2, 4, 8192, 511]⟩
abbrev S2x2x4x8192 : Shape := ⟨4, ![2, 2, 4, 8192]⟩
abbrev S2x2x4x8192x1 : Shape := ⟨5, ![2, 2, 4, 8192, 1]⟩
abbrev S2x2x4x8192x64 : Shape := ⟨5, ![2, 2, 4, 8192, 64]⟩
abbrev S511x128 : Shape := ⟨2, ![511, 128]⟩
abbrev S2x2x8192x511 : Shape := ⟨4, ![2, 2, 8192, 511]⟩
abbrev S2x2x8192x128 : Shape := ⟨4, ![2, 2, 8192, 128]⟩
abbrev S8192x128 : Shape := ⟨2, ![8192, 128]⟩
abbrev S2x2x8192x128x1 : Shape := ⟨5, ![2, 2, 8192, 128, 1]⟩
abbrev S2x2x8192x1x128 : Shape := ⟨5, ![2, 2, 8192, 1, 128]⟩
abbrev S128x128 : Shape := ⟨2, ![128, 128]⟩
abbrev S2x2x8192x128x128 : Shape := ⟨5, ![2, 2, 8192, 128, 128]⟩
abbrev S1x1x1x128x128 : Shape := ⟨5, ![1, 1, 1, 128, 128]⟩
abbrev S8192x8192 : Shape := ⟨2, ![8192, 8192]⟩
abbrev S2x2x8192x64 : Shape := ⟨4, ![2, 2, 8192, 64]⟩
abbrev S2x2x8192x128x64 : Shape := ⟨5, ![2, 2, 8192, 128, 64]⟩
abbrev S2x2x8192x8192 : Shape := ⟨4, ![2, 2, 8192, 8192]⟩
abbrev S2x2x1x8192x8192 : Shape := ⟨5, ![2, 2, 1, 8192, 8192]⟩
abbrev S1x1x1x8192x8192 : Shape := ⟨5, ![1, 1, 1, 8192, 8192]⟩
abbrev S2x2x8192x8192x4 : Shape := ⟨5, ![2, 2, 8192, 8192, 4]⟩
abbrev S2x2x4x8192x8192 : Shape := ⟨5, ![2, 2, 4, 8192, 8192]⟩
abbrev S8192x8192x1 : Shape := ⟨3, ![8192, 8192, 1]⟩
abbrev S2x4x8192x8192 : Shape := ⟨4, ![2, 4, 8192, 8192]⟩
abbrev S1x2x4x8192x8192 : Shape := ⟨5, ![1, 2, 4, 8192, 8192]⟩
abbrev S2x2x4x8192x3 : Shape := ⟨5, ![2, 2, 4, 8192, 3]⟩
abbrev S2x8x64x128x64 : Shape := ⟨5, ![2, 8, 64, 128, 64]⟩
abbrev S2x64x8x64x128 : Shape := ⟨5, ![2, 64, 8, 64, 128]⟩
abbrev S2x64x512x128 : Shape := ⟨4, ![2, 64, 512, 128]⟩

abbrev nBuf : Space → Nat
  | .hbm => 376
  | .vmem => 0
  | .smem => 0
  | _ => 0

abbrev hbmTy0_0 (i : Nat) : BufTy := match i % 128 with
  | 0 => ⟨S2x8192x8x64, .f32⟩
  | 1 => ⟨S2x8192x8x3, .f32⟩
  | 2 => ⟨S2x2x511x64, .f32⟩
  | 3 => ⟨S2x2x511x64, .f32⟩
  | 4 => ⟨S2x8192x2x64, .f32⟩
  | 5 => ⟨S2x8192x2x64, .f32⟩
  | 6 => ⟨S2x8192x2x64, .f32⟩
  | 7 => ⟨S2x8192x2x64, .f32⟩
  | 8 => ⟨S32x8, .f32⟩
  | 9 => ⟨S2x8192x2x4x64, .f32⟩
  | 10 => ⟨S2x8192x2x4x3, .f32⟩
  | 11 => ⟨S32x2x4, .f32⟩
  | 12 => ⟨S2x4x32, .f32⟩
  | 13 => ⟨S8192x511, .i32⟩
  | 14 => ⟨S8192x511, .i32⟩
  | 15 => ⟨S_, .i32⟩
  | 16 => ⟨S8192x511, .i32⟩
  | 17 => ⟨S8192x511, .i32⟩
  | 18 => ⟨S_, .i32⟩
  | 19 => ⟨S8192x511, .i32⟩
  | 20 => ⟨S8192x511, .i32⟩
  | 21 => ⟨S_, .i32⟩
  | 22 => ⟨S8192x511, .i32⟩
  | 23 => ⟨S8192x511, .i32⟩
  | 24 => ⟨S8192x511, .i32⟩
  | 25 => ⟨S_, .i32⟩
  | 26 => ⟨S8192x511, .i32⟩
  | 27 => ⟨S8192x511, .i1⟩
  | 28 => ⟨S2x2x511x8192x4, .f32⟩
  | 29 => ⟨S2x2x4x8192x511, .f32⟩
  | 30 => ⟨S_, .f32⟩
  | 31 => ⟨S2x2x4x8192x511, .f32⟩
  | 32 => ⟨S2x2x4x8192x511, .f32⟩
  | 33 => ⟨S_, .i32⟩
  | 34 => ⟨S8192x511, .i32⟩
  | 35 => ⟨S8192x511, .i32⟩
  | 36 => ⟨S_, .i32⟩
  | 37 => ⟨S8192x511, .i32⟩
  | 38 => ⟨S8192x511, .i32⟩
  | 39 => ⟨S8192x511, .f32⟩
  | 40 => ⟨S_, .f32⟩
  | 41 => ⟨S8192x511, .f32⟩
  | 42 => ⟨S8192x511, .f32⟩
  | 43 => ⟨S8192x511, .f32⟩
  | 44 => ⟨S_, .f32⟩
  | 45 => ⟨S8192x511, .f32⟩
  | 46 => ⟨S8192x511, .f32⟩
  | 47 => ⟨S_, .f32⟩
  | 48 => ⟨S8192x511, .f32⟩
  | 49 => ⟨S8192x511, .f32⟩
  | 50 => ⟨S8192x511, .i32⟩
  | 51 => ⟨S_, .i32⟩
  | 52 => ⟨S8192x511, .i32⟩
  | 53 => ⟨S8192x511, .i32⟩
  | 54 => ⟨S_, .i32⟩
  | 55 => ⟨S8192x511, .i32⟩
  | 56 => ⟨S8192x511, .i32⟩
  | 57 => ⟨S_, .i32⟩
  | 58 => ⟨S8192x511, .i32⟩
  | 59 => ⟨S8192x511, .i1⟩
  | 60 => ⟨S8192x511, .i32⟩
  | 61 => ⟨S_, .i32⟩
  | 62 => ⟨S8192x511, .i32⟩
  | 63 => ⟨S8192x511, .i1⟩
  | 64 => ⟨S_, .i32⟩
  | 65 => ⟨S8192x511, .i32⟩
  | 66 => ⟨S8192x511, .i32⟩
  | 67 => ⟨S8192x511, .i32⟩
  | 68 => ⟨S8192x511x1, .i32⟩
  | 69 => ⟨S2x4x8192x511, .f32⟩
  | 70 => ⟨S1x2x4x8192x511, .f32⟩
  | 71 => ⟨S2x2x4x8192x511, .f32⟩
  | 72 => ⟨S2x2x4x8192x511, .f32⟩
  | 73 => ⟨S_, .f32⟩
  | 74 => ⟨S_, .f32⟩
  | 75 => ⟨S2x2x4x8192x511, .i1⟩
  | 76 => ⟨S2x2x4x8192x511, .f32⟩
  | 77 => ⟨S2x2x4x8192x511, .f32⟩
  | 78 => ⟨S_, .f32⟩
  | 79 => ⟨S2x2x4x8192, .f32⟩
  | 80 => ⟨S2x2x4x8192x1, .f32⟩
  | 81 => ⟨S2x2x4x8192x511, .f32⟩
  | 82 => ⟨S2x2x4x8192x511, .f32⟩
  | 83 => ⟨S2x2x4x8192x511, .f32⟩
  | 84 => ⟨S_, .f32⟩
  | 85 => ⟨S_, .f32⟩
  | 86 => ⟨S2x2x4x8192x511, .i1⟩
  | 87 => ⟨S2x2x4x8192x511, .f32⟩
  | 88 => ⟨S2x2x4x8192x511, .f32⟩
  | 89 => ⟨S_, .f32⟩
  | 90 => ⟨S2x2x4x8192, .f32⟩
  | 91 => ⟨S2x2x4x8192x1, .f32⟩
  | 92 => ⟨S_, .f32⟩
  | 93 => ⟨S2x2x4x8192x1, .f32⟩
  | 94 => ⟨S2x2x4x8192x1, .f32⟩
  | 95 => ⟨S2x2x4x8192x511, .f32⟩
  | 96 => ⟨S2x2x4x8192x511, .f32⟩
  | 97 => ⟨S2x2x4x8192x64, .f32⟩
  | 98 => ⟨S511x128, .i32⟩
  | 99 => ⟨S_, .i32⟩
  | 100 => ⟨S511x128, .i32⟩
  | 101 => ⟨S511x128, .i32⟩
  | 102 => ⟨S511x128, .i32⟩
  | 103 => ⟨S_, .i32⟩
  | 104 => ⟨S511x128, .i32⟩
  | 105 => ⟨S511x128, .i32⟩
  | 106 => ⟨S_, .i32⟩
  | 107 => ⟨S511x128, .i32⟩
  | 108 => ⟨S511x128, .i32⟩
  | 109 => ⟨S511x128, .i1⟩
  | 110 => ⟨S_, .i32⟩
  | 111 => ⟨S511x128, .i32⟩
  | 112 => ⟨S511x128, .i32⟩
  | 113 => ⟨S_, .i32⟩
  | 114 => ⟨S511x128, .i32⟩
  | 115 => ⟨S511x128, .i32⟩
  | 116 => ⟨S511x128, .i1⟩
  | 117 => ⟨S511x128, .i1⟩
  | 118 => ⟨S_, .f32⟩
  | 119 => ⟨S_, .f32⟩
  | 120 => ⟨S511x128, .f32⟩
  | 121 => ⟨S511x128, .f32⟩
  | 122 => ⟨S511x128, .f32⟩
  | 123 => ⟨S_, .f32⟩
  | 124 => ⟨S2x2x8192x511, .f32⟩
  | 125 => ⟨S2x2x8192x128, .f32⟩
  | 126 => ⟨S8192x128, .i32⟩
  | 127 => ⟨S8192x128, .i32⟩
  | _ => ⟨S2x8192x8x64, .f32⟩

abbrev hbmTy0_1 (i : Nat) : BufTy := match i % 128 with
  | 0 => ⟨S_, .i32⟩
  | 1 => ⟨S_, .i32⟩
  | 2 => ⟨S8192x128, .i32⟩
  | 3 => ⟨S8192x128, .i32⟩
  | 4 => ⟨S8192x128, .i32⟩
  | 5 => ⟨S_, .i32⟩
  | 6 => ⟨S8192x128, .i32⟩
  | 7 => ⟨S8192x128, .i1⟩
  | 8 => ⟨S8192x128, .i32⟩
  | 9 => ⟨S8192x128, .i32⟩
  | 10 => ⟨S_, .i32⟩
  | 11 => ⟨S8192x128, .i32⟩
  | 12 => ⟨S8192x128, .i1⟩
  | 13 => ⟨S8192x128, .i1⟩
  | 14 => ⟨S_, .i32⟩
  | 15 => ⟨S8192x128, .i32⟩
  | 16 => ⟨S8192x128, .i32⟩
  | 17 => ⟨S8192x128, .i32⟩
  | 18 => ⟨S8192x128, .i32⟩
  | 19 => ⟨S_, .i32⟩
  | 20 => ⟨S8192x128, .i32⟩
  | 21 => ⟨S8192x128, .i1⟩
  | 22 => ⟨S_, .i32⟩
  | 23 => ⟨S8192x128, .i32⟩
  | 24 => ⟨S8192x128, .i1⟩
  | 25 => ⟨S_, .i32⟩
  | 26 => ⟨S8192x128, .i32⟩
  | 27 => ⟨S8192x128, .i1⟩
  | 28 => ⟨S8192x128, .i1⟩
  | 29 => ⟨S8192x128, .i1⟩
  | 30 => ⟨S_, .i32⟩
  | 31 => ⟨S8192x128, .i32⟩
  | 32 => ⟨S8192x128, .i1⟩
  | 33 => ⟨S_, .f32⟩
  | 34 => ⟨S_, .f32⟩
  | 35 => ⟨S2x2x8192x128, .i1⟩
  | 36 => ⟨S2x2x8192x128, .f32⟩
  | 37 => ⟨S2x2x8192x128, .f32⟩
  | 38 => ⟨S_, .f32⟩
  | 39 => ⟨S_, .f32⟩
  | 40 => ⟨S2x2x8192x128, .i1⟩
  | 41 => ⟨S2x2x8192x128, .f32⟩
  | 42 => ⟨S2x2x8192x128, .f32⟩
  | 43 => ⟨S2x2x8192x128x1, .f32⟩
  | 44 => ⟨S2x2x8192x1x128, .f32⟩
  | 45 => ⟨S128x128, .i32⟩
  | 46 => ⟨S128x128, .i32⟩
  | 47 => ⟨S128x128, .i1⟩
  | 48 => ⟨S2x2x8192x128x128, .f32⟩
  | 49 => ⟨S2x2x8192x128x128, .f32⟩
  | 50 => ⟨S2x2x8192x128x128, .i1⟩
  | 51 => ⟨S2x2x8192x128x128, .f32⟩
  | 52 => ⟨S2x2x8192x128x128, .f32⟩
  | 53 => ⟨S2x2x8192x128x128, .i1⟩
  | 54 => ⟨S1x1x1x128x128, .i1⟩
  | 55 => ⟨S2x2x8192x128x128, .i1⟩
  | 56 => ⟨S2x2x8192x128x128, .i1⟩
  | 57 => ⟨S2x2x8192x128x128, .i1⟩
  | 58 => ⟨S_, .f32⟩
  | 59 => ⟨S_, .f32⟩
  | 60 => ⟨S2x2x8192x128x128, .f32⟩
  | 61 => ⟨S2x2x8192x128x128, .f32⟩
  | 62 => ⟨S2x2x8192x128x128, .f32⟩
  | 63 => ⟨S2x2x8192x128x128, .f32⟩
  | 64 => ⟨S_, .f32⟩
  | 65 => ⟨S2x2x8192x128, .f32⟩
  | 66 => ⟨S_, .f32⟩
  | 67 => ⟨S2x2x8192x128, .f32⟩
  | 68 => ⟨S2x2x8192x128, .i1⟩
  | 69 => ⟨S8192x8192, .i32⟩
  | 70 => ⟨S8192x8192, .i32⟩
  | 71 => ⟨S8192x8192, .i32⟩
  | 72 => ⟨S2x2x8192x64, .f32⟩
  | 73 => ⟨S2x2x8192x64, .f32⟩
  | 74 => ⟨S2x2x8192x128x64, .i1⟩
  | 75 => ⟨S2x2x8192x8192, .i1⟩
  | 76 => ⟨S2x2x1x8192x8192, .i1⟩
  | 77 => ⟨S_, .i32⟩
  | 78 => ⟨S8192x8192, .i32⟩
  | 79 => ⟨S8192x8192, .i1⟩
  | 80 => ⟨S1x1x1x8192x8192, .i1⟩
  | 81 => ⟨S2x2x1x8192x8192, .i1⟩
  | 82 => ⟨S2x2x1x8192x8192, .i1⟩
  | 83 => ⟨S2x2x8192x8192x4, .f32⟩
  | 84 => ⟨S2x2x4x8192x8192, .f32⟩
  | 85 => ⟨S_, .f32⟩
  | 86 => ⟨S2x2x4x8192x8192, .f32⟩
  | 87 => ⟨S2x2x4x8192x8192, .f32⟩
  | 88 => ⟨S_, .i32⟩
  | 89 => ⟨S8192x8192, .i32⟩
  | 90 => ⟨S8192x8192, .i32⟩
  | 91 => ⟨S_, .i32⟩
  | 92 => ⟨S8192x8192, .i32⟩
  | 93 => ⟨S8192x8192, .i32⟩
  | 94 => ⟨S8192x8192, .f32⟩
  | 95 => ⟨S_, .f32⟩
  | 96 => ⟨S8192x8192, .f32⟩
  | 97 => ⟨S8192x8192, .f32⟩
  | 98 => ⟨S8192x8192, .f32⟩
  | 99 => ⟨S_, .f32⟩
  | 100 => ⟨S8192x8192, .f32⟩
  | 101 => ⟨S8192x8192, .f32⟩
  | 102 => ⟨S_, .f32⟩
  | 103 => ⟨S8192x8192, .f32⟩
  | 104 => ⟨S8192x8192, .f32⟩
  | 105 => ⟨S8192x8192, .i32⟩
  | 106 => ⟨S_, .i32⟩
  | 107 => ⟨S8192x8192, .i32⟩
  | 108 => ⟨S8192x8192, .i32⟩
  | 109 => ⟨S_, .i32⟩
  | 110 => ⟨S8192x8192, .i32⟩
  | 111 => ⟨S8192x8192, .i32⟩
  | 112 => ⟨S_, .i32⟩
  | 113 => ⟨S8192x8192, .i32⟩
  | 114 => ⟨S8192x8192, .i1⟩
  | 115 => ⟨S8192x8192, .i32⟩
  | 116 => ⟨S_, .i32⟩
  | 117 => ⟨S8192x8192, .i32⟩
  | 118 => ⟨S8192x8192, .i1⟩
  | 119 => ⟨S_, .i32⟩
  | 120 => ⟨S8192x8192, .i32⟩
  | 121 => ⟨S8192x8192, .i32⟩
  | 122 => ⟨S8192x8192, .i32⟩
  | 123 => ⟨S8192x8192x1, .i32⟩
  | 124 => ⟨S2x4x8192x8192, .f32⟩
  | 125 => ⟨S1x2x4x8192x8192, .f32⟩
  | 126 => ⟨S2x2x4x8192x8192, .f32⟩
  | 127 => ⟨S2x2x4x8192x8192, .f32⟩
  | _ => ⟨S2x8192x8x64, .f32⟩

abbrev hbmTy0_2 (i : Nat) : BufTy := match i % 128 with
  | 0 => ⟨S_, .f32⟩
  | 1 => ⟨S_, .f32⟩
  | 2 => ⟨S2x2x4x8192x8192, .i1⟩
  | 3 => ⟨S2x2x4x8192x8192, .f32⟩
  | 4 => ⟨S2x2x4x8192x8192, .f32⟩
  | 5 => ⟨S_, .f32⟩
  | 6 => ⟨S2x2x4x8192, .f32⟩
  | 7 => ⟨S2x2x4x8192x1, .f32⟩
  | 8 => ⟨S2x2x4x8192x8192, .f32⟩
  | 9 => ⟨S2x2x4x8192x8192, .f32⟩
  | 10 => ⟨S2x2x4x8192x8192, .f32⟩
  | 11 => ⟨S_, .f32⟩
  | 12 => ⟨S_, .f32⟩
  | 13 => ⟨S2x2x4x8192x8192, .i1⟩
  | 14 => ⟨S2x2x4x8192x8192, .f32⟩
  | 15 => ⟨S2x2x4x8192x8192, .f32⟩
  | 16 => ⟨S_, .f32⟩
  | 17 => ⟨S2x2x4x8192, .f32⟩
  | 18 => ⟨S2x2x4x8192x1, .f32⟩
  | 19 => ⟨S_, .f32⟩
  | 20 => ⟨S2x2x4x8192x1, .f32⟩
  | 21 => ⟨S2x2x4x8192x1, .f32⟩
  | 22 => ⟨S2x2x4x8192x8192, .f32⟩
  | 23 => ⟨S2x2x4x8192x8192, .f32⟩
  | 24 => ⟨S2x2x4x8192x64, .f32⟩
  | 25 => ⟨S2x2x8192x64, .f32⟩
  | 26 => ⟨S2x2x8192x64, .f32⟩
  | 27 => ⟨S_, .i32⟩
  | 28 => ⟨S8192x8192, .i32⟩
  | 29 => ⟨S8192x8192, .i1⟩
  | 30 => ⟨S_, .i32⟩
  | 31 => ⟨S8192x8192, .i32⟩
  | 32 => ⟨S8192x8192, .i1⟩
  | 33 => ⟨S8192x8192, .i1⟩
  | 34 => ⟨S2x2x8192x8192x4, .f32⟩
  | 35 => ⟨S2x2x4x8192x8192, .f32⟩
  | 36 => ⟨S_, .f32⟩
  | 37 => ⟨S2x2x4x8192x8192, .f32⟩
  | 38 => ⟨S2x2x4x8192x8192, .f32⟩
  | 39 => ⟨S_, .i32⟩
  | 40 => ⟨S8192x8192, .i32⟩
  | 41 => ⟨S8192x8192, .i32⟩
  | 42 => ⟨S_, .i32⟩
  | 43 => ⟨S8192x8192, .i32⟩
  | 44 => ⟨S8192x8192, .i32⟩
  | 45 => ⟨S8192x8192, .f32⟩
  | 46 => ⟨S_, .f32⟩
  | 47 => ⟨S8192x8192, .f32⟩
  | 48 => ⟨S8192x8192, .f32⟩
  | 49 => ⟨S8192x8192, .f32⟩
  | 50 => ⟨S_, .f32⟩
  | 51 => ⟨S8192x8192, .f32⟩
  | 52 => ⟨S8192x8192, .f32⟩
  | 53 => ⟨S_, .f32⟩
  | 54 => ⟨S8192x8192, .f32⟩
  | 55 => ⟨S8192x8192, .f32⟩
  | 56 => ⟨S8192x8192, .i32⟩
  | 57 => ⟨S_, .i32⟩
  | 58 => ⟨S8192x8192, .i32⟩
  | 59 => ⟨S8192x8192, .i32⟩
  | 60 => ⟨S_, .i32⟩
  | 61 => ⟨S8192x8192, .i32⟩
  | 62 => ⟨S8192x8192, .i32⟩
  | 63 => ⟨S_, .i32⟩
  | 64 => ⟨S8192x8192, .i32⟩
  | 65 => ⟨S8192x8192, .i1⟩
  | 66 => ⟨S8192x8192, .i32⟩
  | 67 => ⟨S_, .i32⟩
  | 68 => ⟨S8192x8192, .i32⟩
  | 69 => ⟨S8192x8192, .i1⟩
  | 70 => ⟨S_, .i32⟩
  | 71 => ⟨S8192x8192, .i32⟩
  | 72 => ⟨S8192x8192, .i32⟩
  | 73 => ⟨S8192x8192, .i32⟩
  | 74 => ⟨S8192x8192x1, .i32⟩
  | 75 => ⟨S2x4x8192x8192, .f32⟩
  | 76 => ⟨S1x2x4x8192x8192, .f32⟩
  | 77 => ⟨S2x2x4x8192x8192, .f32⟩
  | 78 => ⟨S2x2x4x8192x8192, .f32⟩
  | 79 => ⟨S_, .f32⟩
  | 80 => ⟨S_, .f32⟩
  | 81 => ⟨S2x2x4x8192x8192, .i1⟩
  | 82 => ⟨S2x2x4x8192x8192, .f32⟩
  | 83 => ⟨S2x2x4x8192x8192, .f32⟩
  | 84 => ⟨S_, .f32⟩
  | 85 => ⟨S2x2x4x8192, .f32⟩
  | 86 => ⟨S2x2x4x8192x1, .f32⟩
  | 87 => ⟨S2x2x4x8192x8192, .f32⟩
  | 88 => ⟨S2x2x4x8192x8192, .f32⟩
  | 89 => ⟨S2x2x4x8192x8192, .f32⟩
  | 90 => ⟨S_, .f32⟩
  | 91 => ⟨S_, .f32⟩
  | 92 => ⟨S2x2x4x8192x8192, .i1⟩
  | 93 => ⟨S2x2x4x8192x8192, .f32⟩
  | 94 => ⟨S2x2x4x8192x8192, .f32⟩
  | 95 => ⟨S_, .f32⟩
  | 96 => ⟨S2x2x4x8192, .f32⟩
  | 97 => ⟨S2x2x4x8192x1, .f32⟩
  | 98 => ⟨S_, .f32⟩
  | 99 => ⟨S2x2x4x8192x1, .f32⟩
  | 100 => ⟨S2x2x4x8192x1, .f32⟩
  | 101 => ⟨S2x2x4x8192x8192, .f32⟩
  | 102 => ⟨S2x2x4x8192x8192, .f32⟩
  | 103 => ⟨S2x2x4x8192x64, .f32⟩
  | 104 => ⟨S2x2x4x8192x3, .f32⟩
  | 105 => ⟨S2x2x4x8192x1, .f32⟩
  | 106 => ⟨S2x2x4x8192x64, .f32⟩
  | 107 => ⟨S2x2x4x8192x64, .f32⟩
  | 108 => ⟨S2x2x4x8192x1, .f32⟩
  | 109 => ⟨S2x2x4x8192x64, .f32⟩
  | 110 => ⟨S2x2x4x8192x64, .f32⟩
  | 111 => ⟨S2x2x4x8192x64, .f32⟩
  | 112 => ⟨S2x2x4x8192x1, .f32⟩
  | 113 => ⟨S2x2x4x8192x64, .f32⟩
  | 114 => ⟨S2x2x4x8192x64, .f32⟩
  | 115 => ⟨S2x2x4x8192x64, .f32⟩
  | 116 => ⟨S2x8x64x128x64, .f32⟩
  | 117 => ⟨S2x64x8x64x128, .f32⟩
  | 118 => ⟨S2x64x512x128, .f32⟩
  | 119 => ⟨S2x64x512x128, .bf16⟩
  | _ => ⟨S2x8192x8x64, .f32⟩

abbrev hbmTy (i : Nat) : BufTy := match i / 128 with
  | 0 => hbmTy0_0 i
  | 1 => hbmTy0_1 i
  | 2 => hbmTy0_2 i
  | _ => ⟨S2x8192x8x64, .f32⟩

abbrev bufTy : (tb : Table) → Fin (tcTables nBuf tb) → BufTy
  | .hbm, ⟨i, _⟩ => hbmTy i
  | _, _ => ⟨S2x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_8 : Ref sig .tc := ⟨.hbm, 51, rfl⟩
abbrev main_v32 : Ref sig .tc := ⟨.hbm, 52, rfl⟩
abbrev main_v33 : Ref sig .tc := ⟨.hbm, 53, rfl⟩
abbrev main_c_9 : Ref sig .tc := ⟨.hbm, 54, rfl⟩
abbrev main_v34 : Ref sig .tc := ⟨.hbm, 55, rfl⟩
abbrev main_v35 : Ref sig .tc := ⟨.hbm, 56, rfl⟩
abbrev main_c_10 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_11 : Ref sig .tc := ⟨.hbm, 61, rfl⟩
abbrev main_v39 : Ref sig .tc := ⟨.hbm, 62, rfl⟩
abbrev main_v40 : Ref sig .tc := ⟨.hbm, 63, rfl⟩
abbrev main_c_12 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_13 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v49 : Ref sig .tc := ⟨.hbm, 77, rfl⟩
abbrev main_cst_14 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_15 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_v55 : Ref sig .tc := ⟨.hbm, 88, rfl⟩
abbrev main_cst_16 : Ref sig .tc := ⟨.hbm, 89, rfl⟩
abbrev main_v56 : Ref sig .tc := ⟨.hbm, 90, rfl⟩
abbrev main_v57 : Ref sig .tc := ⟨.hbm, 91, rfl⟩
abbrev main_cst_17 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_c_18 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_c_19 : Ref sig .tc := ⟨.hbm, 103, rfl⟩
abbrev main_v67 : Ref sig .tc := ⟨.hbm, 104, rfl⟩
abbrev main_v68 : Ref sig .tc := ⟨.hbm, 105, rfl⟩
abbrev main_c_20 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_c_21 : Ref sig .tc := ⟨.hbm, 110, rfl⟩
abbrev main_v72 : Ref sig .tc := ⟨.hbm, 111, rfl⟩
abbrev main_v73 : Ref sig .tc := ⟨.hbm, 112, rfl⟩
abbrev main_c_22 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_23 : Ref sig .tc := ⟨.hbm, 118, rfl⟩
abbrev main_cst_24 : Ref sig .tc := ⟨.hbm, 119, rfl⟩
abbrev main_call3_v0 : Ref sig .tc := ⟨.hbm, 120, rfl⟩
abbrev main_call3_v1 : Ref sig .tc := ⟨.hbm, 121, rfl⟩
abbrev main_v78 : Ref sig .tc := ⟨.hbm, 122, rfl⟩
abbrev main_cst_25 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_c_26 : Ref sig .tc := ⟨.hbm, 128, rfl⟩
abbrev main_call4_v0 : Ref sig .tc := ⟨.hbm, 129, rfl⟩
abbrev main_call4_v1 : Ref sig .tc := ⟨.hbm, 130, rfl⟩
abbrev main_call4_v2 : Ref sig .tc := ⟨.hbm, 131, rfl⟩
abbrev main_call4_v3 : Ref sig .tc := ⟨.hbm, 132, rfl⟩
abbrev main_call4_v4 : Ref sig .tc := ⟨.hbm, 133, rfl⟩
abbrev main_call4_v5 : Ref sig .tc := ⟨.hbm, 134, rfl⟩
abbrev main_call4_v6 : Ref sig .tc := ⟨.hbm, 135, rfl⟩
abbrev main_call4_v7 : Ref sig .tc := ⟨.hbm, 136, rfl⟩
abbrev main_call4_v8 : Ref sig .tc := ⟨.hbm, 137, rfl⟩
abbrev main_call4_c : Ref sig .tc := ⟨.hbm, 138, rfl⟩
abbrev main_call4_v9 : Ref sig .tc := ⟨.hbm, 139, rfl⟩
abbrev main_call4_v10 : Ref sig .tc := ⟨.hbm, 140, rfl⟩
abbrev main_call4_v11 : Ref sig .tc := ⟨.hbm, 141, rfl⟩
abbrev main_call4_c_0 : Ref sig .tc := ⟨.hbm, 142, rfl⟩
abbrev main_call4_v12 : Ref sig .tc := ⟨.hbm, 143, rfl⟩
abbrev main_call4_v13 : Ref sig .tc := ⟨.hbm, 144, rfl⟩
abbrev main_v83 : Ref sig .tc := ⟨.hbm, 145, rfl⟩
abbrev main_v84 : Ref sig .tc := ⟨.hbm, 146, rfl⟩
abbrev main_c_27 : Ref sig .tc := ⟨.hbm, 147, rfl⟩
abbrev main_v85 : Ref sig .tc := ⟨.hbm, 148, rfl⟩
abbrev main_v86 : Ref sig .tc := ⟨.hbm, 149, rfl⟩
abbrev main_c_28 : Ref sig .tc := ⟨.hbm, 150, rfl⟩
abbrev main_v87 : Ref sig .tc := ⟨.hbm, 151, rfl⟩
abbrev main_v88 : Ref sig .tc := ⟨.hbm, 152, rfl⟩
abbrev main_c_29 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_c_30 : Ref sig .tc := ⟨.hbm, 158, rfl⟩
abbrev main_v93 : Ref sig .tc := ⟨.hbm, 159, rfl⟩
abbrev main_v94 : Ref sig .tc := ⟨.hbm, 160, rfl⟩
abbrev main_cst_31 : Ref sig .tc := ⟨.hbm, 161, rfl⟩
abbrev main_call5_v0 : Ref sig .tc := ⟨.hbm, 162, rfl⟩
abbrev main_call5_v1 : Ref sig .tc := ⟨.hbm, 163, rfl⟩
abbrev main_call5_v2 : Ref sig .tc := ⟨.hbm, 164, rfl⟩
abbrev main_v95 : Ref sig .tc := ⟨.hbm, 165, rfl⟩
abbrev main_cst_32 : Ref sig .tc := ⟨.hbm, 166, rfl⟩
abbrev main_call6_v0 : Ref sig .tc := ⟨.hbm, 167, rfl⟩
abbrev main_call6_v1 : Ref sig .tc := ⟨.hbm, 168, rfl⟩
abbrev main_call6_v2 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_cst_33 : Ref sig .tc := ⟨.hbm, 186, rfl⟩
abbrev main_cst_34 : Ref sig .tc := ⟨.hbm, 187, rfl⟩
abbrev main_call7_v0 : Ref sig .tc := ⟨.hbm, 188, rfl⟩
abbrev main_call7_v1 : Ref sig .tc := ⟨.hbm, 189, rfl⟩
abbrev main_v112 : Ref sig .tc := ⟨.hbm, 190, rfl⟩
abbrev main_v113 : Ref sig .tc := ⟨.hbm, 191, rfl⟩
abbrev main_cst_35 : Ref sig .tc := ⟨.hbm, 192, rfl⟩
abbrev main_v114 : Ref sig .tc := ⟨.hbm, 193, rfl⟩
abbrev main_cst_36 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_c_37 : Ref sig .tc := ⟨.hbm, 205, rfl⟩
abbrev main_v125 : Ref sig .tc := ⟨.hbm, 206, rfl⟩
abbrev main_v126 : Ref sig .tc := ⟨.hbm, 207, rfl⟩
abbrev main_v127 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev main_cst_38 : Ref sig .tc := ⟨.hbm, 213, rfl⟩
abbrev main_v132 : Ref sig .tc := ⟨.hbm, 214, rfl⟩
abbrev main_v133 : Ref sig .tc := ⟨.hbm, 215, rfl⟩
abbrev main_c_39 : Ref sig .tc := ⟨.hbm, 216, rfl⟩
abbrev main_v134 : Ref sig .tc := ⟨.hbm, 217, rfl⟩
abbrev main_v135 : Ref sig .tc := ⟨.hbm, 218, rfl⟩
abbrev main_c_40 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_cst_41 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_cst_42 : Ref sig .tc := ⟨.hbm, 227, rfl⟩
abbrev main_v142 : Ref sig .tc := ⟨.hbm, 228, rfl⟩
abbrev main_v143 : Ref sig .tc := ⟨.hbm, 229, rfl⟩
abbrev main_cst_43 : Ref sig .tc := ⟨.hbm, 230, rfl⟩
abbrev main_v144 : Ref sig .tc := ⟨.hbm, 231, rfl⟩
abbrev main_v145 : Ref sig .tc := ⟨.hbm, 232, rfl⟩
abbrev main_v146 : Ref sig .tc := ⟨.hbm, 233, rfl⟩
abbrev main_c_44 : Ref sig .tc := ⟨.hbm, 234, rfl⟩
abbrev main_v147 : Ref sig .tc := ⟨.hbm, 235, rfl⟩
abbrev main_v148 : Ref sig .tc := ⟨.hbm, 236, rfl⟩
abbrev main_c_45 : Ref sig .tc := ⟨.hbm, 237, rfl⟩
abbrev main_v149 : Ref sig .tc := ⟨.hbm, 238, rfl⟩
abbrev main_v150 : Ref sig .tc := ⟨.hbm, 239, rfl⟩
abbrev main_c_46 : Ref sig .tc := ⟨.hbm, 240, rfl⟩
abbrev main_v151 : Ref sig .tc := ⟨.hbm, 241, rfl⟩
abbrev main_v152 : Ref sig .tc := ⟨.hbm, 242, rfl⟩
abbrev main_v153 : Ref sig .tc := ⟨.hbm, 243, rfl⟩
abbrev main_c_47 : Ref sig .tc := ⟨.hbm, 244, rfl⟩
abbrev main_v154 : Ref sig .tc := ⟨.hbm, 245, rfl⟩
abbrev main_v155 : Ref sig .tc := ⟨.hbm, 246, rfl⟩
abbrev main_c_48 : Ref sig .tc := ⟨.hbm, 247, rfl⟩
abbrev main_v156 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_v160 : Ref sig .tc := ⟨.hbm, 252, rfl⟩
abbrev main_v161 : Ref sig .tc := ⟨.hbm, 253, rfl⟩
abbrev main_v162 : Ref sig .tc := ⟨.hbm, 254, rfl⟩
abbrev main_v163 : Ref sig .tc := ⟨.hbm, 255, rfl⟩
abbrev main_cst_49 : Ref sig .tc := ⟨.hbm, 256, rfl⟩
abbrev main_call9_v0 : Ref sig .tc := ⟨.hbm, 257, rfl⟩
abbrev main_call9_v1 : Ref sig .tc := ⟨.hbm, 258, rfl⟩
abbrev main_call9_v2 : Ref sig .tc := ⟨.hbm, 259, rfl⟩
abbrev main_v164 : Ref sig .tc := ⟨.hbm, 260, rfl⟩
abbrev main_cst_50 : Ref sig .tc := ⟨.hbm, 261, rfl⟩
abbrev main_v165 : Ref sig .tc := ⟨.hbm, 262, rfl⟩
abbrev main_v166 : Ref sig .tc := ⟨.hbm, 263, rfl⟩
abbrev main_v167 : Ref sig .tc := ⟨.hbm, 264, rfl⟩
abbrev main_v168 : Ref sig .tc := ⟨.hbm, 265, rfl⟩
abbrev main_v169 : Ref sig .tc := ⟨.hbm, 266, rfl⟩
abbrev main_cst_51 : Ref sig .tc := ⟨.hbm, 267, rfl⟩
abbrev main_call10_v0 : Ref sig .tc := ⟨.hbm, 268, rfl⟩
abbrev main_call10_v1 : Ref sig .tc := ⟨.hbm, 269, rfl⟩
abbrev main_call10_v2 : Ref sig .tc := ⟨.hbm, 270, rfl⟩
abbrev main_v170 : Ref sig .tc := ⟨.hbm, 271, rfl⟩
abbrev main_cst_52 : Ref sig .tc := ⟨.hbm, 272, rfl⟩
abbrev main_v171 : Ref sig .tc := ⟨.hbm, 273, rfl⟩
abbrev main_v172 : Ref sig .tc := ⟨.hbm, 274, rfl⟩
abbrev main_cst_53 : Ref sig .tc := ⟨.hbm, 275, rfl⟩
abbrev main_v173 : Ref sig .tc := ⟨.hbm, 276, rfl⟩
abbrev main_v174 : Ref sig .tc := ⟨.hbm, 277, rfl⟩
abbrev main_v175 : Ref sig .tc := ⟨.hbm, 278, rfl⟩
abbrev main_v176 : Ref sig .tc := ⟨.hbm, 279, rfl⟩
abbrev main_v177 : Ref sig .tc := ⟨.hbm, 280, rfl⟩
abbrev main_v178 : Ref sig .tc := ⟨.hbm, 281, rfl⟩
abbrev main_v179 : Ref sig .tc := ⟨.hbm, 282, rfl⟩
abbrev main_c_54 : Ref sig .tc := ⟨.hbm, 283, rfl⟩
abbrev main_v180 : Ref sig .tc := ⟨.hbm, 284, rfl⟩
abbrev main_v181 : Ref sig .tc := ⟨.hbm, 285, rfl⟩
abbrev main_c_55 : Ref sig .tc := ⟨.hbm, 286, rfl⟩
abbrev main_v182 : Ref sig .tc := ⟨.hbm, 287, rfl⟩
abbrev main_v183 : Ref sig .tc := ⟨.hbm, 288, rfl⟩
abbrev main_v184 : Ref sig .tc := ⟨.hbm, 289, rfl⟩
abbrev main_v185 : Ref sig .tc := ⟨.hbm, 290, rfl⟩
abbrev main_v186 : Ref sig .tc := ⟨.hbm, 291, rfl⟩
abbrev main_cst_56 : Ref sig .tc := ⟨.hbm, 292, rfl⟩
abbrev main_v187 : Ref sig .tc := ⟨.hbm, 293, rfl⟩
abbrev main_v188 : Ref sig .tc := ⟨.hbm, 294, rfl⟩
abbrev main_c_57 : Ref sig .tc := ⟨.hbm, 295, rfl⟩
abbrev main_v189 : Ref sig .tc := ⟨.hbm, 296, rfl⟩
abbrev main_v190 : Ref sig .tc := ⟨.hbm, 297, rfl⟩
abbrev main_c_58 : Ref sig .tc := ⟨.hbm, 298, rfl⟩
abbrev main_v191 : Ref sig .tc := ⟨.hbm, 299, rfl⟩
abbrev main_v192 : Ref sig .tc := ⟨.hbm, 300, rfl⟩
abbrev main_v193 : Ref sig .tc := ⟨.hbm, 301, rfl⟩
abbrev main_cst_59 : Ref sig .tc := ⟨.hbm, 302, rfl⟩
abbrev main_v194 : Ref sig .tc := ⟨.hbm, 303, rfl⟩
abbrev main_v195 : Ref sig .tc := ⟨.hbm, 304, rfl⟩
abbrev main_v196 : Ref sig .tc := ⟨.hbm, 305, rfl⟩
abbrev main_cst_60 : Ref sig .tc := ⟨.hbm, 306, rfl⟩
abbrev main_v197 : Ref sig .tc := ⟨.hbm, 307, rfl⟩
abbrev main_v198 : Ref sig .tc := ⟨.hbm, 308, rfl⟩
abbrev main_cst_61 : Ref sig .tc := ⟨.hbm, 309, rfl⟩
abbrev main_v199 : Ref sig .tc := ⟨.hbm, 310, rfl⟩
abbrev main_v200 : Ref sig .tc := ⟨.hbm, 311, rfl⟩
abbrev main_v201 : Ref sig .tc := ⟨.hbm, 312, rfl⟩
abbrev main_c_62 : Ref sig .tc := ⟨.hbm, 313, rfl⟩
abbrev main_v202 : Ref sig .tc := ⟨.hbm, 314, rfl⟩
abbrev main_v203 : Ref sig .tc := ⟨.hbm, 315, rfl⟩
abbrev main_c_63 : Ref sig .tc := ⟨.hbm, 316, rfl⟩
abbrev main_v204 : Ref sig .tc := ⟨.hbm, 317, rfl⟩
abbrev main_v205 : Ref sig .tc := ⟨.hbm, 318, rfl⟩
abbrev main_c_64 : Ref sig .tc := ⟨.hbm, 319, rfl⟩
abbrev main_v206 : Ref sig .tc := ⟨.hbm, 320, rfl⟩
abbrev main_v207 : Ref sig .tc := ⟨.hbm, 321, rfl⟩
abbrev main_v208 : Ref sig .tc := ⟨.hbm, 322, rfl⟩
abbrev main_c_65 : Ref sig .tc := ⟨.hbm, 323, rfl⟩
abbrev main_v209 : Ref sig .tc := ⟨.hbm, 324, rfl⟩
abbrev main_v210 : Ref sig .tc := ⟨.hbm, 325, rfl⟩
abbrev main_c_66 : Ref sig .tc := ⟨.hbm, 326, rfl⟩
abbrev main_v211 : Ref sig .tc := ⟨.hbm, 327, rfl⟩
abbrev main_v212 : Ref sig .tc := ⟨.hbm, 328, rfl⟩
abbrev main_v213 : Ref sig .tc := ⟨.hbm, 329, rfl⟩
abbrev main_v214 : Ref sig .tc := ⟨.hbm, 330, rfl⟩
abbrev main_v215 : Ref sig .tc := ⟨.hbm, 331, rfl⟩
abbrev main_v216 : Ref sig .tc := ⟨.hbm, 332, rfl⟩
abbrev main_v217 : Ref sig .tc := ⟨.hbm, 333, rfl⟩
abbrev main_v218 : Ref sig .tc := ⟨.hbm, 334, rfl⟩
abbrev main_cst_67 : Ref sig .tc := ⟨.hbm, 335, rfl⟩
abbrev main_call12_v0 : Ref sig .tc := ⟨.hbm, 336, rfl⟩
abbrev main_call12_v1 : Ref sig .tc := ⟨.hbm, 337, rfl⟩
abbrev main_call12_v2 : Ref sig .tc := ⟨.hbm, 338, rfl⟩
abbrev main_v219 : Ref sig .tc := ⟨.hbm, 339, rfl⟩
abbrev main_cst_68 : Ref sig .tc := ⟨.hbm, 340, rfl⟩
abbrev main_v220 : Ref sig .tc := ⟨.hbm, 341, rfl⟩
abbrev main_v221 : Ref sig .tc := ⟨.hbm, 342, rfl⟩
abbrev main_v222 : Ref sig .tc := ⟨.hbm, 343, rfl⟩
abbrev main_v223 : Ref sig .tc := ⟨.hbm, 344, rfl⟩
abbrev main_v224 : Ref sig .tc := ⟨.hbm, 345, rfl⟩
abbrev main_cst_69 : Ref sig .tc := ⟨.hbm, 346, rfl⟩
abbrev main_call13_v0 : Ref sig .tc := ⟨.hbm, 347, rfl⟩
abbrev main_call13_v1 : Ref sig .tc := ⟨.hbm, 348, rfl⟩
abbrev main_call13_v2 : Ref sig .tc := ⟨.hbm, 349, rfl⟩
abbrev main_v225 : Ref sig .tc := ⟨.hbm, 350, rfl⟩
abbrev main_cst_70 : Ref sig .tc := ⟨.hbm, 351, rfl⟩
abbrev main_v226 : Ref sig .tc := ⟨.hbm, 352, rfl⟩
abbrev main_v227 : Ref sig .tc := ⟨.hbm, 353, rfl⟩
abbrev main_cst_71 : Ref sig .tc := ⟨.hbm, 354, rfl⟩
abbrev main_v228 : Ref sig .tc := ⟨.hbm, 355, rfl⟩
abbrev main_v229 : Ref sig .tc := ⟨.hbm, 356, rfl⟩
abbrev main_v230 : Ref sig .tc := ⟨.hbm, 357, rfl⟩
abbrev main_v231 : Ref sig .tc := ⟨.hbm, 358, rfl⟩
abbrev main_v232 : Ref sig .tc := ⟨.hbm, 359, rfl⟩
abbrev main_v233 : Ref sig .tc := ⟨.hbm, 360, rfl⟩
abbrev main_v234 : Ref sig .tc := ⟨.hbm, 361, rfl⟩
abbrev main_v235 : Ref sig .tc := ⟨.hbm, 362, rfl⟩
abbrev main_v236 : Ref sig .tc := ⟨.hbm, 363, rfl⟩
abbrev main_v237 : Ref sig .tc := ⟨.hbm, 364, rfl⟩
abbrev main_v238 : Ref sig .tc := ⟨.hbm, 365, rfl⟩
abbrev main_v239 : Ref sig .tc := ⟨.hbm, 366, rfl⟩
abbrev main_v240 : Ref sig .tc := ⟨.hbm, 367, rfl⟩
abbrev main_v241 : Ref sig .tc := ⟨.hbm, 368, rfl⟩
abbrev main_v242 : Ref sig .tc := ⟨.hbm, 369, rfl⟩
abbrev main_v243 : Ref sig .tc := ⟨.hbm, 370, rfl⟩
abbrev main_v244 : Ref sig .tc := ⟨.hbm, 371, rfl⟩
abbrev main_v245 : Ref sig .tc := ⟨.hbm, 372, rfl⟩
abbrev main_v246 : Ref sig .tc := ⟨.hbm, 373, rfl⟩
abbrev main_v247 : Ref sig .tc := ⟨.hbm, 374, rfl⟩
abbrev main_v248 : Ref sig .tc := ⟨.hbm, 375, rfl⟩

abbrev nD : Nat := 1
abbrev τ : Topo := Topo.v7x

variable {F : FTy → Type} [FloatOps F]

def κ : String → Option EReal := fun
  | "half_mask" => some ⊥
  | "log2e" => some (((Real.log 2)⁻¹ : ℝ) : EReal)
  | "mask" => some ⊥
  | "q_scale" => some (((1 / 8) * (Real.log 2)⁻¹ : ℝ) : EReal)
  | _ => none
-- ==== Ffn.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 10
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnReferenceIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x5632, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S1x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Merge.lean ====
abbrev S2x8192x1024 : Shape := ⟨3, ![2, 8192, 1024]⟩
abbrev S1024 : Shape := ⟨1, ![1024]⟩
abbrev S1024x2048 : Shape := ⟨2, ![1024, 2048]⟩
abbrev S2x64x512x128 : Shape := ⟨4, ![2, 64, 512, 128]⟩
abbrev S2x1x8192x256 : Shape := ⟨4, ![2, 1, 8192, 256]⟩
abbrev S2x4x2048x256 : Shape := ⟨4, ![2, 4, 2048, 256]⟩
abbrev S2x16x512x256 : Shape := ⟨4, ![2, 16, 512, 256]⟩
abbrev S512x1024 : Shape := ⟨2, ![512, 1024]⟩
abbrev S256x1024 : Shape := ⟨2, ![256, 1024]⟩
abbrev S1024x1024 : Shape := ⟨2, ![1024, 1024]⟩
abbrev S1x1024 : Shape := ⟨2, ![1, 1024]⟩
abbrev S1x512x1024 : Shape := ⟨3, ![1, 512, 1024]⟩
abbrev S1x4x512x128 : Shape := ⟨4, ![1, 4, 512, 128]⟩
abbrev S1x1x512x256 : Shape := ⟨4, ![1, 1, 512, 256]⟩
abbrev S1x4x128x256 : Shape := ⟨4, ![1, 4, 128, 256]⟩
abbrev S1x16x32x256 : Shape := ⟨4, ![1, 16, 32, 256]⟩
abbrev S2x512x128 : Shape := ⟨3, ![2, 512, 128]⟩
abbrev S512 : Shape := ⟨1, ![512]⟩
abbrev S512x1 : Shape := ⟨2, ![512, 1]⟩
abbrev S512x256 : Shape := ⟨2, ![512, 256]⟩
abbrev S1x1x128x128 : Shape := ⟨4, ![1, 1, 128, 128]⟩
abbrev S128x128 : Shape := ⟨2, ![128, 128]⟩
abbrev S1x128x128 : Shape := ⟨3, ![1, 128, 128]⟩
abbrev S1x512x128 : Shape := ⟨3, ![1, 512, 128]⟩
abbrev S512x128 : Shape := ⟨2, ![512, 128]⟩
abbrev S1x1x32x128 : Shape := ⟨4, ![1, 1, 32, 128]⟩
abbrev S32x128 : Shape := ⟨2, ![32, 128]⟩
abbrev S1x32x128 : Shape := ⟨3, ![1, 32, 128]⟩
abbrev S1x1x512x128 : Shape := ⟨4, ![1, 1, 512, 128]⟩
abbrev S512x512 : Shape := ⟨2, ![512, 512]⟩
abbrev S1024x256 : Shape := ⟨2, ![1024, 256]⟩
abbrev S256x256 : Shape := ⟨2, ![256, 256]⟩

abbrev nBuf : Space → Nat
  | .hbm => 21
  | .vmem => 26
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2048, .f32⟩
  | .hbm, ⟨3, _⟩ => ⟨S2x64x512x128, .bf16⟩
  | .hbm, ⟨4, _⟩ => ⟨S2x1x8192x256, .f32⟩
  | .hbm, ⟨5, _⟩ => ⟨S2x1x8192x256, .f32⟩
  | .hbm, ⟨6, _⟩ => ⟨S2x4x2048x256, .f32⟩
  | .hbm, ⟨7, _⟩ => ⟨S2x4x2048x256, .f32⟩
  | .hbm, ⟨8, _⟩ => ⟨S2x16x512x256, .f32⟩
  | .hbm, ⟨9, _⟩ => ⟨S2x16x512x256, .f32⟩
  | .hbm, ⟨10, _⟩ => ⟨S512x1024, .f32⟩
  | .hbm, ⟨11, _⟩ => ⟨S256x1024, .f32⟩
  | .hbm, ⟨12, _⟩ => ⟨S1024x1024, .f32⟩
  | .hbm, ⟨13, _⟩ => ⟨S1024, .f32⟩
  | .hbm, ⟨14, _⟩ => ⟨S1x1024, .f32⟩
  | .hbm, ⟨15, _⟩ => ⟨S1024x2048, .bf16⟩
  | .hbm, ⟨16, _⟩ => ⟨S512x1024, .bf16⟩
  | .hbm, ⟨17, _⟩ => ⟨S256x1024, .bf16⟩
  | .hbm, ⟨18, _⟩ => ⟨S1024x1024, .bf16⟩
  | .hbm, ⟨19, _⟩ => ⟨S1x1024, .f32⟩
  | .hbm, ⟨20, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2048, .bf16⟩
  | .local _ .vmem, ⟨4, _⟩ => ⟨S1x4x512x128, .bf16⟩
  | .local _ .vmem, ⟨5, _⟩ => ⟨S1x4x512x128, .bf16⟩
  | .local _ .vmem, ⟨6, _⟩ => ⟨S1x1x512x256, .f32⟩
  | .local _ .vmem, ⟨7, _⟩ => ⟨S1x1x512x256, .f32⟩
  | .local _ .vmem, ⟨8, _⟩ => ⟨S1x1x512x256, .f32⟩
  | .local _ .vmem, ⟨9, _⟩ => ⟨S1x1x512x256, .f32⟩
  | .local _ .vmem, ⟨10, _⟩ => ⟨S1x4x128x256, .f32⟩
  | .local _ .vmem, ⟨11, _⟩ => ⟨S1x4x128x256, .f32⟩
  | .local _ .vmem, ⟨12, _⟩ => ⟨S1x4x128x256, .f32⟩
  | .local _ .vmem, ⟨13, _⟩ => ⟨S1x4x128x256, .f32⟩
  | .local _ .vmem, ⟨14, _⟩ => ⟨S1x16x32x256, .f32⟩
  | .local _ .vmem, ⟨15, _⟩ => ⟨S1x16x32x256, .f32⟩
  | .local _ .vmem, ⟨16, _⟩ => ⟨S1x16x32x256, .f32⟩
  | .local _ .vmem, ⟨17, _⟩ => ⟨S1x16x32x256, .f32⟩
  | .local _ .vmem, ⟨18, _⟩ => ⟨S512x1024, .bf16⟩
  | .local _ .vmem, ⟨19, _⟩ => ⟨S256x1024, .bf16⟩
  | .local _ .vmem, ⟨20, _⟩ => ⟨S1024x1024, .bf16⟩
  | .local _ .vmem, ⟨21, _⟩ => ⟨S1x1024, .f32⟩
  | .local _ .vmem, ⟨22, _⟩ => ⟨S1x512x1024, .f32⟩
  | .local _ .vmem, ⟨23, _⟩ => ⟨S1x512x1024, .f32⟩
  | .local _ .vmem, ⟨24, _⟩ => ⟨S2x512x128, .f32⟩
  | .local _ .vmem, ⟨25, _⟩ => ⟨S512x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x32x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== MergeReferenceIdeal.lean ====
abbrev S2x8192x1024 : Shape := ⟨3, ![2, 8192, 1024]⟩
abbrev S1024 : Shape := ⟨1, ![1024]⟩
abbrev S1024x2048 : Shape := ⟨2, ![1024, 2048]⟩
abbrev S2x64x512x128 : Shape := ⟨4, ![2, 64, 512, 128]⟩
abbrev S2x1x8192x256 : Shape := ⟨4, ![2, 1, 8192, 256]⟩
abbrev S2x4x2048x256 : Shape := ⟨4, ![2, 4, 2048, 256]⟩
abbrev S2x16x512x256 : Shape := ⟨4, ![2, 16, 512, 256]⟩
abbrev S512x1024 : Shape := ⟨2, ![512, 1024]⟩
abbrev S256x1024 : Shape := ⟨2, ![256, 1024]⟩
abbrev S1024x1024 : Shape := ⟨2, ![1024, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2048 : Shape := ⟨3, ![2, 8192, 2048]⟩
abbrev S2x8192x1x256 : Shape := ⟨4, ![2, 8192, 1, 256]⟩
abbrev S2x8192x256 : Shape := ⟨3, ![2, 8192, 256]⟩
abbrev S2x2048x4x256 : Shape := ⟨4, ![2, 2048, 4, 256]⟩
abbrev S2x512x16x256 : Shape := ⟨4, ![2, 512, 16, 256]⟩
abbrev S1x2x8192x256 : Shape := ⟨4, ![1, 2, 8192, 256]⟩
abbrev S3x2x8192x256 : Shape := ⟨4, ![3, 2, 8192, 256]⟩
abbrev S2x64x128x512 : Shape := ⟨4, ![2, 64, 128, 512]⟩
abbrev S2x8192x512 : Shape := ⟨3, ![2, 8192, 512]⟩

abbrev nBuf : Space → Nat
  | .hbm => 111
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2048, .f32⟩
  | .hbm, ⟨3, _⟩ => ⟨S2x64x512x128, .bf16⟩
  | .hbm, ⟨4, _⟩ => ⟨S2x1x8192x256, .f32⟩
  | .hbm, ⟨5, _⟩ => ⟨S2x1x8192x256, .f32⟩
  | .hbm, ⟨6, _⟩ => ⟨S2x4x2048x256, .f32⟩
  | .hbm, ⟨7, _⟩ => ⟨S2x4x2048x256, .f32⟩
  | .hbm, ⟨8, _⟩ => ⟨S2x16x512x256, .f32⟩
  | .hbm, ⟨9, _⟩ => ⟨S2x16x512x256, .f32⟩
  | .hbm, ⟨10, _⟩ => ⟨S512x1024, .f32⟩
  | .hbm, ⟨11, _⟩ => ⟨S256x1024, .f32⟩
  | .hbm, ⟨12, _⟩ => ⟨S1024x1024, .f32⟩
  | .hbm, ⟨13, _⟩ => ⟨S1024, .f32⟩
  | .hbm, ⟨14, _⟩ => ⟨S2x8192x1024, .f32⟩
  | .hbm, ⟨15, _⟩ => ⟨S_, .f32⟩
  | .hbm, ⟨16, _⟩ => ⟨S2x8192, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S2x8192x1, .f32⟩
  | .hbm, ⟨25, _⟩ => ⟨S2x8192x1024, .f32⟩
  | .hbm, ⟨26, _⟩ => ⟨S2x8192x1024, .f32⟩
  | .hbm, ⟨27, _⟩ => ⟨S1x1x1024, .f32⟩
  | .hbm, ⟨28, _⟩ => ⟨S2x8192x1024, .f32⟩
  | .hbm, ⟨29, _⟩ => ⟨S2x8192x1024, .f32⟩
  | .hbm, ⟨30, _⟩ => ⟨S2x8192x2048, .f32⟩
  | .hbm, ⟨31, _⟩ => ⟨S2x8192x1024, .f32⟩
  | .hbm, ⟨32, _⟩ => ⟨S2x8192x1024, .f32⟩
  | .hbm, ⟨33, _⟩ => ⟨S2x8192x1x256, .f32⟩
  | .hbm, ⟨34, _⟩ => ⟨S2x8192x256, .f32⟩
  | .hbm, ⟨35, _⟩ => ⟨S2x2048x4x256, .f32⟩
  | .hbm, ⟨36, _⟩ => ⟨S2x8192x256, .f32⟩
  | .hbm, ⟨37, _⟩ => ⟨S2x512x16x256, .f32⟩
  | .hbm, ⟨38, _⟩ => ⟨S2x8192x256, .f32⟩
  | .hbm, ⟨39, _⟩ => ⟨S1x2x8192x256, .f32⟩
  | .hbm, ⟨40, _⟩ => ⟨S1x2x8192x256, .f32⟩
  | .hbm, ⟨41, _⟩ => ⟨S1x2x8192x256, .f32⟩
  | .hbm, ⟨42, _⟩ => ⟨S3x2x8192x256, .f32⟩
  | .hbm, ⟨43, _⟩ => ⟨S_, .f32⟩
  | .hbm, ⟨44, _⟩ => ⟨S2x8192x256, .f32⟩
  | .hbm, ⟨45, _⟩ => ⟨S1x2x8192x256, .f32⟩
  | .hbm, ⟨46, _⟩ => ⟨S3x2x8192x256, .f32⟩
  | .hbm, ⟨47, _⟩ => ⟨S3x2x8192x256, .f32⟩
  | .hbm, ⟨48, _⟩ => ⟨S3x2x8192x256, .f32⟩
  | .hbm, ⟨49, _⟩ => ⟨S_, .f32⟩
  | .hbm, ⟨50, _⟩ => ⟨S2x8192x256, .f32⟩
  | .hbm, ⟨51, _⟩ => ⟨S_, .f32⟩
  | .hbm, ⟨52, _⟩ => ⟨S2x8192x256, .f32⟩
  | .hbm, ⟨53, _⟩ => ⟨S2x8192x256, .f32⟩
  | .hbm, ⟨54, _⟩ => ⟨S1x2x8192x256, .f32⟩
  | .hbm, ⟨55, _⟩ => ⟨S3x2x8192x256, .f32⟩
  | .hbm, ⟨56, _⟩ => ⟨S3x2x8192x256, .f32⟩
  | .hbm, ⟨57, _⟩ => ⟨S2x8192x1x256, .f32⟩
  | .hbm, ⟨58, _⟩ => ⟨S2x8192x256, .f32⟩
  | .hbm, ⟨59, _⟩ => ⟨S2x2048x4x256, .f32⟩
  | .hbm, ⟨60, _⟩ => ⟨S2x8192x256, .f32⟩
  | .hbm, ⟨61, _⟩ => ⟨S2x512x16x256, .f32⟩
  | .hbm, ⟨62, _⟩ => ⟨S2x8192x256, .f32⟩
  | .hbm, ⟨63, _⟩ => ⟨S1x2x8192x256, .f32⟩
  | .hbm, ⟨64, _⟩ => ⟨S1x2x8192x256, .f32⟩
  | .hbm, ⟨65, _⟩ => ⟨S1x2x8192x256, .f32⟩
  | .hbm, ⟨66, _⟩ => ⟨S3x2x8192x256, .f32⟩
  | .hbm, ⟨67, _⟩ => ⟨S3x2x8192x256, .f32⟩
  | .hbm, ⟨68, _⟩ => ⟨S_, .f32⟩
  | .hbm, ⟨69, _⟩ => ⟨S2x8192x256, .f32⟩
  | .hbm, ⟨70, _⟩ => ⟨S2x64x128x512, .bf16⟩
  | .hbm, ⟨71, _⟩ => ⟨S2x8192x512, .bf16⟩
  | .hbm, ⟨72, _⟩ => ⟨S2x8192x1024, .f32⟩
  | .hbm, ⟨73, _⟩ => ⟨S2x8192x1024, .f32⟩
  | .hbm, ⟨74, _⟩ => ⟨S_, .f32⟩
  | .hbm, ⟨75, _⟩ => ⟨S2x8192x1024, .f32⟩
  | .hbm, ⟨76, _⟩ => ⟨S2x8192x1024, .f32⟩
  | .hbm, ⟨77, _⟩ => ⟨S_, .f32⟩
  | .hbm, ⟨78, _⟩ => ⟨S2x8192x1024, .f32⟩
  | .hbm, ⟨79, _⟩ => ⟨S2x8192x1024, .f32⟩
  | .hbm, ⟨80, _⟩ => ⟨S2x8192x1024, .f32⟩
  | .hbm, ⟨81, _⟩ => ⟨S2x8192x1024, .f32⟩
  | .hbm, ⟨82, _⟩ => ⟨S2x8192x1024, .f32⟩
  | .hbm, ⟨83, _⟩ => ⟨S2x8192x1024, .f32⟩
  | .hbm, ⟨84, _⟩ => ⟨S_, .f32⟩
  | .hbm, ⟨85, _⟩ => ⟨S2x8192x1024, .f32⟩
  | .hbm, ⟨86, _⟩ => ⟨S2x8192x1024, .f32⟩
  | .hbm, ⟨87, _⟩ => ⟨S_, .f32⟩
  | .hbm, ⟨88, _⟩ => ⟨S2x8192x1024, .f32⟩
  | .hbm, ⟨89, _⟩ => ⟨S2x8192x1024, .f32⟩
  | .hbm, ⟨90, _⟩ => ⟨S2x8192x1024, .f32⟩
  | .hbm, ⟨91, _⟩ => ⟨S2x8192x1024, .f32⟩
  | .hbm, ⟨92, _⟩ => ⟨S2x8192x1024, .f32⟩
  | .hbm, ⟨93, _⟩ => ⟨S2x8192x1024, .f32⟩
  | .hbm, ⟨94, _⟩ => ⟨S2x8192x1024, .f32⟩
  | .hbm, ⟨95, _⟩ => ⟨S_, .f32⟩
  | .hbm, ⟨96, _⟩ => ⟨S2x8192, .f32⟩
  | .hbm, ⟨97, _⟩ => ⟨S2x8192x1, .f32⟩
  | .hbm, ⟨98, _⟩ => ⟨S_, .f32⟩
  | .hbm, ⟨99, _⟩ => ⟨S2x8192x1, .f32⟩
  | .hbm, ⟨100, _⟩ => ⟨S2x8192x1, .f32⟩
  | .hbm, ⟨101, _⟩ => ⟨S_, .f32⟩
  | .hbm, ⟨102, _⟩ => ⟨S2x8192x1, .f32⟩
  | .hbm, ⟨103, _⟩ => ⟨S2x8192x1, .f32⟩
  | .hbm, ⟨104, _⟩ => ⟨S2x8192x1, .f32⟩
  | .hbm, ⟨105, _⟩ => ⟨S2x8192x1024, .f32⟩
  | .hbm, ⟨106, _⟩ => ⟨S2x8192x1024, .f32⟩
  | .hbm, ⟨107, _⟩ => ⟨S1x1x1024, .f32⟩
  | .hbm, ⟨108, _⟩ => ⟨S2x8192x1024, .f32⟩
  | .hbm, ⟨109, _⟩ => ⟨S2x8192x1024, .f32⟩
  | .hbm, ⟨110, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_5 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_6 : Ref sig .tc := ⟨.hbm, 74, rfl⟩
abbrev main_v53 : Ref sig .tc := ⟨.hbm, 75, rfl⟩
abbrev main_v54 : Ref sig .tc := ⟨.hbm, 76, rfl⟩
abbrev main_cst_7 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_8 : Ref sig .tc := ⟨.hbm, 84, rfl⟩
abbrev main_v61 : Ref sig .tc := ⟨.hbm, 85, rfl⟩
abbrev main_v62 : Ref sig .tc := ⟨.hbm, 86, rfl⟩
abbrev main_cst_9 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_10 : Ref sig .tc := ⟨.hbm, 95, rfl⟩
abbrev main_v70 : Ref sig .tc := ⟨.hbm, 96, rfl⟩
abbrev main_v71 : Ref sig .tc := ⟨.hbm, 97, rfl⟩
abbrev main_cst_11 : Ref sig .tc := ⟨.hbm, 98, rfl⟩
abbrev main_v72 : Ref sig .tc := ⟨.hbm, 99, rfl⟩
abbrev main_v73 : Ref sig .tc := ⟨.hbm, 100, rfl⟩
abbrev main_cst_12 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩

abbrev nD : Nat := 1
abbrev τ : Topo := Topo.v7x

variable {F : FTy → Type} [FloatOps F]
-- ==== Compress.lean ====
abbrev S2x2x512x1024 : Shape := ⟨4, ![2, 2, 512, 1024]⟩
abbrev S32x64 : Shape := ⟨2, ![32, 64]⟩
abbrev S2048x256 : Shape := ⟨2, ![2048, 256]⟩
abbrev S256x64 : Shape := ⟨2, ![256, 64]⟩
abbrev S2x1024 : Shape := ⟨2, ![2, 1024]⟩
abbrev S2x1024x256 : Shape := ⟨3, ![2, 1024, 256]⟩
abbrev S64x256 : Shape := ⟨2, ![64, 256]⟩
abbrev S2x2x512x64 : Shape := ⟨4, ![2, 2, 512, 64]⟩
abbrev S2x2x80x512 : Shape := ⟨4, ![2, 2, 80, 512]⟩
abbrev S1x1x512x1024 : Shape := ⟨4, ![1, 1, 512, 1024]⟩
abbrev S1x1x512x64 : Shape := ⟨4, ![1, 1, 512, 64]⟩
abbrev S1x1x80x512 : Shape := ⟨4, ![1, 1, 80, 512]⟩
abbrev S512x1024 : Shape := ⟨2, ![512, 1024]⟩
abbrev S1x1024 : Shape := ⟨2, ![1, 1024]⟩
abbrev S1x1024x256 : Shape := ⟨3, ![1, 1024, 256]⟩
abbrev S1024x256 : Shape := ⟨2, ![1024, 256]⟩
abbrev S512x256 : Shape := ⟨2, ![512, 256]⟩
abbrev S512x64 : Shape := ⟨2, ![512, 64]⟩
abbrev S64x512 : Shape := ⟨2, ![64, 512]⟩
abbrev S16x512 : Shape := ⟨2, ![16, 512]⟩
abbrev S80x512 : Shape := ⟨2, ![80, 512]⟩

abbrev nBuf : Space → Nat
  | .hbm => 19
  | .vmem => 14
  | .smem => 0
  | _ => 0

abbrev bufTy : (tb : Table) → Fin (tcTables nBuf tb) → BufTy
  | .hbm, ⟨0, _⟩ => ⟨S2x2x512x1024, .f32⟩
  | .hbm, ⟨1, _⟩ => ⟨S2x2x512x1024, .f32⟩
  | .hbm, ⟨2, _⟩ => ⟨S32x64, .f32⟩
  | .hbm, ⟨3, _⟩ => ⟨S2048x256, .f32⟩
  | .hbm, ⟨4, _⟩ => ⟨S256x64, .f32⟩
  | .hbm, ⟨5, _⟩ => ⟨S32x64, .f32⟩
  | .hbm, ⟨6, _⟩ => ⟨S2048x256, .f32⟩
  | .hbm, ⟨7, _⟩ => ⟨S256x64, .f32⟩
  | .hbm, ⟨8, _⟩ => ⟨S2x1024, .f32⟩
  | .hbm, ⟨9, _⟩ => ⟨S2x1024, .f32⟩
  | .hbm, ⟨10, _⟩ => ⟨S2048x256, .bf16⟩
  | .hbm, ⟨11, _⟩ => ⟨S2x1024x256, .bf16⟩
  | .hbm, ⟨12, _⟩ => ⟨S2048x256, .bf16⟩
  | .hbm, ⟨13, _⟩ => ⟨S2x1024x256, .bf16⟩
  | .hbm, ⟨14, _⟩ => ⟨S256x64, .bf16⟩
  | .hbm, ⟨15, _⟩ => ⟨S64x256, .f32⟩
  | .hbm, ⟨16, _⟩ => ⟨S64x256, .bf16⟩
  | .hbm, ⟨17, _⟩ => ⟨S2x2x512x64, .bf16⟩
  | .hbm, ⟨18, _⟩ => ⟨S2x2x80x512, .bf16⟩
  | .local _ .vmem, ⟨0, _⟩ => ⟨S1x1x512x1024, .f32⟩
  | .local _ .vmem, ⟨1, _⟩ => ⟨S1x1x512x1024, .f32⟩
  | .local _ .vmem, ⟨2, _⟩ => ⟨S1x1x512x1024, .f32⟩
  | .local _ .vmem, ⟨3, _⟩ => ⟨S1x1x512x1024, .f32⟩
  | .local _ .vmem, ⟨4, _⟩ => ⟨S2x1024, .f32⟩
  | .local _ .vmem, ⟨5, _⟩ => ⟨S2x1024, .f32⟩
  | .local _ .vmem, ⟨6, _⟩ => ⟨S2x1024x256, .bf16⟩
  | .local _ .vmem, ⟨7, _⟩ => ⟨S2x1024x256, .bf16⟩
  | .local _ .vmem, ⟨8, _⟩ => ⟨S256x64, .bf16⟩
  | .local _ .vmem, ⟨9, _⟩ => ⟨S64x256, .bf16⟩
  | .local _ .vmem, ⟨10, _⟩ => ⟨S1x1x512x64, .bf16⟩
  | .local _ .vmem, ⟨11, _⟩ => ⟨S1x1x512x64, .bf16⟩
  | .local _ .vmem, ⟨12, _⟩ => ⟨S1x1x80x512, .bf16⟩
  | .local _ .vmem, ⟨13, _⟩ => ⟨S1x1x80x512, .bf16⟩
  | _, _ => ⟨S2x2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x512x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x80x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== CompressReferenceIdeal.lean ====
abbrev S2x2x512x1024 : Shape := ⟨4, ![2, 2, 512, 1024]⟩
abbrev S32x64 : Shape := ⟨2, ![32, 64]⟩
abbrev S2048x256 : Shape := ⟨2, ![2048, 256]⟩
abbrev S256x64 : Shape := ⟨2, ![256, 64]⟩
abbrev S2x2x511x1024 : Shape := ⟨4, ![2, 2, 511, 1024]⟩
abbrev S2x2x1x1024 : Shape := ⟨4, ![2, 2, 1, 1024]⟩
abbrev S2x2x512x2048 : Shape := ⟨4, ![2, 2, 512, 2048]⟩
abbrev S2048 : Shape := ⟨1, ![2048]⟩
abbrev S1x1x1x2048 : Shape := ⟨4, ![1, 1, 1, 2048]⟩
abbrev S2x2x512x256 : Shape := ⟨4, ![2, 2, 512, 256]⟩
abbrev S_ : Shape := ⟨0, ![]⟩
abbrev S2x2x512x64 : Shape := ⟨4, ![2, 2, 512, 64]⟩
abbrev S2x2x64x512 : Shape := ⟨4, ![2, 2, 64, 512]⟩
abbrev S2x2x1x512 : Shape := ⟨4, ![2, 2, 1, 512]⟩
abbrev S2x2x15x512 : Shape := ⟨4, ![2, 2, 15, 512]⟩
abbrev S2x2x80x512 : Shape := ⟨4, ![2, 2, 80, 512]⟩

abbrev nBuf : Space → Nat
  | .hbm => 54
  | .vmem => 0
  | .smem => 0
  | _ => 0

abbrev bufTy : (tb : Table) → Fin (tcTables nBuf tb) → BufTy
  | .hbm, ⟨0, _⟩ => ⟨S2x2x512x1024, .f32⟩
  | .hbm, ⟨1, _⟩ => ⟨S2x2x512x1024, .f32⟩
  | .hbm, ⟨2, _⟩ => ⟨S32x64, .f32⟩
  | .hbm, ⟨3, _⟩ => ⟨S2048x256, .f32⟩
  | .hbm, ⟨4, _⟩ => ⟨S256x64, .f32⟩
  | .hbm, ⟨5, _⟩ => ⟨S32x64, .f32⟩
  | .hbm, ⟨6, _⟩ => ⟨S2048x256, .f32⟩
  | .hbm, ⟨7, _⟩ => ⟨S256x64, .f32⟩
  | .hbm, ⟨8, _⟩ => ⟨S2x2x511x1024, .f32⟩
  | .hbm, ⟨9, _⟩ => ⟨S2x2x1x1024, .f32⟩
  | .hbm, ⟨10, _⟩ => ⟨S2x2x512x1024, .f32⟩
  | .hbm, ⟨11, _⟩ => ⟨S2x2x512x2048, .f32⟩
  | .hbm, ⟨12, _⟩ => ⟨S2048, .f32⟩
  | .hbm, ⟨13, _⟩ => ⟨S1x1x1x2048, .f32⟩
  | .hbm, ⟨14, _⟩ => ⟨S2x2x512x2048, .f32⟩
  | .hbm, ⟨15, _⟩ => ⟨S2x2x512x2048, .f32⟩
  | .hbm, ⟨16, _⟩ => ⟨S2x2x512x256, .f32⟩
  | .hbm, ⟨17, _⟩ => ⟨S2x2x512x256, .f32⟩
  | .hbm, ⟨18, _⟩ => ⟨S2x2x512x256, .f32⟩
  | .hbm, ⟨19, _⟩ => ⟨S_, .f32⟩
  | .hbm, ⟨20, _⟩ => ⟨S2x2x512x256, .f32⟩
  | .hbm, ⟨21, _⟩ => ⟨S2x2x512x256, .f32⟩
  | .hbm, ⟨22, _⟩ => ⟨S_, .f32⟩
  | .hbm, ⟨23, _⟩ => ⟨S2x2x512x256, .f32⟩
  | .hbm, ⟨24, _⟩ => ⟨S2x2x512x256, .f32⟩
  | .hbm, ⟨25, _⟩ => ⟨S2x2x512x256, .f32⟩
  | .hbm, ⟨26, _⟩ => ⟨S2x2x512x64, .f32⟩
  | .hbm, ⟨27, _⟩ => ⟨S2x2x64x512, .f32⟩
  | .hbm, ⟨28, _⟩ => ⟨S_, .f32⟩
  | .hbm, ⟨29, _⟩ => ⟨S2x2x1x512, .f32⟩
  | .hbm, ⟨30, _⟩ => ⟨S_, .f32⟩
  | .hbm, ⟨31, _⟩ => ⟨S2x2x15x512, .f32⟩
  | .hbm, ⟨32, _⟩ => ⟨S2x2x511x1024, .f32⟩
  | .hbm, ⟨33, _⟩ => ⟨S2x2x1x1024, .f32⟩
  | .hbm, ⟨34, _⟩ => ⟨S2x2x512x1024, .f32⟩
  | .hbm, ⟨35, _⟩ => ⟨S2x2x512x2048, .f32⟩
  | .hbm, ⟨36, _⟩ => ⟨S2048, .f32⟩
  | .hbm, ⟨37, _⟩ => ⟨S1x1x1x2048, .f32⟩
  | .hbm, ⟨38, _⟩ => ⟨S2x2x512x2048, .f32⟩
  | .hbm, ⟨39, _⟩ => ⟨S2x2x512x2048, .f32⟩
  | .hbm, ⟨40, _⟩ => ⟨S2x2x512x256, .f32⟩
  | .hbm, ⟨41, _⟩ => ⟨S2x2x512x256, .f32⟩
  | .hbm, ⟨42, _⟩ => ⟨S2x2x512x256, .f32⟩
  | .hbm, ⟨43, _⟩ => ⟨S_, .f32⟩
  | .hbm, ⟨44, _⟩ => ⟨S2x2x512x256, .f32⟩
  | .hbm, ⟨45, _⟩ => ⟨S2x2x512x256, .f32⟩
  | .hbm, ⟨46, _⟩ => ⟨S_, .f32⟩
  | .hbm, ⟨47, _⟩ => ⟨S2x2x512x256, .f32⟩
  | .hbm, ⟨48, _⟩ => ⟨S2x2x512x256, .f32⟩
  | .hbm, ⟨49, _⟩ => ⟨S2x2x512x256, .f32⟩
  | .hbm, ⟨50, _⟩ => ⟨S2x2x512x64, .f32⟩
  | .hbm, ⟨51, _⟩ => ⟨S2x2x512x64, .bf16⟩
  | .hbm, ⟨52, _⟩ => ⟨S2x2x80x512, .f32⟩
  | .hbm, ⟨53, _⟩ => ⟨S2x2x80x512, .bf16⟩
  | _, _ => ⟨S2x2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_cst_0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩

abbrev nD : Nat := 1
abbrev τ : Topo := Topo.v7x

variable {F : FTy → Type} [FloatOps F]
-- ==== Proof.KernelIdeal.Head1.lean ====
/-
  The head of the kernel's body when the switch takes its first branch (1 of 4 quarters of the
  compressed keys are looked at): the values that the branch yields and the words that it leaves in the
  scratch of extended queries, found by running it once at symbolic operands.
-/
module

public import proofs.«01_k».proof.Proof.Gen.KernelIdeal.Skeleton
public import proofs.«01_k».proof.Proof.Gen.KernelIdeal
public import Idealize.ShloMosaic.Lib.Pipeline.Kit
public import Idealize.ShloMosaic.Lib.Tactic

@[expose] public section

set_option maxRecDepth 65536
set_option maxHeartbeats 4000000

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The head's run in the switch's first branch: its result `R`, the pieces that it stores into the scratch
    of extended queries, and that it runs to them from any contents of that scratch, its inputs left as they were. -/
@[irreducible] def head1 (𝒱 : Variants) (c : Dev nD) (i : grid0.Coords) (arg2 : Memref sig .tc .vmem S1x1x2x64x512 .f32) (harg2 : arg2.IsWhole) (arg3 : Memref sig .tc .vmem S1x1x2x16x128 .f32) (harg3 : arg3.IsWhole) (arg4 : Memref sig .tc .vmem S2x20x128x512 .f32) (harg4 : arg4.IsWhole) (arg5 : Memref sig .tc .vmem S1x2x512x64 .bf16) (harg5 : arg5.IsWhole) (arg6 : Memref sig .tc .vmem S1x2x80x512 .bf16) (harg6 : arg6.IsWhole) (arg7 : Memref sig .tc .vmem S1x2x8192x256 .bf16) (harg7 : arg7.IsWhole) (arg8 : Memref sig .tc .vmem S1x2x16x80x512 .bf16) (harg8 : arg8.IsWhole) (arg9 : Memref sig .tc .vmem S1x2x8192x64 .bf16) (harg9 : arg9.IsWhole) (arg10 : Memref sig .tc .vmem S1x2x64x80x128 .bf16) (harg10 : arg10.IsWhole) (arg11 : Memref sig .tc .vmem S2x20x8x512 .f32) (harg11 : arg11.IsWhole) (arg12 : Memref sig .tc .vmem S128x512 .bf16) (harg12 : arg12.IsWhole) (arg13 : Memref sig .tc .vmem S1x1x512x128 .bf16) (harg13 : arg13.IsWhole) (arg14 : Memref sig .tc .vmem S2x256x512 .bf16) (harg14 : arg14.IsWhole) (arg15 : Memref sig .tc .vmem S2x512x512 .f32) (harg15 : arg15.IsWhole) (arg16 : Memref sig .tc .vmem S2x512x512 .bf16) (harg16 : arg16.IsWhole)
    (hc1 : ¬ k0_cond1 i = 1#1)
    (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) :
    Σ' (R : Σ' (arg1 : BitVec 32) (v20_0 : FVec F S64x512 .f32) (v20_1 : FVec F S64x512 .f32) (v20_2 : FVec F S64x512 .f32) (v20_3 : FVec F S64x512 .f32) (v23 : BitVec 32) (v31 : FVec F S128x512 .f32) (v33 : BitVec 32), BitVec 32), { L_arg14 : List (View.Piece (Elt F) S2x256x512 .bf16) // ∀ (E : Set ℕ) (f_arg14 : BufTy.Contents (Elt F) arg14.view.ty),
      (iprop((arg2.view.loc (c : Thread nD τ) ↦[arg2.view.set]{fullShare} X_arg2) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg14.view.loc (c : Thread nD τ) ↦[arg14.view.set]{fullShare} f_arg14)) : sProp 𝕄)
      ⊢ wp frame (wpE (defs₀ (F := F)) 𝒱 (c : Thread nD τ) none) E (k0_part178 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun r => iprop(⌜r = R⌝ ∗ (arg2.view.loc (c : Thread nD τ) ↦[arg2.view.set]{fullShare} X_arg2) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg14.view.loc (c : Thread nD τ) ↦[arg14.view.set]{fullShare} (arg14.view.writes (Elt F) f_arg14 L_arg14)))) } := by
  refine ⟨?_, ?_, fun E f_arg14 => ?run⟩
  case run =>
    rw [k0_part178_eq_skeleton]; unfold k0_part178_skel
    iintro ⟨H_arg2, H_arg4, H_arg5, H_arg6, H_arg9, H_arg10, H_arg11, H_arg12, H_arg14⟩
    sl_exec_parts
    sl_step
    sl_close

end Cert.KernelIdeal

end
-- ==== Proof.KernelIdeal.Head2.lean ====
/-
  The head of the kernel's body when the switch takes its second branch (2 of 4 quarters of the
  compressed keys are looked at): the values that the branch yields and the words that it leaves in the
  scratch of extended queries, found by running it once at symbolic operands.
-/
module

public import proofs.«01_k».proof.Proof.Gen.KernelIdeal.Skeleton
public import proofs.«01_k».proof.Proof.Gen.KernelIdeal
public import Idealize.ShloMosaic.Lib.Pipeline.Kit
public import Idealize.ShloMosaic.Lib.Tactic

@[expose] public section

set_option maxRecDepth 65536
set_option maxHeartbeats 4000000

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The head's run in the switch's second branch: its result `R`, the pieces that it stores into the scratch
    of extended queries, and that it runs to them from any contents of that scratch, its inputs left as they were. -/
@[irreducible] def head2 (𝒱 : Variants) (c : Dev nD) (i : grid0.Coords) (arg2 : Memref sig .tc .vmem S1x1x2x64x512 .f32) (harg2 : arg2.IsWhole) (arg3 : Memref sig .tc .vmem S1x1x2x16x128 .f32) (harg3 : arg3.IsWhole) (arg4 : Memref sig .tc .vmem S2x20x128x512 .f32) (harg4 : arg4.IsWhole) (arg5 : Memref sig .tc .vmem S1x2x512x64 .bf16) (harg5 : arg5.IsWhole) (arg6 : Memref sig .tc .vmem S1x2x80x512 .bf16) (harg6 : arg6.IsWhole) (arg7 : Memref sig .tc .vmem S1x2x8192x256 .bf16) (harg7 : arg7.IsWhole) (arg8 : Memref sig .tc .vmem S1x2x16x80x512 .bf16) (harg8 : arg8.IsWhole) (arg9 : Memref sig .tc .vmem S1x2x8192x64 .bf16) (harg9 : arg9.IsWhole) (arg10 : Memref sig .tc .vmem S1x2x64x80x128 .bf16) (harg10 : arg10.IsWhole) (arg11 : Memref sig .tc .vmem S2x20x8x512 .f32) (harg11 : arg11.IsWhole) (arg12 : Memref sig .tc .vmem S128x512 .bf16) (harg12 : arg12.IsWhole) (arg13 : Memref sig .tc .vmem S1x1x512x128 .bf16) (harg13 : arg13.IsWhole) (arg14 : Memref sig .tc .vmem S2x256x512 .bf16) (harg14 : arg14.IsWhole) (arg15 : Memref sig .tc .vmem S2x512x512 .f32) (harg15 : arg15.IsWhole) (arg16 : Memref sig .tc .vmem S2x512x512 .bf16) (harg16 : arg16.IsWhole)
    (hc1 : k0_cond1 i = 1#1) (hc2 : ¬ k0_cond2 i = 1#1)
    (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) :
    Σ' (R : Σ' (arg1 : BitVec 32) (v20_0 : FVec F S64x512 .f32) (v20_1 : FVec F S64x512 .f32) (v20_2 : FVec F S64x512 .f32) (v20_3 : FVec F S64x512 .f32) (v23 : BitVec 32) (v31 : FVec F S128x512 .f32) (v33 : BitVec 32), BitVec 32), { L_arg14 : List (View.Piece (Elt F) S2x256x512 .bf16) // ∀ (E : Set ℕ) (f_arg14 : BufTy.Contents (Elt F) arg14.view.ty),
      (iprop((arg2.view.loc (c : Thread nD τ) ↦[arg2.view.set]{fullShare} X_arg2) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg14.view.loc (c : Thread nD τ) ↦[arg14.view.set]{fullShare} f_arg14)) : sProp 𝕄)
      ⊢ wp frame (wpE (defs₀ (F := F)) 𝒱 (c : Thread nD τ) none) E (k0_part178 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun r => iprop(⌜r = R⌝ ∗ (arg2.view.loc (c : Thread nD τ) ↦[arg2.view.set]{fullShare} X_arg2) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg14.view.loc (c : Thread nD τ) ↦[arg14.view.set]{fullShare} (arg14.view.writes (Elt F) f_arg14 L_arg14)))) } := by
  refine ⟨?_, ?_, fun E f_arg14 => ?run⟩
  case run =>
    rw [k0_part178_eq_skeleton]; unfold k0_part178_skel
    iintro ⟨H_arg2, H_arg4, H_arg5, H_arg6, H_arg9, H_arg10, H_arg11, H_arg12, H_arg14⟩
    sl_exec_parts
    sl_step
    sl_close

end Cert.KernelIdeal

end
-- ==== Proof.KernelIdeal.Head3.lean ====
/-
  The head of the kernel's body when the switch takes its third branch (3 of 4 quarters of the
  compressed keys are looked at): the values that the branch yields and the words that it leaves in the
  scratch of extended queries, found by running it once at symbolic operands.
-/
module

public import proofs.«01_k».proof.Proof.Gen.KernelIdeal.Skeleton
public import proofs.«01_k».proof.Proof.Gen.KernelIdeal
public import Idealize.ShloMosaic.Lib.Pipeline.Kit
public import Idealize.ShloMosaic.Lib.Tactic

@[expose] public section

set_option maxRecDepth 65536
set_option maxHeartbeats 4000000

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The head's run in the switch's third branch: its result `R`, the pieces that it stores into the scratch
    of extended queries, and that it runs to them from any contents of that scratch, its inputs left as they were. -/
@[irreducible] def head3 (𝒱 : Variants) (c : Dev nD) (i : grid0.Coords) (arg2 : Memref sig .tc .vmem S1x1x2x64x512 .f32) (harg2 : arg2.IsWhole) (arg3 : Memref sig .tc .vmem S1x1x2x16x128 .f32) (harg3 : arg3.IsWhole) (arg4 : Memref sig .tc .vmem S2x20x128x512 .f32) (harg4 : arg4.IsWhole) (arg5 : Memref sig .tc .vmem S1x2x512x64 .bf16) (harg5 : arg5.IsWhole) (arg6 : Memref sig .tc .vmem S1x2x80x512 .bf16) (harg6 : arg6.IsWhole) (arg7 : Memref sig .tc .vmem S1x2x8192x256 .bf16) (harg7 : arg7.IsWhole) (arg8 : Memref sig .tc .vmem S1x2x16x80x512 .bf16) (harg8 : arg8.IsWhole) (arg9 : Memref sig .tc .vmem S1x2x8192x64 .bf16) (harg9 : arg9.IsWhole) (arg10 : Memref sig .tc .vmem S1x2x64x80x128 .bf16) (harg10 : arg10.IsWhole) (arg11 : Memref sig .tc .vmem S2x20x8x512 .f32) (harg11 : arg11.IsWhole) (arg12 : Memref sig .tc .vmem S128x512 .bf16) (harg12 : arg12.IsWhole) (arg13 : Memref sig .tc .vmem S1x1x512x128 .bf16) (harg13 : arg13.IsWhole) (arg14 : Memref sig .tc .vmem S2x256x512 .bf16) (harg14 : arg14.IsWhole) (arg15 : Memref sig .tc .vmem S2x512x512 .f32) (harg15 : arg15.IsWhole) (arg16 : Memref sig .tc .vmem S2x512x512 .bf16) (harg16 : arg16.IsWhole)
    (hc1 : k0_cond1 i = 1#1) (hc2 : k0_cond2 i = 1#1) (hc3 : ¬ k0_cond3 i = 1#1)
    (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) :
    Σ' (R : Σ' (arg1 : BitVec 32) (v20_0 : FVec F S64x512 .f32) (v20_1 : FVec F S64x512 .f32) (v20_2 : FVec F S64x512 .f32) (v20_3 : FVec F S64x512 .f32) (v23 : BitVec 32) (v31 : FVec F S128x512 .f32) (v33 : BitVec 32), BitVec 32), { L_arg14 : List (View.Piece (Elt F) S2x256x512 .bf16) // ∀ (E : Set ℕ) (f_arg14 : BufTy.Contents (Elt F) arg14.view.ty),
      (iprop((arg2.view.loc (c : Thread nD τ) ↦[arg2.view.set]{fullShare} X_arg2) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg14.view.loc (c : Thread nD τ) ↦[arg14.view.set]{fullShare} f_arg14)) : sProp 𝕄)
      ⊢ wp frame (wpE (defs₀ (F := F)) 𝒱 (c : Thread nD τ) none) E (k0_part178 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun r => iprop(⌜r = R⌝ ∗ (arg2.view.loc (c : Thread nD τ) ↦[arg2.view.set]{fullShare} X_arg2) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg14.view.loc (c : Thread nD τ) ↦[arg14.view.set]{fullShare} (arg14.view.writes (Elt F) f_arg14 L_arg14)))) } := by
  refine ⟨?_, ?_, fun E f_arg14 => ?run⟩
  case run =>
    rw [k0_part178_eq_skeleton]; unfold k0_part178_skel
    iintro ⟨H_arg2, H_arg4, H_arg5, H_arg6, H_arg9, H_arg10, H_arg11, H_arg12, H_arg14⟩
    sl_exec_parts
    sl_step
    sl_close

end Cert.KernelIdeal

end
-- ==== Proof.KernelIdeal.Head4.lean ====
/-
  The head of the kernel's body when the switch takes its fourth branch (4 of 4 quarters of the
  compressed keys are looked at): the values that the branch yields and the words that it leaves in the
  scratch of extended queries, found by running it once at symbolic operands.
-/
module

public import proofs.«01_k».proof.Proof.Gen.KernelIdeal.Skeleton
public import proofs.«01_k».proof.Proof.Gen.KernelIdeal
public import Idealize.ShloMosaic.Lib.Pipeline.Kit
public import Idealize.ShloMosaic.Lib.Tactic

@[expose] public section

set_option maxRecDepth 65536
set_option maxHeartbeats 4000000

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The head's run in the switch's fourth branch: its result `R`, the pieces that it stores into the scratch
    of extended queries, and that it runs to them from any contents of that scratch, its inputs left as they were. -/
@[irreducible] def head4 (𝒱 : Variants) (c : Dev nD) (i : grid0.Coords) (arg2 : Memref sig .tc .vmem S1x1x2x64x512 .f32) (harg2 : arg2.IsWhole) (arg3 : Memref sig .tc .vmem S1x1x2x16x128 .f32) (harg3 : arg3.IsWhole) (arg4 : Memref sig .tc .vmem S2x20x128x512 .f32) (harg4 : arg4.IsWhole) (arg5 : Memref sig .tc .vmem S1x2x512x64 .bf16) (harg5 : arg5.IsWhole) (arg6 : Memref sig .tc .vmem S1x2x80x512 .bf16) (harg6 : arg6.IsWhole) (arg7 : Memref sig .tc .vmem S1x2x8192x256 .bf16) (harg7 : arg7.IsWhole) (arg8 : Memref sig .tc .vmem S1x2x16x80x512 .bf16) (harg8 : arg8.IsWhole) (arg9 : Memref sig .tc .vmem S1x2x8192x64 .bf16) (harg9 : arg9.IsWhole) (arg10 : Memref sig .tc .vmem S1x2x64x80x128 .bf16) (harg10 : arg10.IsWhole) (arg11 : Memref sig .tc .vmem S2x20x8x512 .f32) (harg11 : arg11.IsWhole) (arg12 : Memref sig .tc .vmem S128x512 .bf16) (harg12 : arg12.IsWhole) (arg13 : Memref sig .tc .vmem S1x1x512x128 .bf16) (harg13 : arg13.IsWhole) (arg14 : Memref sig .tc .vmem S2x256x512 .bf16) (harg14 : arg14.IsWhole) (arg15 : Memref sig .tc .vmem S2x512x512 .f32) (harg15 : arg15.IsWhole) (arg16 : Memref sig .tc .vmem S2x512x512 .bf16) (harg16 : arg16.IsWhole)
    (hc1 : k0_cond1 i = 1#1) (hc2 : k0_cond2 i = 1#1) (hc3 : k0_cond3 i = 1#1)
    (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) :
    Σ' (R : Σ' (arg1 : BitVec 32) (v20_0 : FVec F S64x512 .f32) (v20_1 : FVec F S64x512 .f32) (v20_2 : FVec F S64x512 .f32) (v20_3 : FVec F S64x512 .f32) (v23 : BitVec 32) (v31 : FVec F S128x512 .f32) (v33 : BitVec 32), BitVec 32), { L_arg14 : List (View.Piece (Elt F) S2x256x512 .bf16) // ∀ (E : Set ℕ) (f_arg14 : BufTy.Contents (Elt F) arg14.view.ty),
      (iprop((arg2.view.loc (c : Thread nD τ) ↦[arg2.view.set]{fullShare} X_arg2) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg14.view.loc (c : Thread nD τ) ↦[arg14.view.set]{fullShare} f_arg14)) : sProp 𝕄)
      ⊢ wp frame (wpE (defs₀ (F := F)) 𝒱 (c : Thread nD τ) none) E (k0_part178 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun r => iprop(⌜r = R⌝ ∗ (arg2.view.loc (c : Thread nD τ) ↦[arg2.view.set]{fullShare} X_arg2) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg14.view.loc (c : Thread nD τ) ↦[arg14.view.set]{fullShare} (arg14.view.writes (Elt F) f_arg14 L_arg14)))) } := by
  refine ⟨?_, ?_, fun E f_arg14 => ?run⟩
  case run =>
    rw [k0_part178_eq_skeleton]; unfold k0_part178_skel
    iintro ⟨H_arg2, H_arg4, H_arg5, H_arg6, H_arg9, H_arg10, H_arg11, H_arg12, H_arg14⟩
    sl_exec_parts
    sl_step
    sl_close

end Cert.KernelIdeal

end
-- ==== Proof.KernelIdeal.Tail.lean ====
/-
  The rest of the kernel's body, after the switch: the two groups' loops over the key tiles and the windows,
  and the eight stores of the output block, run once at symbolic values of what the head hands over.
-/
module

public import proofs.«01_k».proof.Proof.Gen.KernelIdeal.Skeleton
public import proofs.«01_k».proof.Proof.Gen.KernelIdeal.Loops
public import proofs.«01_k».proof.Proof.Gen.KernelIdeal
public import Idealize.ShloMosaic.Lib.Pipeline.Kit
public import Idealize.ShloMosaic.Lib.Tactic

@[expose] public section

set_option maxRecDepth 65536
set_option maxHeartbeats 4000000

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The body after its head, as a program of what the head hands over. -/
def tailProg (i : grid0.Coords) (arg2 : Memref sig .tc .vmem S1x1x2x64x512 .f32) (harg2 : arg2.IsWhole) (arg3 : Memref sig .tc .vmem S1x1x2x16x128 .f32) (harg3 : arg3.IsWhole) (arg4 : Memref sig .tc .vmem S2x20x128x512 .f32) (harg4 : arg4.IsWhole) (arg5 : Memref sig .tc .vmem S1x2x512x64 .bf16) (harg5 : arg5.IsWhole) (arg6 : Memref sig .tc .vmem S1x2x80x512 .bf16) (harg6 : arg6.IsWhole) (arg7 : Memref sig .tc .vmem S1x2x8192x256 .bf16) (harg7 : arg7.IsWhole) (arg8 : Memref sig .tc .vmem S1x2x16x80x512 .bf16) (harg8 : arg8.IsWhole) (arg9 : Memref sig .tc .vmem S1x2x8192x64 .bf16) (harg9 : arg9.IsWhole) (arg10 : Memref sig .tc .vmem S1x2x64x80x128 .bf16) (harg10 : arg10.IsWhole) (arg11 : Memref sig .tc .vmem S2x20x8x512 .f32) (harg11 : arg11.IsWhole) (arg12 : Memref sig .tc .vmem S128x512 .bf16) (harg12 : arg12.IsWhole) (arg13 : Memref sig .tc .vmem S1x1x512x128 .bf16) (harg13 : arg13.IsWhole) (arg14 : Memref sig .tc .vmem S2x256x512 .bf16) (harg14 : arg14.IsWhole) (arg15 : Memref sig .tc .vmem S2x512x512 .f32) (harg15 : arg15.IsWhole) (arg16 : Memref sig .tc .vmem S2x512x512 .bf16) (harg16 : arg16.IsWhole)
    (arg1 : BitVec 32) (v20_0 : FVec F S64x512 .f32) (v20_1 : FVec F S64x512 .f32) (v20_2 : FVec F S64x512 .f32) (v20_3 : FVec F S64x512 .f32) (v23 : BitVec 32) (v31 : FVec F S128x512 .f32) (v33 : BitVec 32) (c0_i32_14 : BitVec 32) :
    Prog (TpuEff nD τ sig (Elt F) Λ₀ .tc) PUnit := do
  let ⟨v61, v62, v64⟩ : Σ' (v61 : FVec F S512x512 .f32) (v62 : FVec F S512x512 .f32), IVec S512x512 1 ← k0_part179 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v31 v33 c0_i32_14
  let ⟨v71, v75, v76, v79, v87, v95, c0_i32_68⟩ : Σ' (v71 : FVec F S1x512 .f32) (v75 : FVec F S1x512 .f32) (v76 : FVec F S80x512 .f32) (v79 : BitVec 32) (v87 : FVec F S128x512 .f32) (v95 : FVec F S128x512 .f32), BitVec 32 ← k0_part180 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v61 v62 v64
  let ⟨v125, v127⟩ : Σ' (v125 : FVec F S512x512 .f32), FVec F S1x512 .f32 ← k0_part181 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v79 v87 v95 c0_i32_68
  let ⟨v154, v161_1, v161_4⟩ : Σ' (v154 : BitVec 32) (v161_1 : FVec F S80x512 .f32), FVec F S80x512 .f32 ← k0_part182 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v71 v75 v76 v125 v127
  let ⟨v177, v179, v201, v205⟩ : Σ' (v177 : FVec F S64x512 .f32) (v179 : FVec F S16x128 .f32) (v201 : FVec F S64x128 .f32), FVec F S64x128 .f32 ← k0_part183 i arg2 harg2 arg3 harg3 arg4 harg4 arg5 harg5 arg6 harg6 arg7 harg7 arg8 harg8 arg9 harg9 arg10 harg10 arg11 harg11 arg12 harg12 arg13 harg13 arg14 harg14 arg15 harg15 arg16 harg16 v20_0 v20_1 v161_1
  let v251 : FVec F S1x1x64x128 .bf16 ← k0_part184 i arg2 harg2 arg3 harg3 arg4 harg4 arg5 harg5 arg6 harg6 arg7 harg7 arg8 harg8 arg9 harg9 arg10 harg10 arg11 harg11 arg12 harg12 arg13 harg13 arg14 harg14 arg15 harg15 arg16 harg16 v20_0 v20_1 v177 v179 v201 v205
  let ⟨v267, v269, v288, v289⟩ : Σ' (v267 : FVec F S64x512 .f32) (v269 : FVec F S16x128 .f32) (v288 : FVec F S1x128 .f32), FVec F S64x128 .f32 ← k0_part185 i arg2 harg2 arg3 harg3 arg4 harg4 arg5 harg5 arg6 harg6 arg7 harg7 arg8 harg8 arg9 harg9 arg10 harg10 arg11 harg11 arg12 harg12 arg13 harg13 arg14 harg14 arg15 harg15 arg16 harg16 v20_2 v20_3 v154 v161_4 v251
  let v338 : FVec F S64x128 .bf16 ← k0_part186 i arg2 harg2 arg3 harg3 arg4 harg4 arg5 harg5 arg6 harg6 arg7 harg7 arg8 harg8 arg9 harg9 arg10 harg10 arg11 harg11 arg12 harg12 arg13 harg13 arg14 harg14 arg15 harg15 arg16 harg16 v20_2 v20_3 v267 v269 v288 v289
  let v339 : Vec F S1x1x64x128 .bf16 ← Prog.lift (.load arg13 (Rect.unit (s := S1x1x512x128) ![0, 0, 448, 0] S1x1x64x128.size inb_S1x1x512x128_S1x1x64x128_0_0_448_0).toLoadRect (View.loadsAt_vmem h_S1x1x64x128))
  Prog.lift (.store arg13 (Rect.unit (s := S1x1x512x128) ![0, 0, 448, 0] S1x1x64x128.size inb_S1x1x512x128_S1x1x64x128_0_0_448_0) (k0_pay1 v338) Finset.univ (View.stores_vmem h_S1x1x64x128 (harg13.storeExact_slice rfl _ packedbf16_S1x1x512x128_S1x1x64x128_0_0_448_0) (fun _ => rfl)) (.inl rfl))
  pure ⟨⟩

/-- The body is its head followed by the rest. -/
theorem body_eq (i : grid0.Coords) (arg2 : Memref sig .tc .vmem S1x1x2x64x512 .f32) (harg2 : arg2.IsWhole) (arg3 : Memref sig .tc .vmem S1x1x2x16x128 .f32) (harg3 : arg3.IsWhole) (arg4 : Memref sig .tc .vmem S2x20x128x512 .f32) (harg4 : arg4.IsWhole) (arg5 : Memref sig .tc .vmem S1x2x512x64 .bf16) (harg5 : arg5.IsWhole) (arg6 : Memref sig .tc .vmem S1x2x80x512 .bf16) (harg6 : arg6.IsWhole) (arg7 : Memref sig .tc .vmem S1x2x8192x256 .bf16) (harg7 : arg7.IsWhole) (arg8 : Memref sig .tc .vmem S1x2x16x80x512 .bf16) (harg8 : arg8.IsWhole) (arg9 : Memref sig .tc .vmem S1x2x8192x64 .bf16) (harg9 : arg9.IsWhole) (arg10 : Memref sig .tc .vmem S1x2x64x80x128 .bf16) (harg10 : arg10.IsWhole) (arg11 : Memref sig .tc .vmem S2x20x8x512 .f32) (harg11 : arg11.IsWhole) (arg12 : Memref sig .tc .vmem S128x512 .bf16) (harg12 : arg12.IsWhole) (arg13 : Memref sig .tc .vmem S1x1x512x128 .bf16) (harg13 : arg13.IsWhole) (arg14 : Memref sig .tc .vmem S2x256x512 .bf16) (harg14 : arg14.IsWhole) (arg15 : Memref sig .tc .vmem S2x512x512 .f32) (harg15 : arg15.IsWhole) (arg16 : Memref sig .tc .vmem S2x512x512 .bf16) (harg16 : arg16.IsWhole) :
    cc0_nsa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16
      = (k0_part178 i arg2 harg2 arg3 harg3 arg4 harg4 arg5 harg5 arg6 harg6 arg7 harg7 arg8 harg8 arg9 harg9 arg10 harg10 arg11 harg11 arg12 harg12 arg13 harg13 arg14 harg14 arg15 harg15 arg16 harg16 >>= fun r => tailProg i arg2 harg2 arg3 harg3 arg4 harg4 arg5 harg5 arg6 harg6 arg7 harg7 arg8 harg8 arg9 harg9 arg10 harg10 arg11 harg11 arg12 harg12 arg13 harg13 arg14 harg14 arg15 harg15 arg16 harg16 r.1 r.2.1 r.2.2.1 r.2.2.2.1 r.2.2.2.2.1 r.2.2.2.2.2.1 r.2.2.2.2.2.2.1 r.2.2.2.2.2.2.2.1 r.2.2.2.2.2.2.2.2) := by
  rw [cc0_nsa_eq_skeleton]; rfl

/-- The rest's run: the pieces that it stores into the output block, at any contents of the score and weight
    scratches (which it fills before it reads them), its inputs left as they were. -/
@[irreducible] def tail (𝒱 : Variants) (c : Dev nD) (i : grid0.Coords) (arg2 : Memref sig .tc .vmem S1x1x2x64x512 .f32) (harg2 : arg2.IsWhole) (arg3 : Memref sig .tc .vmem S1x1x2x16x128 .f32) (harg3 : arg3.IsWhole) (arg4 : Memref sig .tc .vmem S2x20x128x512 .f32) (harg4 : arg4.IsWhole) (arg5 : Memref sig .tc .vmem S1x2x512x64 .bf16) (harg5 : arg5.IsWhole) (arg6 : Memref sig .tc .vmem S1x2x80x512 .bf16) (harg6 : arg6.IsWhole) (arg7 : Memref sig .tc .vmem S1x2x8192x256 .bf16) (harg7 : arg7.IsWhole) (arg8 : Memref sig .tc .vmem S1x2x16x80x512 .bf16) (harg8 : arg8.IsWhole) (arg9 : Memref sig .tc .vmem S1x2x8192x64 .bf16) (harg9 : arg9.IsWhole) (arg10 : Memref sig .tc .vmem S1x2x64x80x128 .bf16) (harg10 : arg10.IsWhole) (arg11 : Memref sig .tc .vmem S2x20x8x512 .f32) (harg11 : arg11.IsWhole) (arg12 : Memref sig .tc .vmem S128x512 .bf16) (harg12 : arg12.IsWhole) (arg13 : Memref sig .tc .vmem S1x1x512x128 .bf16) (harg13 : arg13.IsWhole) (arg14 : Memref sig .tc .vmem S2x256x512 .bf16) (harg14 : arg14.IsWhole) (arg15 : Memref sig .tc .vmem S2x512x512 .f32) (harg15 : arg15.IsWhole) (arg16 : Memref sig .tc .vmem S2x512x512 .bf16) (harg16 : arg16.IsWhole)
    (arg1 : BitVec 32) (v20_0 : FVec F S64x512 .f32) (v20_1 : FVec F S64x512 .f32) (v20_2 : FVec F S64x512 .f32) (v20_3 : FVec F S64x512 .f32) (v23 : BitVec 32) (v31 : FVec F S128x512 .f32) (v33 : BitVec 32) (c0_i32_14 : BitVec 32)
    (X_arg3 : BufTy.Contents (Elt F) arg3.view.ty) (X_arg4 : BufTy.Contents (Elt F) arg4.view.ty) (X_arg7 : BufTy.Contents (Elt F) arg7.view.ty) (X_arg8 : BufTy.Contents (Elt F) arg8.view.ty) (X_arg14 : BufTy.Contents (Elt F) arg14.view.ty) (f_arg15 : BufTy.Contents (Elt F) arg15.view.ty) (f_arg16 : BufTy.Contents (Elt F) arg16.view.ty) :
    { L_arg13 : List (View.Piece (Elt F) S1x1x512x128 .bf16) // ∀ (E : Set ℕ) (f_arg13 : BufTy.Contents (Elt F) arg13.view.ty),
      (iprop((arg3.view.loc (c : Thread nD τ) ↦[arg3.view.set]{fullShare} X_arg3) ∗ (arg4.view.loc (c : Thread nD τ) ↦[arg4.view.set]{fullShare} X_arg4) ∗ (arg7.view.loc (c : Thread nD τ) ↦[arg7.view.set]{fullShare} X_arg7) ∗ (arg8.view.loc (c : Thread nD τ) ↦[arg8.view.set]{fullShare} X_arg8) ∗ (arg14.view.loc (c : Thread nD τ) ↦[arg14.view.set]{fullShare} X_arg14) ∗ (arg13.view.loc (c : Thread nD τ) ↦[arg13.view.set]{fullShare} f_arg13) ∗ (arg15.view.loc (c : Thread nD τ) ↦[arg15.view.set]{fullShare} f_arg15) ∗ (arg16.view.loc (c : Thread nD τ) ↦[arg16.view.set]{fullShare} f_arg16)) : sProp 𝕄)
      ⊢ wp frame (wpE (defs₀ (F := F)) 𝒱 (c : Thread nD τ) none) E (tailProg (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v20_0 v20_1 v20_2 v20_3 v23 v31 v33 c0_i32_14)
          (fun _ => iprop((arg3.view.loc (c : Thread nD τ) ↦[arg3.view.set]{fullShare} X_arg3) ∗ (arg4.view.loc (c : Thread nD τ) ↦[arg4.view.set]{fullShare} X_arg4) ∗ (arg7.view.loc (c : Thread nD τ) ↦[arg7.view.set]{fullShare} X_arg7) ∗ (arg8.view.loc (c : Thread nD τ) ↦[arg8.view.set]{fullShare} X_arg8) ∗ (arg14.view.loc (c : Thread nD τ) ↦[arg14.view.set]{fullShare} X_arg14) ∗ (arg13.view.loc (c : Thread nD τ) ↦[arg13.view.set]{fullShare} (arg13.view.writes (Elt F) f_arg13 L_arg13))
            ∗ (∃ g, (arg15.view.loc (c : Thread nD τ) ↦[arg15.view.set]{fullShare} g)) ∗ (∃ g, (arg16.view.loc (c : Thread nD τ) ↦[arg16.view.set]{fullShare} g)))) } := by
  refine ⟨?_, fun E f_arg13 => ?run⟩
  case run =>
    unfold tailProg
    iintro ⟨H_arg3, H_arg4, H_arg7, H_arg8, H_arg14, H_arg13, H_arg15, H_arg16⟩
    sl_exec_parts
    sl_step
    sl_close

end Cert.KernelIdeal

end
-- ==== Proof.KernelIdeal.Body.lean ====
/-
  The kernel's body at one grid point (its head in the branch that the switch takes there, then the rest):
  what it stores into the output block.
-/
module

public import proofs.«01_k».proof.Proof.KernelIdeal.Head1
public import proofs.«01_k».proof.Proof.KernelIdeal.Head2
public import proofs.«01_k».proof.Proof.KernelIdeal.Head3
public import proofs.«01_k».proof.Proof.KernelIdeal.Head4
public import proofs.«01_k».proof.Proof.KernelIdeal.Tail
public import proofs.«01_k».proof.Proof.Gen.KernelIdeal.Frame

@[expose] public section

set_option maxRecDepth 65536
set_option maxHeartbeats 4000000

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What the head hands to the rest. -/
abbrev Handed (F : FTy → Type) [FloatOps F] [Named F] : Type := Σ' (arg1 : BitVec 32) (v20_0 : FVec F S64x512 .f32) (v20_1 : FVec F S64x512 .f32) (v20_2 : FVec F S64x512 .f32) (v20_3 : FVec F S64x512 .f32) (v23 : BitVec 32) (v31 : FVec F S128x512 .f32) (v33 : BitVec 32), BitVec 32

/-- What the head hands over and stores into the scratch of extended queries, in the branch the switch takes. -/
def head (𝒱 : Variants) (c : Dev nD) (i : grid0.Coords) (arg2 : Memref sig .tc .vmem S1x1x2x64x512 .f32) (harg2 : arg2.IsWhole) (arg3 : Memref sig .tc .vmem S1x1x2x16x128 .f32) (harg3 : arg3.IsWhole) (arg4 : Memref sig .tc .vmem S2x20x128x512 .f32) (harg4 : arg4.IsWhole) (arg5 : Memref sig .tc .vmem S1x2x512x64 .bf16) (harg5 : arg5.IsWhole) (arg6 : Memref sig .tc .vmem S1x2x80x512 .bf16) (harg6 : arg6.IsWhole) (arg7 : Memref sig .tc .vmem S1x2x8192x256 .bf16) (harg7 : arg7.IsWhole) (arg8 : Memref sig .tc .vmem S1x2x16x80x512 .bf16) (harg8 : arg8.IsWhole) (arg9 : Memref sig .tc .vmem S1x2x8192x64 .bf16) (harg9 : arg9.IsWhole) (arg10 : Memref sig .tc .vmem S1x2x64x80x128 .bf16) (harg10 : arg10.IsWhole) (arg11 : Memref sig .tc .vmem S2x20x8x512 .f32) (harg11 : arg11.IsWhole) (arg12 : Memref sig .tc .vmem S128x512 .bf16) (harg12 : arg12.IsWhole) (arg13 : Memref sig .tc .vmem S1x1x512x128 .bf16) (harg13 : arg13.IsWhole) (arg14 : Memref sig .tc .vmem S2x256x512 .bf16) (harg14 : arg14.IsWhole) (arg15 : Memref sig .tc .vmem S2x512x512 .f32) (harg15 : arg15.IsWhole) (arg16 : Memref sig .tc .vmem S2x512x512 .bf16) (harg16 : arg16.IsWhole)
    (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) : Handed F × List (View.Piece (Elt F) S2x256x512 .bf16) :=
  if hc1 : k0_cond1 i = 1#1 then
    if hc2 : k0_cond2 i = 1#1 then
      if hc3 : k0_cond3 i = 1#1 then (⟨(head4 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 X_arg2 X_arg4 X_arg5 X_arg6 X_arg9 X_arg10 X_arg11 X_arg12).1, (head4 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 X_arg2 X_arg4 X_arg5 X_arg6 X_arg9 X_arg10 X_arg11 X_arg12).2.1⟩) else (⟨(head3 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 X_arg2 X_arg4 X_arg5 X_arg6 X_arg9 X_arg10 X_arg11 X_arg12).1, (head3 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 X_arg2 X_arg4 X_arg5 X_arg6 X_arg9 X_arg10 X_arg11 X_arg12).2.1⟩)
    else (⟨(head2 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg4 X_arg5 X_arg6 X_arg9 X_arg10 X_arg11 X_arg12).1, (head2 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg4 X_arg5 X_arg6 X_arg9 X_arg10 X_arg11 X_arg12).2.1⟩)
  else (⟨(head1 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 X_arg2 X_arg4 X_arg5 X_arg6 X_arg9 X_arg10 X_arg11 X_arg12).1, (head1 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 X_arg2 X_arg4 X_arg5 X_arg6 X_arg9 X_arg10 X_arg11 X_arg12).2.1⟩)

theorem head_run (𝒱 : Variants) (c : Dev nD) (i : grid0.Coords) (arg2 : Memref sig .tc .vmem S1x1x2x64x512 .f32) (harg2 : arg2.IsWhole) (arg3 : Memref sig .tc .vmem S1x1x2x16x128 .f32) (harg3 : arg3.IsWhole) (arg4 : Memref sig .tc .vmem S2x20x128x512 .f32) (harg4 : arg4.IsWhole) (arg5 : Memref sig .tc .vmem S1x2x512x64 .bf16) (harg5 : arg5.IsWhole) (arg6 : Memref sig .tc .vmem S1x2x80x512 .bf16) (harg6 : arg6.IsWhole) (arg7 : Memref sig .tc .vmem S1x2x8192x256 .bf16) (harg7 : arg7.IsWhole) (arg8 : Memref sig .tc .vmem S1x2x16x80x512 .bf16) (harg8 : arg8.IsWhole) (arg9 : Memref sig .tc .vmem S1x2x8192x64 .bf16) (harg9 : arg9.IsWhole) (arg10 : Memref sig .tc .vmem S1x2x64x80x128 .bf16) (harg10 : arg10.IsWhole) (arg11 : Memref sig .tc .vmem S2x20x8x512 .f32) (harg11 : arg11.IsWhole) (arg12 : Memref sig .tc .vmem S128x512 .bf16) (harg12 : arg12.IsWhole) (arg13 : Memref sig .tc .vmem S1x1x512x128 .bf16) (harg13 : arg13.IsWhole) (arg14 : Memref sig .tc .vmem S2x256x512 .bf16) (harg14 : arg14.IsWhole) (arg15 : Memref sig .tc .vmem S2x512x512 .f32) (harg15 : arg15.IsWhole) (arg16 : Memref sig .tc .vmem S2x512x512 .bf16) (harg16 : arg16.IsWhole)
    (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (E : Set ℕ) (f_arg14 : BufTy.Contents (Elt F) arg14.view.ty) :
      (iprop((arg2.view.loc (c : Thread nD τ) ↦[arg2.view.set]{fullShare} X_arg2) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg14.view.loc (c : Thread nD τ) ↦[arg14.view.set]{fullShare} f_arg14)) : sProp 𝕄)
      ⊢ wp frame (wpE (defs₀ (F := F)) 𝒱 (c : Thread nD τ) none) E (k0_part178 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun r => iprop(⌜r = (head 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg4 X_arg5 X_arg6 X_arg9 X_arg10 X_arg11 X_arg12).1⌝ ∗ (arg2.view.loc (c : Thread nD τ) ↦[arg2.view.set]{fullShare} X_arg2) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg14.view.loc (c : Thread nD τ) ↦[arg14.view.set]{fullShare} (arg14.view.writes (Elt F) f_arg14 (head 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg4 X_arg5 X_arg6 X_arg9 X_arg10 X_arg11 X_arg12).2)))) := by
  unfold head
  by_cases hc1 : k0_cond1 i = 1#1
  · by_cases hc2 : k0_cond2 i = 1#1
    · by_cases hc3 : k0_cond3 i = 1#1
      · rw [dif_pos hc1, dif_pos hc2, dif_pos hc3]
        exact (head4 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 X_arg2 X_arg4 X_arg5 X_arg6 X_arg9 X_arg10 X_arg11 X_arg12).2.2 E f_arg14
      · rw [dif_pos hc1, dif_pos hc2, dif_neg hc3]
        exact (head3 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 X_arg2 X_arg4 X_arg5 X_arg6 X_arg9 X_arg10 X_arg11 X_arg12).2.2 E f_arg14
    · rw [dif_pos hc1, dif_neg hc2]
      exact (head2 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg4 X_arg5 X_arg6 X_arg9 X_arg10 X_arg11 X_arg12).2.2 E f_arg14
  · rw [dif_neg hc1]
    exact (head1 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 X_arg2 X_arg4 X_arg5 X_arg6 X_arg9 X_arg10 X_arg11 X_arg12).2.2 E f_arg14

/-- The pieces that the body stores into the output block, at what its buffers hold. -/
def outPieces (𝒱 : Variants) (c : Dev nD) (i : grid0.Coords) (arg2 : Memref sig .tc .vmem S1x1x2x64x512 .f32) (harg2 : arg2.IsWhole) (arg3 : Memref sig .tc .vmem S1x1x2x16x128 .f32) (harg3 : arg3.IsWhole) (arg4 : Memref sig .tc .vmem S2x20x128x512 .f32) (harg4 : arg4.IsWhole) (arg5 : Memref sig .tc .vmem S1x2x512x64 .bf16) (harg5 : arg5.IsWhole) (arg6 : Memref sig .tc .vmem S1x2x80x512 .bf16) (harg6 : arg6.IsWhole) (arg7 : Memref sig .tc .vmem S1x2x8192x256 .bf16) (harg7 : arg7.IsWhole) (arg8 : Memref sig .tc .vmem S1x2x16x80x512 .bf16) (harg8 : arg8.IsWhole) (arg9 : Memref sig .tc .vmem S1x2x8192x64 .bf16) (harg9 : arg9.IsWhole) (arg10 : Memref sig .tc .vmem S1x2x64x80x128 .bf16) (harg10 : arg10.IsWhole) (arg11 : Memref sig .tc .vmem S2x20x8x512 .f32) (harg11 : arg11.IsWhole) (arg12 : Memref sig .tc .vmem S128x512 .bf16) (harg12 : arg12.IsWhole) (arg13 : Memref sig .tc .vmem S1x1x512x128 .bf16) (harg13 : arg13.IsWhole) (arg14 : Memref sig .tc .vmem S2x256x512 .bf16) (harg14 : arg14.IsWhole) (arg15 : Memref sig .tc .vmem S2x512x512 .f32) (harg15 : arg15.IsWhole) (arg16 : Memref sig .tc .vmem S2x512x512 .bf16) (harg16 : arg16.IsWhole)
    (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty)  (f_arg14 : BufTy.Contents (Elt F) arg14.view.ty) (f_arg15 : BufTy.Contents (Elt F) arg15.view.ty) (f_arg16 : BufTy.Contents (Elt F) arg16.view.ty) :
    List (View.Piece (Elt F) S1x1x512x128 .bf16) :=
  let r := head 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg4 X_arg5 X_arg6 X_arg9 X_arg10 X_arg11 X_arg12
  (tail 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 r.1.1 r.1.2.1 r.1.2.2.1 r.1.2.2.2.1 r.1.2.2.2.2.1 r.1.2.2.2.2.2.1 r.1.2.2.2.2.2.2.1 r.1.2.2.2.2.2.2.2.1 r.1.2.2.2.2.2.2.2.2 X_arg3 X_arg4 X_arg7 X_arg8 (arg14.view.writes (Elt F) f_arg14 r.2) f_arg15 f_arg16).1

theorem body_run (𝒱 : Variants) (c : Dev nD) (i : grid0.Coords) (arg2 : Memref sig .tc .vmem S1x1x2x64x512 .f32) (harg2 : arg2.IsWhole) (arg3 : Memref sig .tc .vmem S1x1x2x16x128 .f32) (harg3 : arg3.IsWhole) (arg4 : Memref sig .tc .vmem S2x20x128x512 .f32) (harg4 : arg4.IsWhole) (arg5 : Memref sig .tc .vmem S1x2x512x64 .bf16) (harg5 : arg5.IsWhole) (arg6 : Memref sig .tc .vmem S1x2x80x512 .bf16) (harg6 : arg6.IsWhole) (arg7 : Memref sig .tc .vmem S1x2x8192x256 .bf16) (harg7 : arg7.IsWhole) (arg8 : Memref sig .tc .vmem S1x2x16x80x512 .bf16) (harg8 : arg8.IsWhole) (arg9 : Memref sig .tc .vmem S1x2x8192x64 .bf16) (harg9 : arg9.IsWhole) (arg10 : Memref sig .tc .vmem S1x2x64x80x128 .bf16) (harg10 : arg10.IsWhole) (arg11 : Memref sig .tc .vmem S2x20x8x512 .f32) (harg11 : arg11.IsWhole) (arg12 : Memref sig .tc .vmem S128x512 .bf16) (harg12 : arg12.IsWhole) (arg13 : Memref sig .tc .vmem S1x1x512x128 .bf16) (harg13 : arg13.IsWhole) (arg14 : Memref sig .tc .vmem S2x256x512 .bf16) (harg14 : arg14.IsWhole) (arg15 : Memref sig .tc .vmem S2x512x512 .f32) (harg15 : arg15.IsWhole) (arg16 : Memref sig .tc .vmem S2x512x512 .bf16) (harg16 : arg16.IsWhole)
    (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (E : Set ℕ) :
      (iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16)) : sProp 𝕄)
      ⊢ wp frame (wpE (defs₀ (F := F)) 𝒱 (c : Thread nD τ) none) E (cc0_nsa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} (arg13.view.writes (Elt F) f_arg13 (outPieces 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 X_arg10 X_arg11 X_arg12 f_arg14 f_arg15 f_arg16)))
            ∗ (∃ g, (arg14.view.loc (c : Thread nD τ) ↦[arg14.view.set]{fullShare} g)) ∗ (∃ g, (arg15.view.loc (c : Thread nD τ) ↦[arg15.view.set]{fullShare} g)) ∗ (∃ g, (arg16.view.loc (c : Thread nD τ) ↦[arg16.view.set]{fullShare} g)))) := by
  rw [body_eq, wp_bind]
  iintro ⟨H_arg2, H_arg3, H_arg4, H_arg5, H_arg6, H_arg7, H_arg8, H_arg9, H_arg10, H_arg11, H_arg12, H_arg13, H_arg14, H_arg15, H_arg16⟩
  iapply (wp_wand_r frame (wpE (defs₀ (F := F)) 𝒱 (c : Thread nD τ) none) E)
  isplitl [H_arg2 H_arg4 H_arg5 H_arg6 H_arg9 H_arg10 H_arg11 H_arg12 H_arg14]
  · iapply (head_run 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg4 X_arg5 X_arg6 X_arg9 X_arg10 X_arg11 X_arg12 E f_arg14)
    isplitl [H_arg2]; · iexact H_arg2
    isplitl [H_arg4]; · iexact H_arg4
    isplitl [H_arg5]; · iexact H_arg5
    isplitl [H_arg6]; · iexact H_arg6
    isplitl [H_arg9]; · iexact H_arg9
    isplitl [H_arg10]; · iexact H_arg10
    isplitl [H_arg11]; · iexact H_arg11
    isplitl [H_arg12]; · iexact H_arg12
    iexact H_arg14
  iintro %r ⟨%hr, H_arg2, H_arg4, H_arg5, H_arg6, H_arg9, H_arg10, H_arg11, H_arg12, H_arg14⟩
  subst hr
  iapply (wp_wand_r frame (wpE (defs₀ (F := F)) 𝒱 (c : Thread nD τ) none) E)
  isplitl [H_arg3 H_arg4 H_arg7 H_arg8 H_arg14 H_arg13 H_arg15 H_arg16]
  · iapply ((tail 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ X_arg3 X_arg4 X_arg7 X_arg8 (arg14.view.writes (Elt F) f_arg14 (head 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg4 X_arg5 X_arg6 X_arg9 X_arg10 X_arg11 X_arg12).2) f_arg15 f_arg16).2 E f_arg13)
    isplitl [H_arg3]; · iexact H_arg3
    isplitl [H_arg4]; · iexact H_arg4
    isplitl [H_arg7]; · iexact H_arg7
    isplitl [H_arg8]; · iexact H_arg8
    isplitl [H_arg14]; · iexact H_arg14
    isplitl [H_arg13]; · iexact H_arg13
    isplitl [H_arg15]; · iexact H_arg15
    iexact H_arg16
  iintro %_ ⟨H_arg3, H_arg4, H_arg7, H_arg8, H_arg14, H_arg13, H_arg15, H_arg16⟩
  isplitl [H_arg2]; · iexact H_arg2
  isplitl [H_arg3]; · iexact H_arg3
  isplitl [H_arg4]; · iexact H_arg4
  isplitl [H_arg5]; · iexact H_arg5
  isplitl [H_arg6]; · iexact H_arg6
  isplitl [H_arg7]; · iexact H_arg7
  isplitl [H_arg8]; · iexact H_arg8
  isplitl [H_arg9]; · iexact H_arg9
  isplitl [H_arg10]; · iexact H_arg10
  isplitl [H_arg11]; · iexact H_arg11
  isplitl [H_arg12]; · iexact H_arg12
  isplitl [H_arg13]; · iexact H_arg13
  isplitl [H_arg14]; · iexists _; iexact H_arg14
  isplitl [H_arg15]; · iexact H_arg15
  iexact H_arg16

end Cert.KernelIdeal

end
-- ==== Proof.KernelIdeal.Launch.lean ====
/- The launch: every run ends, each argument array as it was, each output block in the relation that one run of the
   body leaves between its input blocks and the block that it writes. -/
module

public import proofs.«01_k».proof.Proof.KernelIdeal.Body

@[expose] public section

set_option maxRecDepth 65536
set_option maxHeartbeats 4000000

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What the body may leave in the output block at point `t`: the words that it writes, its inputs reading their
    blocks there, whatever the output block and the scratches held before. -/
def Rel (m : (ℓ : Loc nD τ sig) → Buf (Elt F) ℓ) (𝒱 : Variants) (c : Dev nD) (t : Fin cfg0.N) (Z : (cfg0.win 11).block.Idx → Elt F (cfg0.win 11).elt) : Prop :=
  ∃ X_arg2 : BufTy.Contents (Elt F) (win0_0.stage (cfg0.slots t 0)).view.ty, ∃ X_arg3 : BufTy.Contents (Elt F) (win0_1.stage (cfg0.slots t 1)).view.ty, ∃ X_arg4 : BufTy.Contents (Elt F) (win0_2.stage (cfg0.slots t 2)).view.ty, ∃ X_arg5 : BufTy.Contents (Elt F) (win0_3.stage (cfg0.slots t 3)).view.ty, ∃ X_arg6 : BufTy.Contents (Elt F) (win0_4.stage (cfg0.slots t 4)).view.ty, ∃ X_arg7 : BufTy.Contents (Elt F) (win0_5.stage (cfg0.slots t 5)).view.ty, ∃ X_arg8 : BufTy.Contents (Elt F) (win0_6.stage (cfg0.slots t 6)).view.ty, ∃ X_arg9 : BufTy.Contents (Elt F) (win0_7.stage (cfg0.slots t 7)).view.ty, ∃ X_arg10 : BufTy.Contents (Elt F) (win0_8.stage (cfg0.slots t 8)).view.ty, ∃ X_arg11 : BufTy.Contents (Elt F) (win0_9.stage (cfg0.slots t 9)).view.ty, ∃ X_arg12 : BufTy.Contents (Elt F) (win0_10.stage (cfg0.slots t 10)).view.ty, ∃ (f_arg13 : BufTy.Contents (Elt F) (win0_11.stage (cfg0.slots t 11)).view.ty) (f_arg14 : BufTy.Contents (Elt F) (Memref.whole cc0_scratch0).view.ty) (f_arg15 : BufTy.Contents (Elt F) (Memref.whole cc0_scratch1).view.ty) (f_arg16 : BufTy.Contents (Elt F) (Memref.whole cc0_scratch2).view.ty),
    (win0_0.stage (cfg0.slots t 0)).view.read (Elt F) X_arg2 = iblk m c 0 t ∧ (win0_1.stage (cfg0.slots t 1)).view.read (Elt F) X_arg3 = iblk m c 1 t ∧ (win0_2.stage (cfg0.slots t 2)).view.read (Elt F) X_arg4 = iblk m c 2 t ∧ (win0_3.stage (cfg0.slots t 3)).view.read (Elt F) X_arg5 = iblk m c 3 t ∧ (win0_4.stage (cfg0.slots t 4)).view.read (Elt F) X_arg6 = iblk m c 4 t ∧ (win0_5.stage (cfg0.slots t 5)).view.read (Elt F) X_arg7 = iblk m c 5 t ∧ (win0_6.stage (cfg0.slots t 6)).view.read (Elt F) X_arg8 = iblk m c 6 t ∧ (win0_7.stage (cfg0.slots t 7)).view.read (Elt F) X_arg9 = iblk m c 7 t ∧ (win0_8.stage (cfg0.slots t 8)).view.read (Elt F) X_arg10 = iblk m c 8 t ∧ (win0_9.stage (cfg0.slots t 9)).view.read (Elt F) X_arg11 = iblk m c 9 t ∧ (win0_10.stage (cfg0.slots t 10)).view.read (Elt F) X_arg12 = iblk m c 10 t
    ∧ Z = (win0_11.stage (cfg0.slots t 11)).view.read (Elt F) ((win0_11.stage (cfg0.slots t 11)).view.writes (Elt F) f_arg13 (outPieces 𝒱 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) X_arg2 X_arg3 X_arg4 X_arg5 X_arg6 X_arg7 X_arg8 X_arg9 X_arg10 X_arg11 X_arg12 f_arg14 f_arg15 f_arg16))

variable (m : (ℓ : Loc nD τ sig) → Buf (Elt F) ℓ) (ρ : Dev nD → PrngReg)

/-- The proof data of the region: the arrays at their contents at entry; the body leaves each input block as it
    found it and the output block in `Rel`. -/
def rdats (𝒱 : Variants) (c : Dev nD) : Pipeline.RDat τ (Elt F) Unit ℕ (UR sig nD τ) ℕ cfg0 c where
  A w := V m c (Pipeline.arrRef spec0 w)
  after w t Y Z := match w with
    | 0 => Z = Y
    | 1 => Z = Y
    | 2 => Z = Y
    | 3 => Z = Y
    | 4 => Z = Y
    | 5 => Z = Y
    | 6 => Z = Y
    | 7 => Z = Y
    | 8 => Z = Y
    | 9 => Z = Y
    | 10 => Z = Y
    | 11 => Rel m 𝒱 c t Z
  Φ _ := Pipeline.ΦA spec0 c
  q _ := fullShare
  owed _ := 0

theorem finds0 (𝒱 : Variants) (c : Dev nD) (t : Fin cfg0.N) (Y) (h : (rdats m 𝒱 c).Finds 0 t Y) : Y = iblk m c 0 t := by
  obtain ⟨d, hd⟩ := (rdats m 𝒱 c).finds_in_eq_fetched 0 rfl (fun _ _ _ => rfl) (fun _ _ _ h => h) t Y h
  rw [hd]; unfold Pipeline.RDat.fetched Pipeline.RDat.blockOf iblk; try rfl
theorem finds1 (𝒱 : Variants) (c : Dev nD) (t : Fin cfg0.N) (Y) (h : (rdats m 𝒱 c).Finds 1 t Y) : Y = iblk m c 1 t := by
  obtain ⟨d, hd⟩ := (rdats m 𝒱 c).finds_in_eq_fetched 1 rfl (fun _ _ _ => rfl) (fun _ _ _ h => h) t Y h
  rw [hd]; unfold Pipeline.RDat.fetched Pipeline.RDat.blockOf iblk; try rfl
theorem finds2 (𝒱 : Variants) (c : Dev nD) (t : Fin cfg0.N) (Y) (h : (rdats m 𝒱 c).Finds 2 t Y) : Y = iblk m c 2 t := by
  obtain ⟨d, hd⟩ := (rdats m 𝒱 c).finds_in_eq_fetched 2 rfl (fun _ _ _ => rfl) (fun _ _ _ h => h) t Y h
  rw [hd]; unfold Pipeline.RDat.fetched Pipeline.RDat.blockOf iblk; try rfl
theorem finds3 (𝒱 : Variants) (c : Dev nD) (t : Fin cfg0.N) (Y) (h : (rdats m 𝒱 c).Finds 3 t Y) : Y = iblk m c 3 t := by
  obtain ⟨d, hd⟩ := (rdats m 𝒱 c).finds_in_eq_fetched 3 rfl (fun _ _ _ => rfl) (fun _ _ _ h => h) t Y h
  rw [hd]; unfold Pipeline.RDat.fetched Pipeline.RDat.blockOf iblk; try rfl
theorem finds4 (𝒱 : Variants) (c : Dev nD) (t : Fin cfg0.N) (Y) (h : (rdats m 𝒱 c).Finds 4 t Y) : Y = iblk m c 4 t := by
  obtain ⟨d, hd⟩ := (rdats m 𝒱 c).finds_in_eq_fetched 4 rfl (fun _ _ _ => rfl) (fun _ _ _ h => h) t Y h
  rw [hd]; unfold Pipeline.RDat.fetched Pipeline.RDat.blockOf iblk; try rfl
theorem finds5 (𝒱 : Variants) (c : Dev nD) (t : Fin cfg0.N) (Y) (h : (rdats m 𝒱 c).Finds 5 t Y) : Y = iblk m c 5 t := by
  obtain ⟨d, hd⟩ := (rdats m 𝒱 c).finds_in_eq_fetched 5 rfl (fun _ _ _ => rfl) (fun _ _ _ h => h) t Y h
  rw [hd]; unfold Pipeline.RDat.fetched Pipeline.RDat.blockOf iblk; try rfl
theorem finds6 (𝒱 : Variants) (c : Dev nD) (t : Fin cfg0.N) (Y) (h : (rdats m 𝒱 c).Finds 6 t Y) : Y = iblk m c 6 t := by
  obtain ⟨d, hd⟩ := (rdats m 𝒱 c).finds_in_eq_fetched 6 rfl (fun _ _ _ => rfl) (fun _ _ _ h => h) t Y h
  rw [hd]; unfold Pipeline.RDat.fetched Pipeline.RDat.blockOf iblk; try rfl
theorem finds7 (𝒱 : Variants) (c : Dev nD) (t : Fin cfg0.N) (Y) (h : (rdats m 𝒱 c).Finds 7 t Y) : Y = iblk m c 7 t := by
  obtain ⟨d, hd⟩ := (rdats m 𝒱 c).finds_in_eq_fetched 7 rfl (fun _ _ _ => rfl) (fun _ _ _ h => h) t Y h
  rw [hd]; unfold Pipeline.RDat.fetched Pipeline.RDat.blockOf iblk; try rfl
theorem finds8 (𝒱 : Variants) (c : Dev nD) (t : Fin cfg0.N) (Y) (h : (rdats m 𝒱 c).Finds 8 t Y) : Y = iblk m c 8 t := by
  obtain ⟨d, hd⟩ := (rdats m 𝒱 c).finds_in_eq_fetched 8 rfl (fun _ _ _ => rfl) (fun _ _ _ h => h) t Y h
  rw [hd]; unfold Pipeline.RDat.fetched Pipeline.RDat.blockOf iblk; try rfl
theorem finds9 (𝒱 : Variants) (c : Dev nD) (t : Fin cfg0.N) (Y) (h : (rdats m 𝒱 c).Finds 9 t Y) : Y = iblk m c 9 t := by
  obtain ⟨d, hd⟩ := (rdats m 𝒱 c).finds_in_eq_fetched 9 rfl (fun _ _ _ => rfl) (fun _ _ _ h => h) t Y h
  rw [hd]; unfold Pipeline.RDat.fetched Pipeline.RDat.blockOf iblk; try rfl
theorem finds10 (𝒱 : Variants) (c : Dev nD) (t : Fin cfg0.N) (Y) (h : (rdats m 𝒱 c).Finds 10 t Y) : Y = iblk m c 10 t := by
  obtain ⟨d, hd⟩ := (rdats m 𝒱 c).finds_in_eq_fetched 10 rfl (fun _ _ _ => rfl) (fun _ _ _ h => h) t Y h
  rw [hd]; unfold Pipeline.RDat.fetched Pipeline.RDat.blockOf iblk; try rfl

theorem row (t : Fin cfg0.N) : defs₀ (F := F) .tc cfg0.body (cfg0.bodyArgs t (cfg0.slots t)) = bodyAt0 t := by
  unfold defs₀; rw [Defs.onTc_tc]

theorem body_obligation (𝒱 : Variants) (c : Dev nD) : (rdats m 𝒱 c).BodyObligation defs₀ 𝒱 () Set.univ := by
  intro t Y hY
  have h0 := finds0 m 𝒱 c t (Y 0) (hY 0)
  have h1 := finds1 m 𝒱 c t (Y 1) (hY 1)
  have h2 := finds2 m 𝒱 c t (Y 2) (hY 2)
  have h3 := finds3 m 𝒱 c t (Y 3) (hY 3)
  have h4 := finds4 m 𝒱 c t (Y 4) (hY 4)
  have h5 := finds5 m 𝒱 c t (Y 5) (hY 5)
  have h6 := finds6 m 𝒱 c t (Y 6) (hY 6)
  have h7 := finds7 m 𝒱 c t (Y 7) (hY 7)
  have h8 := finds8 m 𝒱 c t (Y 8) (hY 8)
  have h9 := finds9 m 𝒱 c t (Y 9) (hY 9)
  have h10 := finds10 m 𝒱 c t (Y 10) (hY 10)
  rw [row, bigSep_W0, bigSep_W0]
  have hΦ : ∀ u, (rdats m 𝒱 c).Φ u = Pipeline.ΦA spec0 c := fun _ => rfl
  have hO : (rdats m 𝒱 c).owesAt () t.succ = (rdats m 𝒱 c).owesAt () t.castSucc := rfl
  rw [hΦ, hΦ, hO]; unfold Pipeline.ΦA; rw [scopedRest0_eq]
  unfold owns
  iintro ⟨⟨⟨⟨%s14, S14⟩, ⟨%s15, S15⟩, ⟨%s16, S16⟩⟩, Hp⟩, Ho, ⟨%xarg2, %earg2, H_arg2⟩, ⟨%xarg3, %earg3, H_arg3⟩, ⟨%xarg4, %earg4, H_arg4⟩, ⟨%xarg5, %earg5, H_arg5⟩, ⟨%xarg6, %earg6, H_arg6⟩, ⟨%xarg7, %earg7, H_arg7⟩, ⟨%xarg8, %earg8, H_arg8⟩, ⟨%xarg9, %earg9, H_arg9⟩, ⟨%xarg10, %earg10, H_arg10⟩, ⟨%xarg11, %earg11, H_arg11⟩, ⟨%xarg12, %earg12, H_arg12⟩, ⟨%f13, %_, H_arg13⟩⟩
  iapply (wp_wand_r frame (wpE (defs₀ (F := F)) 𝒱 (c : Thread nD τ) none) Set.univ)
  isplitl [H_arg2 H_arg3 H_arg4 H_arg5 H_arg6 H_arg7 H_arg8 H_arg9 H_arg10 H_arg11 H_arg12 H_arg13 S14 S15 S16]
  · iapply (body_run 𝒱 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) xarg2 xarg3 xarg4 xarg5 xarg6 xarg7 xarg8 xarg9 xarg10 xarg11 xarg12 f13 s14 s15 s16 Set.univ)
    isplitl [H_arg2]; · iexact H_arg2
    isplitl [H_arg3]; · iexact H_arg3
    isplitl [H_arg4]; · iexact H_arg4
    isplitl [H_arg5]; · iexact H_arg5
    isplitl [H_arg6]; · iexact H_arg6
    isplitl [H_arg7]; · iexact H_arg7
    isplitl [H_arg8]; · iexact H_arg8
    isplitl [H_arg9]; · iexact H_arg9
    isplitl [H_arg10]; · iexact H_arg10
    isplitl [H_arg11]; · iexact H_arg11
    isplitl [H_arg12]; · iexact H_arg12
    isplitl [H_arg13]; · iexact H_arg13
    rw [View.set_whole, View.set_whole, View.set_whole]
    isplitl [S14]; · iexact S14
    isplitl [S15]; · iexact S15
    iexact S16
  iintro %_ ⟨H_arg2, H_arg3, H_arg4, H_arg5, H_arg6, H_arg7, H_arg8, H_arg9, H_arg10, H_arg11, H_arg12, H_arg13, ⟨%g14, S14⟩, ⟨%g15, S15⟩, ⟨%g16, S16⟩⟩
  rw [View.set_whole, View.set_whole, View.set_whole]
  isplitl [S14 S15 S16 Hp]
  · isplitl [S14 S15 S16]
    · isplitl [S14]; · iexists g14; iexact S14
      isplitl [S15]; · iexists g15; iexact S15
      iexists g16; iexact S16
    iexact Hp
  isplitl [Ho]; · iexact Ho
  isplitl [H_arg2]
  · iexists Y 0; isplitr; · ipureintro; rfl
    iexists xarg2; isplitr; · ipureintro; exact earg2
    iexact H_arg2
  isplitl [H_arg3]
  · iexists Y 1; isplitr; · ipureintro; rfl
    iexists xarg3; isplitr; · ipureintro; exact earg3
    iexact H_arg3
  isplitl [H_arg4]
  · iexists Y 2; isplitr; · ipureintro; rfl
    iexists xarg4; isplitr; · ipureintro; exact earg4
    iexact H_arg4
  isplitl [H_arg5]
  · iexists Y 3; isplitr; · ipureintro; rfl
    iexists xarg5; isplitr; · ipureintro; exact earg5
    iexact H_arg5
  isplitl [H_arg6]
  · iexists Y 4; isplitr; · ipureintro; rfl
    iexists xarg6; isplitr; · ipureintro; exact earg6
    iexact H_arg6
  isplitl [H_arg7]
  · iexists Y 5; isplitr; · ipureintro; rfl
    iexists xarg7; isplitr; · ipureintro; exact earg7
    iexact H_arg7
  isplitl [H_arg8]
  · iexists Y 6; isplitr; · ipureintro; rfl
    iexists xarg8; isplitr; · ipureintro; exact earg8
    iexact H_arg8
  isplitl [H_arg9]
  · iexists Y 7; isplitr; · ipureintro; rfl
    iexists xarg9; isplitr; · ipureintro; exact earg9
    iexact H_arg9
  isplitl [H_arg10]
  · iexists Y 8; isplitr; · ipureintro; rfl
    iexists xarg10; isplitr; · ipureintro; exact earg10
    iexact H_arg10
  isplitl [H_arg11]
  · iexists Y 9; isplitr; · ipureintro; rfl
    iexists xarg11; isplitr; · ipureintro; exact earg11
    iexact H_arg11
  isplitl [H_arg12]
  · iexists Y 10; isplitr; · ipureintro; rfl
    iexists xarg12; isplitr; · ipureintro; exact earg12
    iexact H_arg12
  iexists _; isplitr
  · ipureintro
    exact ⟨xarg2, xarg3, xarg4, xarg5, xarg6, xarg7, xarg8, xarg9, xarg10, xarg11, xarg12, f13, s14, s15, s16, earg2.trans h0, earg3.trans h1, earg4.trans h2, earg5.trans h3, earg6.trans h4, earg7.trans h5, earg8.trans h6, earg9.trans h7, earg10.trans h8, earg11.trans h9, earg12.trans h10, rfl⟩
  iexists _; isplitr
  rotate_left
  · iexact H_arg13
  · ipureintro; rfl

/-- Every run ends with each output block as `Rel` says, the other arrays as the host left them, and every semaphore at zero. -/
theorem run_main (𝒱 : Variants) : θ_run defs (onTc (τ := τ) (main (F := F))) (s₀ m ρ)
    (fun r => Pipeline.RDat.FramePost cfg0 (rdats m 𝒱) (V m) r ∧ r.2.sem = fun _ => 0) :=
  Pipeline.RDat.θ_run_frame cfgs 0 launch0 defs₀ 𝒱 (rdats m 𝒱) m ρ (main (F := F)) (body_obligation m 𝒱)
    (fun c w => by unfold Pipeline.RDat.share; split <;> rfl) (fun _ _ => rfl) (V m) (hmain m 𝒱) (fun _ _ => rfl) (fun _ _ => rfl) _ (fun _ h => h)

/-- Every run ends with each argument array as it was and every semaphore at zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c)⟩, h.2⟩) (run_main m ρ Variants.none)

end Cert.KernelIdeal

end
-- ==== Proof.FfnIdeal.Block.lean ====
module

public import proofs.«01_k».proof.Proof.Gen.FfnIdeal.Value
public import Idealize.ShloMosaic.Lib.Pipeline.ValueKit
public import Idealize.ShloMosaic.Lib.Pipeline.ReadBack

/-! What one grid point of the feed-forward kernel computes, at one element of its block: the eleven
chunks of the hidden axis added up are one sum over the whole hidden axis. -/

@[expose] public section

set_option maxRecDepth 16384

noncomputable section

namespace Cert.FfnIdeal.Value

open Cert.FfnIdeal Cert.FfnIdeal.Gen Idealize.ShloMosaic Idealize.ShloMosaic.TcCoe Idealize.SL.Sem
open Idealize.ShloMosaic.Pipeline (Dat)

/-- One half, as the programs write it. -/
abbrev half : EReal := Ideal.ofBits FTy.f32 0x3F000000#32

/-- The gated unit: gate `a`, value `b`. -/
def glu (a b : EReal) : EReal := a * (half * Ideal.tanh (half * a) + half) * b

/-- One row times one column of the first weight. -/
def proj (h : Fin 1024 → EReal) (W : FVec Ideal S1024x5632 .bf16) (n : Fin 5632) : EReal :=
  ∑ q : Fin 1024, h q * W (ix2 q n)

/-- The term of hidden unit `n` in output column `o`. -/
def unit (h : Fin 1024 → EReal) (W : FVec Ideal S1024x5632 .bf16) (Dn : FVec Ideal S2816x1024 .bf16)
    (o : Fin 1024) (n : Fin 2816) : EReal :=
  glu (proj h W ⟨n.val, by omega⟩) (proj h W ⟨2816 + n.val, by omega⟩) * Dn (ix2 n o)

/-- The same, as a function of a natural number. -/
def unitN (h : Fin 1024 → EReal) (W : FVec Ideal S1024x5632 .bf16) (Dn : FVec Ideal S2816x1024 .bf16)
    (o : Fin 1024) (n : ℕ) : EReal :=
  if hn : n < 2816 then unit h W Dn o ⟨n, hn⟩ else 0

/-- One chunk's addend, over the chunk's three weight blocks. -/
def chunk (h : FVec Ideal S512x1024 .bf16) (G U : FVec Ideal S1024x256 .bf16)
    (D : FVec Ideal S256x1024 .bf16) (y : S512x1024.Idx) : EReal :=
  ∑ k : Fin 256, glu (∑ q : Fin 1024, h (ix2 (y 0) q) * G (ix2 q k)) (∑ q : Fin 1024, h (ix2 (y 0) q) * U (ix2 q k))
    * D (ix2 k (y 1))

theorem first_apply (h : FVec Ideal S512x1024 .bf16) (G U : FVec Ideal S1024x256 .bf16)
    (D : FVec Ideal S256x1024 .bf16) (y : S512x1024.Idx) :
    k0_pay3 (F := Ideal) (k0_pay2 (F := Ideal) h G U) D y = chunk h G U D y := by
  unfold chunk glu half
  pointwise [k0_pay3, k0_pay2]

theorem step_apply (h : FVec Ideal S512x1024 .bf16) (G U : FVec Ideal S1024x256 .bf16)
    (D : FVec Ideal S256x1024 .bf16) (acc : FVec Ideal S512x1024 .f32) (y : S512x1024.Idx) :
    k0_pay4 (F := Ideal) h G U D acc y = acc y + chunk h G U D y := by
  unfold chunk glu half
  pointwise [k0_pay4]

/-- The normalised row. -/
def nrm (x : FVec Ideal S512x1024 .f32) (g : FVec Ideal S1x1024 .f32) (r : Fin 512) (q : Fin 1024) : EReal :=
  x (ix2 r q) * Ideal.rsqrt (Ideal.div (∑ k : Fin 1024, x (ix2 r k) * x (ix2 r k)) (Ideal.ofBits FTy.f32 0x44800000#32)
    + Ideal.ofBits FTy.f32 0x358637BD#32) * g (ix2 0 q)

theorem pay1_apply (x : FVec Ideal S512x1024 .f32) (g : FVec Ideal S1x1024 .f32) (r : Fin 512) (q : Fin 1024) :
    k0_pay1 (F := Ideal) x g (ix2 r q) = nrm x g r q := by
  unfold nrm
  pointwise [k0_pay1]

/-- A chunk over the weight blocks cut out at hidden offset `j * 256`. -/
theorem chunk_eq (x : FVec Ideal S512x1024 .f32) (g : FVec Ideal S1x1024 .f32) (W : FVec Ideal S1024x5632 .bf16)
    (Dn : FVec Ideal S2816x1024 .bf16) (j o p : ℕ) (hj : j < 11) (ho : o = j * 256) (hp : p = 2816 + j * 256)
    (i1 : ∀ a, (![0, o] : Fin 2 → ℕ) a + (![1024, 256] : Fin 2 → ℕ) a ≤ S1024x5632.size a)
    (i2 : ∀ a, (![0, p] : Fin 2 → ℕ) a + (![1024, 256] : Fin 2 → ℕ) a ≤ S1024x5632.size a)
    (i3 : ∀ a, (![o, 0] : Fin 2 → ℕ) a + (![256, 1024] : Fin 2 → ℕ) a ≤ S2816x1024.size a)
    (y : S512x1024.Idx) :
    chunk (k0_pay1 (F := Ideal) x g)
      (View.ld (Val := Elt Ideal) (e' := .bf16) W (Rect.unit ![0, o] ![1024, 256] i1))
      (View.ld (Val := Elt Ideal) (e' := .bf16) W (Rect.unit ![0, p] ![1024, 256] i2))
      (View.ld (Val := Elt Ideal) (e' := .bf16) Dn (Rect.unit ![o, 0] ![256, 1024] i3)) y
    = ∑ k : Fin 256, unitN (nrm x g (y 0)) W Dn (y 1) (j * 256 + k.val) := by
  unfold chunk
  refine Finset.sum_congr rfl fun k _ => ?_
  have hk : j * 256 + k.val < 2816 := by have := k.isLt; omega
  unfold unitN
  rw [dif_pos hk]
  unfold unit proj
  congr 1
  · congr 1
    · refine Finset.sum_congr rfl fun q _ => ?_
      congr 1
      · exact pay1_apply x g (y 0) q
      · refine View.ld_unit_apply_of (Val := Elt Ideal) (e := .bf16) W _ _ i1 _ _ (fun a => ?_)
        match a with
        | ⟨0, _⟩ => show q.val = 0 + q.val; omega
        | ⟨1, _⟩ => show j * 256 + k.val = o + k.val; omega
    · refine Finset.sum_congr rfl fun q _ => ?_
      congr 1
      · exact pay1_apply x g (y 0) q
      · refine View.ld_unit_apply_of (Val := Elt Ideal) (e := .bf16) W _ _ i2 _ _ (fun a => ?_)
        match a with
        | ⟨0, _⟩ => show q.val = 0 + q.val; omega
        | ⟨1, _⟩ => show 2816 + (j * 256 + k.val) = p + k.val; omega
  · refine View.ld_unit_apply_of (Val := Elt Ideal) (e := .bf16) Dn _ _ i3 _ _ (fun a => ?_)
    match a with
    | ⟨0, _⟩ => show j * 256 + k.val = o + k.val; omega
    | ⟨1, _⟩ => show (y 1).val = 0 + (y 1).val; omega

/-- The accumulator after chunk 0. -/
def acc0 (x : FVec Ideal S512x1024 .f32) (g : FVec Ideal S1x1024 .f32) (W : FVec Ideal S1024x5632 .bf16) (Dn : FVec Ideal S2816x1024 .bf16) : FVec Ideal S512x1024 .f32 :=
  (k0_pay3 (F := Ideal) (k0_pay2 (F := Ideal) (k0_pay1 (F := Ideal) x g) (View.ld (Val := Elt Ideal) (e' := .bf16) W (Rect.unit ![0, 0] ![1024, 256] inb_S1024x5632_S1024x256_0_0)) (View.ld (Val := Elt Ideal) (e' := .bf16) W (Rect.unit ![0, 2816] ![1024, 256] inb_S1024x5632_S1024x256_0_2816))) (View.ld (Val := Elt Ideal) (e' := .bf16) Dn (Rect.unit ![0, 0] ![256, 1024] inb_S2816x1024_S256x1024_0_0)))

theorem acc0_apply (x : FVec Ideal S512x1024 .f32) (g : FVec Ideal S1x1024 .f32) (W : FVec Ideal S1024x5632 .bf16) (Dn : FVec Ideal S2816x1024 .bf16) (y : S512x1024.Idx) :
    acc0 x g W Dn y = ∑ k : Fin 256, unitN (nrm x g (y 0)) W Dn (y 1) (0 * 256 + k.val) :=
  (first_apply _ _ _ _ y).trans (chunk_eq x g W Dn 0 0 2816 (by decide) (by decide) (by decide) _ _ _ y)

/-- The accumulator after chunk 1. -/
def acc1 (x : FVec Ideal S512x1024 .f32) (g : FVec Ideal S1x1024 .f32) (W : FVec Ideal S1024x5632 .bf16) (Dn : FVec Ideal S2816x1024 .bf16) : FVec Ideal S512x1024 .f32 :=
  (k0_pay4 (F := Ideal) (k0_pay1 (F := Ideal) x g) (View.ld (Val := Elt Ideal) (e' := .bf16) W (Rect.unit ![0, 256] ![1024, 256] inb_S1024x5632_S1024x256_0_256)) (View.ld (Val := Elt Ideal) (e' := .bf16) W (Rect.unit ![0, 3072] ![1024, 256] inb_S1024x5632_S1024x256_0_3072)) (View.ld (Val := Elt Ideal) (e' := .bf16) Dn (Rect.unit ![256, 0] ![256, 1024] inb_S2816x1024_S256x1024_256_0)) (acc0 x g W Dn))

theorem acc1_apply (x : FVec Ideal S512x1024 .f32) (g : FVec Ideal S1x1024 .f32) (W : FVec Ideal S1024x5632 .bf16) (Dn : FVec Ideal S2816x1024 .bf16) (y : S512x1024.Idx) :
    acc1 x g W Dn y = acc0 x g W Dn y + ∑ k : Fin 256, unitN (nrm x g (y 0)) W Dn (y 1) (1 * 256 + k.val) :=
  (step_apply _ _ _ _ (acc0 x g W Dn) y).trans
    (congrArg (acc0 x g W Dn y + ·) (chunk_eq x g W Dn 1 256 3072 (by decide) (by decide) (by decide) _ _ _ y))

/-- The accumulator after chunk 2. -/
def acc2 (x : FVec Ideal S512x1024 .f32) (g : FVec Ideal S1x1024 .f32) (W : FVec Ideal S1024x5632 .bf16) (Dn : FVec Ideal S2816x1024 .bf16) : FVec Ideal S512x1024 .f32 :=
  (k0_pay5 (F := Ideal) (k0_pay1 (F := Ideal) x g) (View.ld (Val := Elt Ideal) (e' := .bf16) W (Rect.unit ![0, 512] ![1024, 256] inb_S1024x5632_S1024x256_0_512)) (View.ld (Val := Elt Ideal) (e' := .bf16) W (Rect.unit ![0, 3328] ![1024, 256] inb_S1024x5632_S1024x256_0_3328)) (View.ld (Val := Elt Ideal) (e' := .bf16) Dn (Rect.unit ![512, 0] ![256, 1024] inb_S2816x1024_S256x1024_512_0)) (acc1 x g W Dn))

theorem acc2_apply (x : FVec Ideal S512x1024 .f32) (g : FVec Ideal S1x1024 .f32) (W : FVec Ideal S1024x5632 .bf16) (Dn : FVec Ideal S2816x1024 .bf16) (y : S512x1024.Idx) :
    acc2 x g W Dn y = acc1 x g W Dn y + ∑ k : Fin 256, unitN (nrm x g (y 0)) W Dn (y 1) (2 * 256 + k.val) :=
  (step_apply _ _ _ _ (acc1 x g W Dn) y).trans
    (congrArg (acc1 x g W Dn y + ·) (chunk_eq x g W Dn 2 512 3328 (by decide) (by decide) (by decide) _ _ _ y))

/-- The accumulator after chunk 3. -/
def acc3 (x : FVec Ideal S512x1024 .f32) (g : FVec Ideal S1x1024 .f32) (W : FVec Ideal S1024x5632 .bf16) (Dn : FVec Ideal S2816x1024 .bf16) : FVec Ideal S512x1024 .f32 :=
  (k0_pay9 (F := Ideal) (k0_pay6 (F := Ideal) (k0_pay1 (F := Ideal) x g) (View.ld (Val := Elt Ideal) (e' := .bf16) W (Rect.unit ![0, 768] ![1024, 256] inb_S1024x5632_S1024x256_0_768))) (k0_pay7 (F := Ideal) (k0_pay1 (F := Ideal) x g) (View.ld (Val := Elt Ideal) (e' := .bf16) W (Rect.unit ![0, 3584] ![1024, 256] inb_S1024x5632_S1024x256_0_3584))) (k0_pay8 (F := Ideal) (k0_pay1 (F := Ideal) x g) (View.ld (Val := Elt Ideal) (e' := .bf16) W (Rect.unit ![0, 768] ![1024, 256] inb_S1024x5632_S1024x256_0_768))) (View.ld (Val := Elt Ideal) (e' := .bf16) Dn (Rect.unit ![768, 0] ![256, 1024] inb_S2816x1024_S256x1024_768_0)) (acc2 x g W Dn))

theorem acc3_apply (x : FVec Ideal S512x1024 .f32) (g : FVec Ideal S1x1024 .f32) (W : FVec Ideal S1024x5632 .bf16) (Dn : FVec Ideal S2816x1024 .bf16) (y : S512x1024.Idx) :
    acc3 x g W Dn y = acc2 x g W Dn y + ∑ k : Fin 256, unitN (nrm x g (y 0)) W Dn (y 1) (3 * 256 + k.val) :=
  (step_apply _ _ _ _ (acc2 x g W Dn) y).trans
    (congrArg (acc2 x g W Dn y + ·) (chunk_eq x g W Dn 3 768 3584 (by decide) (by decide) (by decide) _ _ _ y))

/-- The accumulator after chunk 4. -/
def acc4 (x : FVec Ideal S512x1024 .f32) (g : FVec Ideal S1x1024 .f32) (W : FVec Ideal S1024x5632 .bf16) (Dn : FVec Ideal S2816x1024 .bf16) : FVec Ideal S512x1024 .f32 :=
  (k0_pay11 (F := Ideal) (k0_pay10 (F := Ideal) (k0_pay1 (F := Ideal) x g) (View.ld (Val := Elt Ideal) (e' := .bf16) W (Rect.unit ![0, 1024] ![1024, 256] inb_S1024x5632_S1024x256_0_1024)) (View.ld (Val := Elt Ideal) (e' := .bf16) W (Rect.unit ![0, 3840] ![1024, 256] inb_S1024x5632_S1024x256_0_3840)) (View.ld (Val := Elt Ideal) (e' := .bf16) Dn (Rect.unit ![1024, 0] ![256, 1024] inb_S2816x1024_S256x1024_1024_0)) (acc3 x g W Dn)))

theorem acc4_apply (x : FVec Ideal S512x1024 .f32) (g : FVec Ideal S1x1024 .f32) (W : FVec Ideal S1024x5632 .bf16) (Dn : FVec Ideal S2816x1024 .bf16) (y : S512x1024.Idx) :
    acc4 x g W Dn y = acc3 x g W Dn y + ∑ k : Fin 256, unitN (nrm x g (y 0)) W Dn (y 1) (4 * 256 + k.val) :=
  (step_apply _ _ _ _ (acc3 x g W Dn) y).trans
    (congrArg (acc3 x g W Dn y + ·) (chunk_eq x g W Dn 4 1024 3840 (by decide) (by decide) (by decide) _ _ _ y))

/-- The accumulator after chunk 5. -/
def acc5 (x : FVec Ideal S512x1024 .f32) (g : FVec Ideal S1x1024 .f32) (W : FVec Ideal S1024x5632 .bf16) (Dn : FVec Ideal S2816x1024 .bf16) : FVec Ideal S512x1024 .f32 :=
  (k0_pay12 (F := Ideal) (k0_pay1 (F := Ideal) x g) (View.ld (Val := Elt Ideal) (e' := .bf16) W (Rect.unit ![0, 1280] ![1024, 256] inb_S1024x5632_S1024x256_0_1280)) (View.ld (Val := Elt Ideal) (e' := .bf16) W (Rect.unit ![0, 4096] ![1024, 256] inb_S1024x5632_S1024x256_0_4096)) (View.ld (Val := Elt Ideal) (e' := .bf16) Dn (Rect.unit ![1280, 0] ![256, 1024] inb_S2816x1024_S256x1024_1280_0)) (acc4 x g W Dn))

theorem acc5_apply (x : FVec Ideal S512x1024 .f32) (g : FVec Ideal S1x1024 .f32) (W : FVec Ideal S1024x5632 .bf16) (Dn : FVec Ideal S2816x1024 .bf16) (y : S512x1024.Idx) :
    acc5 x g W Dn y = acc4 x g W Dn y + ∑ k : Fin 256, unitN (nrm x g (y 0)) W Dn (y 1) (5 * 256 + k.val) :=
  (step_apply _ _ _ _ (acc4 x g W Dn) y).trans
    (congrArg (acc4 x g W Dn y + ·) (chunk_eq x g W Dn 5 1280 4096 (by decide) (by decide) (by decide) _ _ _ y))

/-- The accumulator after chunk 6. -/
def acc6 (x : FVec Ideal S512x1024 .f32) (g : FVec Ideal S1x1024 .f32) (W : FVec Ideal S1024x5632 .bf16) (Dn : FVec Ideal S2816x1024 .bf16) : FVec Ideal S512x1024 .f32 :=
  (k0_pay14 (F := Ideal) (k0_pay1 (F := Ideal) x g) (k0_pay13 (F := Ideal) (k0_pay1 (F := Ideal) x g) (View.ld (Val := Elt Ideal) (e' := .bf16) W (Rect.unit ![0, 1536] ![1024, 256] inb_S1024x5632_S1024x256_0_1536))) (View.ld (Val := Elt Ideal) (e' := .bf16) W (Rect.unit ![0, 4352] ![1024, 256] inb_S1024x5632_S1024x256_0_4352)) (View.ld (Val := Elt Ideal) (e' := .bf16) Dn (Rect.unit ![1536, 0] ![256, 1024] inb_S2816x1024_S256x1024_1536_0)) (acc5 x g W Dn))

theorem acc6_apply (x : FVec Ideal S512x1024 .f32) (g : FVec Ideal S1x1024 .f32) (W : FVec Ideal S1024x5632 .bf16) (Dn : FVec Ideal S2816x1024 .bf16) (y : S512x1024.Idx) :
    acc6 x g W Dn y = acc5 x g W Dn y + ∑ k : Fin 256, unitN (nrm x g (y 0)) W Dn (y 1) (6 * 256 + k.val) :=
  (step_apply _ _ _ _ (acc5 x g W Dn) y).trans
    (congrArg (acc5 x g W Dn y + ·) (chunk_eq x g W Dn 6 1536 4352 (by decide) (by decide) (by decide) _ _ _ y))

/-- The accumulator after chunk 7. -/
def acc7 (x : FVec Ideal S512x1024 .f32) (g : FVec Ideal S1x1024 .f32) (W : FVec Ideal S1024x5632 .bf16) (Dn : FVec Ideal S2816x1024 .bf16) : FVec Ideal S512x1024 .f32 :=
  (k0_pay17 (F := Ideal) (k0_pay15 (F := Ideal) (k0_pay1 (F := Ideal) x g) (View.ld (Val := Elt Ideal) (e' := .bf16) W (Rect.unit ![0, 4608] ![1024, 256] inb_S1024x5632_S1024x256_0_4608))) (k0_pay16 (F := Ideal) (k0_pay1 (F := Ideal) x g) (View.ld (Val := Elt Ideal) (e' := .bf16) W (Rect.unit ![0, 1792] ![1024, 256] inb_S1024x5632_S1024x256_0_1792))) (View.ld (Val := Elt Ideal) (e' := .bf16) Dn (Rect.unit ![1792, 0] ![256, 1024] inb_S2816x1024_S256x1024_1792_0)) (acc6 x g W Dn))

theorem acc7_apply (x : FVec Ideal S512x1024 .f32) (g : FVec Ideal S1x1024 .f32) (W : FVec Ideal S1024x5632 .bf16) (Dn : FVec Ideal S2816x1024 .bf16) (y : S512x1024.Idx) :
    acc7 x g W Dn y = acc6 x g W Dn y + ∑ k : Fin 256, unitN (nrm x g (y 0)) W Dn (y 1) (7 * 256 + k.val) :=
  (step_apply _ _ _ _ (acc6 x g W Dn) y).trans
    (congrArg (acc6 x g W Dn y + ·) (chunk_eq x g W Dn 7 1792 4608 (by decide) (by decide) (by decide) _ _ _ y))

/-- The accumulator after chunk 8. -/
def acc8 (x : FVec Ideal S512x1024 .f32) (g : FVec Ideal S1x1024 .f32) (W : FVec Ideal S1024x5632 .bf16) (Dn : FVec Ideal S2816x1024 .bf16) : FVec Ideal S512x1024 .f32 :=
  (k0_pay19 (F := Ideal) (k0_pay18 (F := Ideal) (k0_pay1 (F := Ideal) x g) (View.ld (Val := Elt Ideal) (e' := .bf16) W (Rect.unit ![0, 2048] ![1024, 256] inb_S1024x5632_S1024x256_0_2048)) (View.ld (Val := Elt Ideal) (e' := .bf16) W (Rect.unit ![0, 4864] ![1024, 256] inb_S1024x5632_S1024x256_0_4864)) (View.ld (Val := Elt Ideal) (e' := .bf16) Dn (Rect.unit ![2048, 0] ![256, 1024] inb_S2816x1024_S256x1024_2048_0)) (acc7 x g W Dn)))

theorem acc8_apply (x : FVec Ideal S512x1024 .f32) (g : FVec Ideal S1x1024 .f32) (W : FVec Ideal S1024x5632 .bf16) (Dn : FVec Ideal S2816x1024 .bf16) (y : S512x1024.Idx) :
    acc8 x g W Dn y = acc7 x g W Dn y + ∑ k : Fin 256, unitN (nrm x g (y 0)) W Dn (y 1) (8 * 256 + k.val) :=
  (step_apply _ _ _ _ (acc7 x g W Dn) y).trans
    (congrArg (acc7 x g W Dn y + ·) (chunk_eq x g W Dn 8 2048 4864 (by decide) (by decide) (by decide) _ _ _ y))

/-- The accumulator after chunk 9. -/
def acc9 (x : FVec Ideal S512x1024 .f32) (g : FVec Ideal S1x1024 .f32) (W : FVec Ideal S1024x5632 .bf16) (Dn : FVec Ideal S2816x1024 .bf16) : FVec Ideal S512x1024 .f32 :=
  (k0_pay20 (F := Ideal) (k0_pay1 (F := Ideal) x g) (View.ld (Val := Elt Ideal) (e' := .bf16) W (Rect.unit ![0, 2304] ![1024, 256] inb_S1024x5632_S1024x256_0_2304)) (View.ld (Val := Elt Ideal) (e' := .bf16) W (Rect.unit ![0, 5120] ![1024, 256] inb_S1024x5632_S1024x256_0_5120)) (View.ld (Val := Elt Ideal) (e' := .bf16) Dn (Rect.unit ![2304, 0] ![256, 1024] inb_S2816x1024_S256x1024_2304_0)) (acc8 x g W Dn))

theorem acc9_apply (x : FVec Ideal S512x1024 .f32) (g : FVec Ideal S1x1024 .f32) (W : FVec Ideal S1024x5632 .bf16) (Dn : FVec Ideal S2816x1024 .bf16) (y : S512x1024.Idx) :
    acc9 x g W Dn y = acc8 x g W Dn y + ∑ k : Fin 256, unitN (nrm x g (y 0)) W Dn (y 1) (9 * 256 + k.val) :=
  (step_apply _ _ _ _ (acc8 x g W Dn) y).trans
    (congrArg (acc8 x g W Dn y + ·) (chunk_eq x g W Dn 9 2304 5120 (by decide) (by decide) (by decide) _ _ _ y))

/-- The accumulator after chunk 10. -/
def acc10 (x : FVec Ideal S512x1024 .f32) (g : FVec Ideal S1x1024 .f32) (W : FVec Ideal S1024x5632 .bf16) (Dn : FVec Ideal S2816x1024 .bf16) : FVec Ideal S512x1024 .f32 :=
  (k0_pay23 (F := Ideal) (k0_pay1 (F := Ideal) x g) (k0_pay21 (F := Ideal) (k0_pay1 (F := Ideal) x g) (View.ld (Val := Elt Ideal) (e' := .bf16) W (Rect.unit ![0, 2560] ![1024, 256] inb_S1024x5632_S1024x256_0_2560))) (k0_pay22 (F := Ideal) (View.ld (Val := Elt Ideal) (e' := .bf16) W (Rect.unit ![0, 5376] ![1024, 256] inb_S1024x5632_S1024x256_0_5376))) (constant (F := Ideal) S512x256 FTy.f32 0#32) (View.ld (Val := Elt Ideal) (e' := .bf16) Dn (Rect.unit ![2560, 0] ![256, 1024] inb_S2816x1024_S256x1024_2560_0)) (acc9 x g W Dn))

theorem acc10_apply (x : FVec Ideal S512x1024 .f32) (g : FVec Ideal S1x1024 .f32) (W : FVec Ideal S1024x5632 .bf16) (Dn : FVec Ideal S2816x1024 .bf16) (y : S512x1024.Idx) :
    acc10 x g W Dn y = acc9 x g W Dn y + ∑ k : Fin 256, unitN (nrm x g (y 0)) W Dn (y 1) (10 * 256 + k.val) :=
  (step_apply _ _ _ _ (acc9 x g W Dn) y).trans
    (congrArg (acc9 x g W Dn y + ·) (chunk_eq x g W Dn 10 2560 5376 (by decide) (by decide) (by decide) _ _ _ y))

/-- All the chunks: one sum over the hidden axis. -/
def down (x : FVec Ideal S512x1024 .f32) (g : FVec Ideal S1x1024 .f32) (W : FVec Ideal S1024x5632 .bf16) (Dn : FVec Ideal S2816x1024 .bf16) (r : Fin 512) (o : Fin 1024) : EReal :=
  ∑ n : Fin 2816, unit (nrm x g r) W Dn o n

theorem acc_eq (x : FVec Ideal S512x1024 .f32) (g : FVec Ideal S1x1024 .f32) (W : FVec Ideal S1024x5632 .bf16) (Dn : FVec Ideal S2816x1024 .bf16) (y : S512x1024.Idx) :
    acc10 x g W Dn y = down x g W Dn (y 0) (y 1) := by
  have e : down x g W Dn (y 0) (y 1) = ∑ n : Fin (11 * 256), unitN (nrm x g (y 0)) W Dn (y 1) n.val := by
    unfold down
    refine Finset.sum_congr rfl fun n _ => ?_
    unfold unitN
    rw [dif_pos n.isLt]
  rw [e, ← Fin.sum_univ_univ_mul_add 11 256]
  have e2 : ∀ F : ℕ → EReal, ∑ s : Fin 11, F s.val = F 0 + F 1 + F 2 + F 3 + F 4 + F 5 + F 6 + F 7 + F 8 + F 9 + F 10 := by
    intro F
    rw [Fin.sum_univ_eq_sum_range F]
    simp only [Finset.sum_range_succ, Finset.sum_range_zero, zero_add]
  refine Eq.trans ?_ (e2 fun s => ∑ k : Fin 256, unitN (nrm x g (y 0)) W Dn (y 1) (s * 256 + k.val)).symm
  rw [acc10_apply, acc9_apply, acc8_apply, acc7_apply, acc6_apply, acc5_apply, acc4_apply, acc3_apply, acc2_apply,
    acc1_apply, acc0_apply]

/-- The block's output, at one element. -/
theorem out_apply (x : FVec Ideal S512x1024 .f32) (g : FVec Ideal S1x1024 .f32) (W : FVec Ideal S1024x5632 .bf16) (Dn : FVec Ideal S2816x1024 .bf16) (g' : FVec Ideal S1x1024 .f32) (y : S512x1024.Idx) :
    k0_pay24 (F := Ideal) x (acc10 x g W Dn) g' y
    = x y + half * (down x g W Dn (y 0) (y 1)
        * Ideal.rsqrt (Ideal.div (∑ k : Fin 1024, down x g W Dn (y 0) k * down x g W Dn (y 0) k) (Ideal.ofBits FTy.f32 0x44800000#32)
            + Ideal.ofBits FTy.f32 0x358637BD#32) * g' (ix2 0 (y 1))) := by
  have e : ∀ y, acc10 x g W Dn y = down x g W Dn (y 0) (y 1) := acc_eq x g W Dn
  generalize acc10 x g W Dn = A at e
  pointwise [k0_pay24]
  simp only [e]
  rfl

variable (m : (ℓ : Loc nD τ sig) → Buf (Elt Ideal) ℓ)

/-- What one grid point leaves in the output's buffer. -/
theorem outs_eq (c : Dev nD) (t : Fin cfg0.N) : outsAt0 m c t
    = k0_pay24 (F := Ideal) (iblk m c 0 t) (acc10 (iblk m c 0 t) (iblk m c 1 t) (iblk m c 2 t) (iblk m c 3 t)) (iblk m c 4 t) := by
  unfold outsAt0
  frame_out
  unfold acc10 acc9 acc8 acc7 acc6 acc5 acc4 acc3 acc2 acc1 acc0
  rfl

end Cert.FfnIdeal.Value

end
-- ==== Proof.FfnIdeal.Value.lean ====
module

public import proofs.«01_k».proof.Proof.FfnIdeal.Block
public import proofs.«01_k».proof.Proof.Gen.FfnReferenceIdeal.Read

/-! The feed-forward kernel's result is the reference's, element by element. -/

@[expose] public section

set_option maxRecDepth 16384

noncomputable section

namespace Cert.FfnIdeal.Value

open Cert.FfnIdeal Cert.FfnIdeal.Gen Idealize.ShloMosaic Idealize.ShloMosaic.TcCoe Idealize.SL.Sem
open Idealize.ShloMosaic.Pipeline (Dat)
open Cert.FfnReferenceIdeal.Read

/-- The bit pattern of one half is one half. -/
theorem half_eq : half = (((1 / 2 : ℝ)) : EReal) := by
  unfold half
  simp [Ideal.ofBits, Ideal.ieee, -EReal.coe_mul]; norm_num

/-- The logistic function by the hyperbolic tangent, over the reals. -/
theorem real_logistic (r : ℝ) : 1 / 2 * Real.tanh (1 / 2 * r) + 1 / 2 = (1 + Real.exp (-r))⁻¹ := by
  have e : Real.exp (-r) = Real.exp (-(1 / 2 * r)) * Real.exp (-(1 / 2 * r)) := by
    rw [← Real.exp_add]; congr 1; ring
  have e1 : Real.exp (1 / 2 * r) * Real.exp (-(1 / 2 * r)) = 1 := by
    rw [← Real.exp_add]; simp
  rw [Real.tanh_eq_sinh_div_cosh, Real.sinh_eq, Real.cosh_eq, e]
  have p1 := Real.exp_pos (1 / 2 * r)
  have p2 := Real.exp_pos (-(1 / 2 * r))
  generalize Real.exp (1 / 2 * r) = u at *
  generalize Real.exp (-(1 / 2 * r)) = v at *
  have h1 : u + v ≠ 0 := by positivity
  have h2 : 1 + v * v ≠ 0 := by positivity
  field_simp
  nlinarith [e1]

/-- The gated unit with the logistic function written by the exponential, as the reference has it. -/
theorem glu_eq (a b : EReal) : glu a b = a * Ideal.div 1 (1 + Ideal.exp (-a)) * b := by
  unfold glu
  rw [half_eq]
  congr 2
  change _ = Ideal.logistic a
  induction a using EReal.rec with
  | bot =>
    rw [EReal.coe_mul_bot_of_pos (by norm_num), Ideal.tanh_bot, Ideal.logistic_bot]
    rw [← EReal.coe_one, ← EReal.coe_neg, ← EReal.coe_mul, ← EReal.coe_add, ← EReal.coe_zero]
    norm_num
  | top =>
    rw [EReal.coe_mul_top_of_pos (by norm_num), Ideal.tanh_top, Ideal.logistic_top]
    rw [← EReal.coe_one, ← EReal.coe_mul, ← EReal.coe_add]
    norm_num
  | coe r =>
    rw [← EReal.coe_mul, Ideal.tanh_coe, Ideal.logistic_coe, ← EReal.coe_mul, ← EReal.coe_add, real_logistic]

/-- The reference's normalised row. -/
def rnrm (x0 : FVec Ideal S16384x1024 .f32) (x1 : FVec Ideal S1024 .f32) (r : Fin 16384) (q : Fin 1024) : EReal :=
  x0 (ix2 r q) * Ideal.rsqrt (Ideal.div (∑ k : Fin 1024, x0 (ix2 r k) * x0 (ix2 r k)) (Ideal.ofBits FTy.f32 0x44800000#32)
    + Ideal.ofBits FTy.f32 0x358637BD#32) * x1 (ix1 q)

/-- The reference's second product. -/
def rdown (x0 : FVec Ideal S16384x1024 .f32) (x1 : FVec Ideal S1024 .f32) (x2 : FVec Ideal S1024x5632 .f32)
    (x3 : FVec Ideal S2816x1024 .f32) (r : Fin 16384) (o : Fin 1024) : EReal :=
  ∑ n : Fin 2816, unit (rnrm x0 x1 r) x2 x3 o n

theorem ref_apply (x0 : FVec Ideal S16384x1024 .f32) (x1 : FVec Ideal S1024 .f32) (x2 : FVec Ideal S1024x5632 .f32)
    (x3 : FVec Ideal S2816x1024 .f32) (x4 : FVec Ideal S1024 .f32) (i : S16384x1024.Idx) :
    val_main_v34 (F := Ideal) x0 x1 x2 x3 x4 i
    = x0 i + half * (rdown x0 x1 x2 x3 (i 0) (i 1)
        * Ideal.rsqrt (Ideal.div (∑ k : Fin 1024, rdown x0 x1 x2 x3 (i 0) k * rdown x0 x1 x2 x3 (i 0) k) (Ideal.ofBits FTy.f32 0x44800000#32)
            + Ideal.ofBits FTy.f32 0x358637BD#32) * x4 (ix1 (i 1))) := by
  unfold rdown unit proj rnrm
  simp only [glu_eq]
  pointwise [val_main_v0,val_main_cst,val_main_v1,val_main_v2,val_main_cst_0,val_main_v3,val_main_v4,val_main_cst_1,val_main_v5,val_main_v6,val_main_v7,val_main_v8,val_main_v9,val_main_v10,val_main_v11,val_main_v12,val_main_v13,val_main_v14,val_main_v15,val_main_call0_v0,val_main_call0_v1,val_main_call0_cst,val_main_call0_v2,val_main_call0_v3,val_main_call0_cst_0,val_main_call0_v4,val_main_call0_v5,val_main_v16,val_main_v17,val_main_v18,val_main_v19,val_main_cst_2,val_main_v20,val_main_v21,val_main_cst_3,val_main_v22,val_main_v23,val_main_cst_4,val_main_v24,val_main_v25,val_main_v26,val_main_v27,val_main_v28,val_main_v29,val_main_v30,val_main_v31,val_main_cst_5,val_main_v32,val_main_v33,val_main_v34]

/-- The residual step: half the normalised row of the second product is added to the input. -/
def res (a : EReal) (d : Fin 1024 → EReal) (o : Fin 1024) (b : EReal) : EReal :=
  a + half * (d o * Ideal.rsqrt (Ideal.div (∑ k : Fin 1024, d k * d k) (Ideal.ofBits FTy.f32 0x44800000#32)
    + Ideal.ofBits FTy.f32 0x358637BD#32) * b)

theorem res_congr {a a' : EReal} {d d' : Fin 1024 → EReal} {o o' : Fin 1024} {b b' : EReal}
    (ha : a = a') (hd : d = d') (ho : o = o') (hb : b = b') : res a d o b = res a' d' o' b' := by
  subst ha hd ho hb; rfl

variable (m : (ℓ : Loc nD τ sig) → Buf (Elt Ideal) ℓ)

/-- The windows' block indices. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ t.val < 32 :=
  (by decide +kernel : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![t.val, 0] ∧ t.val < 32)

theorem read0 (c : Dev nD) (t : Fin cfg0.N) (R : Fin 16384) (r : Fin 512) (q : Fin 1024) (h : R.val = t.val * 512 + r.val) :
    (iblk m c 0 t : FVec Ideal S512x1024 .f32) (ix2 r q) = (m ((c : Thread nD τ).loc main_arg0) : FVec Ideal S16384x1024 .f32) (ix2 R q) := by
  blk_ext [iblk, V, idx t]

theorem read1 (c : Dev nD) (t : Fin cfg0.N) (q : Fin 1024) :
    (iblk m c 1 t : FVec Ideal S1x1024 .f32) (ix2 0 q) = (m ((c : Thread nD τ).loc main_arg1) : FVec Ideal S1024 .f32) (ix1 q) := by
  blk_ext! [iblk, V, idx t]

theorem read2 (c : Dev nD) (t : Fin cfg0.N) :
    (iblk m c 2 t : FVec Ideal S1024x5632 .bf16) = (m ((c : Thread nD τ).loc main_arg2) : FVec Ideal S1024x5632 .f32) := by
  blk_ext! [iblk, V, idx t]

theorem read3 (c : Dev nD) (t : Fin cfg0.N) :
    (iblk m c 3 t : FVec Ideal S2816x1024 .bf16) = (m ((c : Thread nD τ).loc main_arg3) : FVec Ideal S2816x1024 .f32) := by
  blk_ext! [iblk, V, idx t]

theorem read4 (c : Dev nD) (t : Fin cfg0.N) (q : Fin 1024) :
    (iblk m c 4 t : FVec Ideal S1x1024 .f32) (ix2 0 q) = (m ((c : Thread nD τ).loc main_arg4) : FVec Ideal S1024 .f32) (ix1 q) := by
  blk_ext! [iblk, V, idx t]

theorem nrm_eq (c : Dev nD) (t : Fin cfg0.N) (R : Fin 16384) (r : Fin 512) (h : R.val = t.val * 512 + r.val) :
    nrm (iblk m c 0 t) (iblk m c 1 t) r
    = rnrm (m ((c : Thread nD τ).loc main_arg0)) (m ((c : Thread nD τ).loc main_arg1)) R := by
  funext q
  unfold nrm rnrm
  simp only [read0 m c t R r _ h, read1 m c t]

theorem down_eq (c : Dev nD) (t : Fin cfg0.N) (R : Fin 16384) (r : Fin 512) (h : R.val = t.val * 512 + r.val) (o : Fin 1024) :
    down (iblk m c 0 t) (iblk m c 1 t) (iblk m c 2 t) (iblk m c 3 t) r o
    = rdown (m ((c : Thread nD τ).loc main_arg0)) (m ((c : Thread nD τ).loc main_arg1))
        (m ((c : Thread nD τ).loc main_arg2)) (m ((c : Thread nD τ).loc main_arg3)) R o := by
  unfold down rdown
  rw [nrm_eq m c t R r h, read2 m c t, read3 m c t]

/-- The reference's result over the kernel's arguments. -/
abbrev REF (c : Dev nD) : FVec Ideal S16384x1024 .f32 :=
  val_main_v34 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- What a point leaves at a block index is the reference's result where the block lies. -/
theorem point (c : Dev nD) (t : Fin cfg0.N) (y : S512x1024.Idx) (i : S16384x1024.Idx)
    (h0 : (i 0).val = t.val * 512 + (y 0).val) (h1 : (i 1).val = (y 1).val) :
    outsAt0 m c t y = REF m c i := by
  have h1' : (i 1 : Fin 1024) = y 1 := Fin.ext h1
  have e0 : (iblk m c 0 t : FVec Ideal S512x1024 .f32) y = (m ((c : Thread nD τ).loc main_arg0) : FVec Ideal S16384x1024 .f32) i := by
    blk_ext [iblk, V, idx t]
  have e4 : (iblk m c 4 t : FVec Ideal S1x1024 .f32) (ix2 0 (y 1)) = (m ((c : Thread nD τ).loc main_arg4) : FVec Ideal S1024 .f32) (ix1 (i 1)) := by
    refine (read4 m c t (y 1)).trans ?_
    rw [h1']
  refine (congrFun (outs_eq m c t) y).trans ?_
  refine (out_apply (iblk m c 0 t) (iblk m c 1 t) (iblk m c 2 t) (iblk m c 3 t) (iblk m c 4 t) y).trans
    (Eq.trans ?_ (ref_apply _ _ _ _ _ i).symm)
  exact res_congr e0 (funext fun o => down_eq m c t (i 0) (y 0) h0 o) h1'.symm e4

/-- The result array after the run is the reference's. -/
theorem final (c : Dev nD) : (dats m 0 c).arrAt 5 cfg0.N = REF m c := by
  refine (dats m 0 c).arrAt_eq_of_covers 5 _ (by decide +kernel) fun t hf y => ?_
  blk_simp
  rw [after0_5]
  exact point m c t y _ (by blk_simp [idx t]) (by blk_simp [idx t])

end Cert.FfnIdeal.Value

end
-- ==== Proof.Claims.lean ====
/- The feed-forward block's claims and the references' frames: the host programs' runs are the generated ones, and a host
   program declares no semaphore; the value claim joins the kernel's run, its result array read as the reference's term, to
   the reference's run on arguments that agree. -/
module

public import proofs.«01_k».proof.Defs
public import proofs.«01_k».proof.Proof.Gen.ReferenceIdeal
public import proofs.«01_k».proof.Proof.Gen.ReferenceIdeal.Run
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.FfnIdeal.Value
public import Idealize.ShloMosaic.Adequacy
public import Idealize.ShloMosaic.Init

@[expose] public section

noncomputable section

namespace Cert.Proof

open Idealize.ShloMosaic Idealize.SL.Sem

attribute [local instance] Cert.ReferenceIdeal.Gen.facts Cert.Ffn.Gen.facts Cert.FfnIdeal.Gen.facts Cert.FfnReferenceIdeal.Gen.facts

theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem frame_ffn : Cert.quiescent_Ffn := fun m ρ _ => Cert.Ffn.Gen.frame m ρ

theorem frame_ffn_ideal : Cert.quiescent_FfnIdeal := fun m ρ _ => Cert.FfnIdeal.Gen.frame m ρ

theorem frame_ffn_reference : Cert.quiescent_FfnReferenceIdeal := fun m ρ _ =>
  (θ_run Cert.FfnReferenceIdeal.defs _ _).mono (fun r h => ⟨fun c => (h c).2,
      Idealize.ShloMosaic.sem_eq_zero_of_no_sems (by decide) r.2⟩)
    (Cert.FfnReferenceIdeal.Value.run (F := Ideal) m ρ)

/-- The block's result array ends at the reference's term of the arguments. -/
theorem ffn_algebraic : Cert.algebraic_FfnIdeal_FfnReferenceIdeal := by
  intro m g m' g' _ hagree
  refine ⟨fun c => Cert.FfnIdeal.Value.REF m c, ?_, ?_⟩
  · refine (θ_run Cert.FfnIdeal.defs _ _).mono (fun _ h c => ?_) (Cert.FfnIdeal.Value.run_blocks m g)
    exact ⟨(h c).1.trans (Cert.FfnIdeal.Value.final m c), (h c).2⟩
  · refine (θ_run Cert.FfnReferenceIdeal.defs _ _).mono (fun _ h c => ?_) (Cert.FfnReferenceIdeal.Value.run (F := Ideal) m' g')
    obtain ⟨a0, a1, a2, a3, a4⟩ := hagree c
    refine ⟨(h c).1.trans ((Cert.FfnReferenceIdeal.Read.val_main_v34_eq m' c).trans ?_), (h c).2⟩
    rw [a0, a1, a2, a3, a4]

end Cert.Proof

end
-- ==== Proof.MergeIdeal.Ref.lean ====
module

public import proofs.«01_k».proof.Proof.Gen.MergeReferenceIdeal.Read
public import Idealize.ShloMosaic.Lib.Pipeline.ValueKit

/-! The merge's reference, at one element. -/

@[expose] public section

set_option maxRecDepth 16384

noncomputable section

namespace Cert.MergeIdeal.Ref

open Cert.MergeReferenceIdeal Cert.MergeReferenceIdeal.Gen Idealize.ShloMosaic
open Cert.MergeReferenceIdeal.Read

/-- The logistic function, written by the exponential. -/
def sig (a : EReal) : EReal := Ideal.div 1 (1 + Ideal.exp (-a))

/-- Three heads' outputs weighed by the softmax of their normalisers. -/
def mix (l0 l1 l2 o0 o1 o2 : EReal) : EReal :=
  Ideal.exp (l0 - max (max l0 l1) l2) * Ideal.div 1 (Ideal.exp (l0 - max (max l0 l1) l2) + Ideal.exp (l1 - max (max l0 l1) l2) + Ideal.exp (l2 - max (max l0 l1) l2)) * o0
  + Ideal.exp (l1 - max (max l0 l1) l2) * Ideal.div 1 (Ideal.exp (l0 - max (max l0 l1) l2) + Ideal.exp (l1 - max (max l0 l1) l2) + Ideal.exp (l2 - max (max l0 l1) l2)) * o1
  + Ideal.exp (l2 - max (max l0 l1) l2) * Ideal.div 1 (Ideal.exp (l0 - max (max l0 l1) l2) + Ideal.exp (l1 - max (max l0 l1) l2) + Ideal.exp (l2 - max (max l0 l1) l2)) * o2

/-- The greatest of three, as a fold. -/
theorem fold3 (f : Fin 3 → EReal) : Finset.univ.fold max ⊥ f = max (max (f 0) (f 1)) (f 2) := by
  rw [Fin.univ_succ, Finset.fold_cons, Finset.fold_map, Fin.univ_succ, Finset.fold_cons, Finset.fold_map, Fin.univ_succ, Finset.fold_cons, Finset.fold_map]
  simp [max_assoc]

/-- A normalised row: element `q` of the row `x`, gain `g`. -/
def nrm (x : Fin 1024 → EReal) (g : EReal) (q : Fin 1024) : EReal :=
  x q * Ideal.rsqrt (Ideal.div (∑ k : Fin 1024, x k * x k) (Ideal.ofBits FTy.f32 0x44800000#32)
    + Ideal.ofBits FTy.f32 0x358637BD#32) * g

variable (x0 : FVec Ideal S2x8192x1024 .f32) (x1 : FVec Ideal S1024 .f32) (x2 : FVec Ideal S1024x2048 .f32)
  (x3 : FVec Ideal S2x64x512x128 .bf16) (x4 x5 : FVec Ideal S2x1x8192x256 .f32) (x6 x7 : FVec Ideal S2x4x2048x256 .f32)
  (x8 x9 : FVec Ideal S2x16x512x256 .f32) (x10 : FVec Ideal S512x1024 .f32) (x11 : FVec Ideal S256x1024 .f32)
  (x12 : FVec Ideal S1024x1024 .f32) (x13 : FVec Ideal S1024 .f32)

/-- The dilated branch's row. -/
def dil (b : Fin 2) (s : Fin 8192) (c : Fin 256) : EReal :=
  mix (x5 (ix4 b 0 s c)) (x7 (ix4 b ⟨s.val % 4, by omega⟩ ⟨s.val / 4, by omega⟩ c)) (x9 (ix4 b ⟨s.val % 16, by omega⟩ ⟨s.val / 16, by omega⟩ c))
    (x4 (ix4 b 0 s c)) (x6 (ix4 b ⟨s.val % 4, by omega⟩ ⟨s.val / 4, by omega⟩ c)) (x8 (ix4 b ⟨s.val % 16, by omega⟩ ⟨s.val / 16, by omega⟩ c))

theorem dil_apply (i : S2x8192x256.Idx) :
    val_main_v48 (F := Ideal) x4 x5 x6 x7 x8 x9 i = dil x4 x5 x6 x7 x8 x9 (i 0) (i 1) (i 2) := by
  unfold dil mix
  pointwise [val_main_v16,val_main_v17,val_main_v18,val_main_v19,val_main_v20,val_main_v21,val_main_v22,val_main_v23,val_main_v24,val_main_v25,val_main_cst_2,val_main_v26,val_main_cst_3,val_main_v27,val_main_v28,val_main_v29,val_main_v30,val_main_v31,val_main_v32,val_main_cst_4,val_main_v33,val_main_v34,val_main_v35,val_main_v36,val_main_v37,val_main_v38,val_main_v39,val_main_v40,val_main_v41,val_main_v42,val_main_v43,val_main_v44,val_main_v45,val_main_v46,val_main_v47,val_main_cst_5,val_main_v48]
  rw [show Ideal.ofBits FTy.f32 4286578688#32 = ⊥ by simp [Ideal.ofBits, Ideal.ieee]]
  simp only [fold3, Fin.sum_univ_three]
  rfl

theorem gate_a (i : S2x8192x1024.Idx) : val_main_v56 (F := Ideal) x0 x1 x2 i
    = sig (∑ q : Fin 1024, nrm (fun k => x0 (ix3 (i 0) (i 1) k)) (x1 (ix1 q)) q * x2 (ix2 q ⟨(i 2).val, by have := (i 2).isLt; change (i 2).val < 1024 at this; omega⟩)) := by
  unfold sig nrm
  pointwise [val_main_v0,val_main_cst,val_main_v1,val_main_v2,val_main_cst_0,val_main_v3,val_main_v4,val_main_cst_1,val_main_v5,val_main_v6,val_main_v7,val_main_v8,val_main_v9,val_main_v10,val_main_v11,val_main_v12,val_main_v13,val_main_v14,val_main_v51,val_main_v52,val_main_cst_6,val_main_v53,val_main_v54,val_main_cst_7,val_main_v55,val_main_v56]

theorem gate_b (i : S2x8192x1024.Idx) : val_main_v64 (F := Ideal) x0 x1 x2 i
    = sig (∑ q : Fin 1024, nrm (fun k => x0 (ix3 (i 0) (i 1) k)) (x1 (ix1 q)) q * x2 (ix2 q ⟨1024 + (i 2).val, by have := (i 2).isLt; change (i 2).val < 1024 at this; omega⟩)) := by
  unfold sig nrm
  pointwise [val_main_v0,val_main_cst,val_main_v1,val_main_v2,val_main_cst_0,val_main_v3,val_main_v4,val_main_cst_1,val_main_v5,val_main_v6,val_main_v7,val_main_v8,val_main_v9,val_main_v10,val_main_v11,val_main_v12,val_main_v13,val_main_v15,val_main_v59,val_main_v60,val_main_cst_8,val_main_v61,val_main_v62,val_main_cst_9,val_main_v63,val_main_v64]

theorem nsa_apply (i : S2x8192x1024.Idx) : val_main_v57 (F := Ideal) x3 x10 i
    = ∑ q : Fin 512, x3 (ix4 (i 0) ⟨(i 1).val / 128, by have := (i 1).isLt; change (i 1).val < 8192 at this; omega⟩ q ⟨(i 1).val % 128, by omega⟩) * x10 (ix2 q (i 2)) := by
  pointwise [val_main_v49,val_main_v50,val_main_v57]

theorem dilm_apply (i : S2x8192x1024.Idx) : val_main_v65 (F := Ideal) x4 x5 x6 x7 x8 x9 x11 i
    = ∑ q : Fin 256, dil x4 x5 x6 x7 x8 x9 (i 0) (i 1) q * x11 (ix2 q (i 2)) := by
  have e : val_main_v48 (F := Ideal) x4 x5 x6 x7 x8 x9 = fun i => dil x4 x5 x6 x7 x8 x9 (i 0) (i 1) (i 2) :=
    funext fun i => dil_apply x4 x5 x6 x7 x8 x9 i
  unfold val_main_v65
  rw [e]
  pointwise []

/-- The merged row, before the last product. -/
def mrg (b : Fin 2) (s : Fin 8192) (c : Fin 1024) : EReal :=
  sig (∑ q : Fin 1024, nrm (fun k => x0 (ix3 b s k)) (x1 (ix1 q)) q * x2 (ix2 q ⟨c.val, by omega⟩))
    * (∑ q : Fin 512, x3 (ix4 b ⟨s.val / 128, by omega⟩ q ⟨s.val % 128, by omega⟩) * x10 (ix2 q c))
  + sig (∑ q : Fin 1024, nrm (fun k => x0 (ix3 b s k)) (x1 (ix1 q)) q * x2 (ix2 q ⟨1024 + c.val, by omega⟩))
    * (∑ q : Fin 256, dil x4 x5 x6 x7 x8 x9 b s q * x11 (ix2 q c))

theorem mrg_apply (i : S2x8192x1024.Idx) : val_main_v67 (F := Ideal) x0 x1 x2 x3 x4 x5 x6 x7 x8 x9 x10 x11 i
    = mrg x0 x1 x2 x3 x4 x5 x6 x7 x8 x9 x10 x11 (i 0) (i 1) (i 2) := by
  unfold mrg val_main_v67 val_main_v58 val_main_v66
  rw [← gate_a x0 x1 x2 i, ← gate_b x0 x1 x2 i, ← nsa_apply x3 x10 i, ← dilm_apply x4 x5 x6 x7 x8 x9 x11 i]
  rfl

/-- The result: the residual plus the normalised row of the last product. -/
theorem ref_apply (i : S2x8192x1024.Idx) :
    val_main_v82 (F := Ideal) x0 x1 x2 x3 x4 x5 x6 x7 x8 x9 x10 x11 x12 x13 i
    = x0 i + nrm (fun k => ∑ q : Fin 1024, mrg x0 x1 x2 x3 x4 x5 x6 x7 x8 x9 x10 x11 (i 0) (i 1) q * x12 (ix2 q k)) (x13 (ix1 (i 2))) (i 2) := by
  have e : val_main_v67 (F := Ideal) x0 x1 x2 x3 x4 x5 x6 x7 x8 x9 x10 x11
      = fun i => mrg x0 x1 x2 x3 x4 x5 x6 x7 x8 x9 x10 x11 (i 0) (i 1) (i 2) :=
    funext fun i => mrg_apply x0 x1 x2 x3 x4 x5 x6 x7 x8 x9 x10 x11 i
  unfold nrm
  pointwise [val_main_v68,val_main_v69,val_main_cst_10,val_main_v70,val_main_v71,val_main_cst_11,val_main_v72,val_main_v73,val_main_cst_12,val_main_v74,val_main_v75,val_main_v76,val_main_v77,val_main_v78,val_main_v79,val_main_v80,val_main_v81,val_main_v82]
  simp only [e]
  rfl

end Cert.MergeIdeal.Ref

end
-- ==== Proof.MergeIdeal.Pay.lean ====
module

public import proofs.«01_k».proof.Proof.Gen.MergeIdeal.Skeleton
public import proofs.«01_k».proof.Proof.MergeIdeal.Ref
public import Idealize.ShloMosaic.Lib.Pipeline.ValueKit

/-! The merge's payloads, at one element. -/

@[expose] public section

set_option maxRecDepth 16384

noncomputable section

namespace Cert.MergeIdeal.Value

open Cert.MergeIdeal Cert.MergeIdeal.Gen Idealize.ShloMosaic Idealize.SL.Sem
open Cert.MergeIdeal.Ref (mix)

/-- One half, as the programs write it. -/
abbrev half : EReal := Ideal.ofBits FTy.f32 0x3F000000#32

/-- The logistic function by the hyperbolic tangent, as the kernel has it. -/
def sigK (a : EReal) : EReal := half * Ideal.tanh (half * a) + half

theorem half_eq : half = (((1 / 2 : ℝ)) : EReal) := by
  unfold half
  simp [Ideal.ofBits, Ideal.ieee, -EReal.coe_mul]; norm_num

theorem real_logistic (r : ℝ) : 1 / 2 * Real.tanh (1 / 2 * r) + 1 / 2 = (1 + Real.exp (-r))⁻¹ := by
  have e : Real.exp (-r) = Real.exp (-(1 / 2 * r)) * Real.exp (-(1 / 2 * r)) := by
    rw [← Real.exp_add]; congr 1; ring
  have e1 : Real.exp (1 / 2 * r) * Real.exp (-(1 / 2 * r)) = 1 := by
    rw [← Real.exp_add]; simp
  rw [Real.tanh_eq_sinh_div_cosh, Real.sinh_eq, Real.cosh_eq, e]
  have p1 := Real.exp_pos (1 / 2 * r)
  have p2 := Real.exp_pos (-(1 / 2 * r))
  generalize Real.exp (1 / 2 * r) = u at *
  generalize Real.exp (-(1 / 2 * r)) = v at *
  have h1 : u + v ≠ 0 := by positivity
  have h2 : 1 + v * v ≠ 0 := by positivity
  field_simp
  nlinarith [e1]

theorem sigK_eq (a : EReal) : sigK a = Ref.sig a := by
  unfold sigK Ref.sig
  rw [half_eq]
  change _ = Ideal.logistic a
  induction a using EReal.rec with
  | bot =>
    rw [EReal.coe_mul_bot_of_pos (by norm_num), Ideal.tanh_bot, Ideal.logistic_bot]
    rw [← EReal.coe_one, ← EReal.coe_neg, ← EReal.coe_mul, ← EReal.coe_add, ← EReal.coe_zero]
    norm_num
  | top =>
    rw [EReal.coe_mul_top_of_pos (by norm_num), Ideal.tanh_top, Ideal.logistic_top]
    rw [← EReal.coe_one, ← EReal.coe_mul, ← EReal.coe_add]
    norm_num
  | coe r =>
    rw [← EReal.coe_mul, Ideal.tanh_coe, Ideal.logistic_coe, ← EReal.coe_mul, ← EReal.coe_add, real_logistic]

/-- The normalised input row. -/
theorem pay3_apply (x : FVec Ideal S1x512x1024 .f32) (g : FVec Ideal S1x1024 .f32) (r : Fin 512) (q : Fin 1024) :
    k0_pay3 (F := Ideal) x g (ix2 r q) = Ref.nrm (fun k => x (ix3 0 r k)) (g (ix2 0 q)) q := by
  unfold Ref.nrm
  pointwise [k0_pay3, k0_pay2]

/-- One tile of the merged row: the two gates times the two branches' projections. -/
def chunk (h : FVec Ideal S512x1024 .bf16) (d : FVec Ideal S512x256 .bf16) (Y : FVec Ideal S512x512 .bf16)
    (A B : FVec Ideal S1024x256 .bf16) (N : FVec Ideal S512x256 .bf16) (D : FVec Ideal S256x256 .bf16) (y : S512x256.Idx) : EReal :=
  sigK (∑ q : Fin 1024, h (ix2 (y 0) q) * A (ix2 q (y 1))) * (∑ q : Fin 512, Y (ix2 q (y 0)) * N (ix2 q (y 1)))
  + sigK (∑ q : Fin 1024, h (ix2 (y 0) q) * B (ix2 q (y 1))) * (∑ q : Fin 256, d (ix2 (y 0) q) * D (ix2 q (y 1)))

variable (h : FVec Ideal S512x1024 .bf16) (d : FVec Ideal S512x256 .bf16) (Y : FVec Ideal S512x512 .bf16)
    (A B : FVec Ideal S1024x256 .bf16) (N : FVec Ideal S512x256 .bf16) (D : FVec Ideal S256x256 .bf16) (y : S512x256.Idx)

theorem chunk0_apply : k0_pay109 (F := Ideal) d Y (k0_pay107 h A) (k0_pay108 h B) (Scalar.ofBits .f32 0x3F000000#32) N D y
    = chunk h d Y A B N D y := by
  unfold chunk sigK half
  pointwise [k0_pay109, k0_pay107, k0_pay108]

theorem chunk1_apply : k0_pay113 (F := Ideal) d Y (k0_pay110 h A) (k0_pay111 h B) (k0_pay112 N) D y
    = chunk h d Y A B N D y := by
  unfold chunk sigK half
  pointwise [k0_pay113, k0_pay110, k0_pay111, k0_pay112]

theorem chunk2_apply : k0_pay116 (F := Ideal) d (k0_pay114 h B) (k0_pay115 h Y A N) D y
    = chunk h d Y A B N D y := by
  unfold chunk sigK half
  pointwise [k0_pay116, k0_pay114, k0_pay115]

theorem chunk3_apply : k0_pay118 (F := Ideal) (k0_pay117 h d Y A B N D) y
    = chunk h d Y A B N D y := by
  unfold chunk sigK half
  pointwise [k0_pay118, k0_pay117]

/-- The residual step. -/
theorem last_apply (x : FVec Ideal S512x1024 .f32) (M : FVec Ideal S512x1024 .bf16) (W : FVec Ideal S1024x1024 .bf16)
    (g : FVec Ideal S1x1024 .f32) (r : Fin 512) (q : Fin 1024) :
    k0_pay119 (F := Ideal) x M W g (ix2 r q)
    = x (ix2 r q) + Ref.nrm (fun k => ∑ p : Fin 1024, M (ix2 r p) * W (ix2 p k)) (g (ix2 0 q)) q := by
  unfold Ref.nrm
  pointwise [k0_pay119]

/-- Two lane chunks of a plane side by side: column `c` is lane `c % 128` of chunk `c / 128`. -/
def side (P : S2x512x128.Idx → EReal) (r : Fin 512) (c : Fin 256) : EReal :=
  P (ix3 ⟨c.val / 128, by omega⟩ r ⟨c.val % 128, by omega⟩)

/-- A row read by its two lane chunks. -/
theorem pair_apply (a b : FVec Ideal S1x512x128 .f32) (P : S2x512x128.Idx → EReal)
    (ha : ∀ r q, a (ix3 0 r q) = P (ix3 0 r q)) (hb : ∀ r q, b (ix3 0 r q) = P (ix3 1 r q)) (r : Fin 512) (c : Fin 256) :
    k0_pay50 (F := Ideal) a b (ix2 r c) = side P r c := by
  unfold side
  pointwise [k0_pay50]
  split
  · rename_i hc
    refine (ha _ _).trans (congrArg P ?_)
    have e0 : (⟨c.val / 128, by omega⟩ : Fin 2) = 0 := Fin.ext (show c.val / 128 = 0 by omega)
    have e1 : (⟨c.val % 128, by omega⟩ : Fin 128) = ⟨c.val, by omega⟩ := Fin.ext (show c.val % 128 = c.val by omega)
    rw [e0, e1]
  · rename_i hc
    refine (hb _ _).trans (congrArg P ?_)
    have e0 : (⟨c.val / 128, by omega⟩ : Fin 2) = 1 := Fin.ext (show c.val / 128 = 1 by omega)
    have e1 : (⟨c.val % 128, by omega⟩ : Fin 128) = ⟨c.val - 128, by omega⟩ := Fin.ext (show c.val % 128 = c.val - 128 by omega)
    rw [e0, e1]

/-- The mixed row over its six operands as rows. -/
def mixed (l0 l1 l2 o0 o1 o2 : FVec Ideal S512x256 .f32) : FVec Ideal S512x256 .f32 := fun y =>
  mix (l0 y) (l1 y) (l2 y) (o0 y) (o1 y) (o2 y)

theorem mixed_eq (l0 o0 : FVec Ideal S1x1x512x256 .f32) (a1 b1 a2 b2 c1 d1 c2 d2 : FVec Ideal S1x512x128 .f32) :
    k0_pay105 (F := Ideal) (k0_pay67 (k0_pay56 (k0_pay4 l0) (k0_pay14 a1 b1) a2 b2 o0) (k0_pay57 (k0_pay4 l0) (k0_pay14 a1 b1) a2 b2) c1 d1)
      (k0_pay68 (k0_pay54 (k0_pay4 l0) (k0_pay14 a1 b1) a2 b2) (k0_pay55 (k0_pay4 l0) (k0_pay14 a1 b1) a2 b2))
      (k0_pay104 c2) d2
    = mixed (k0_pay4 l0) (k0_pay50 a1 b1) (k0_pay50 a2 b2) (k0_pay4 o0) (k0_pay50 c1 d1) (k0_pay50 c2 d2) := by
  have e1 : Ideal.ofBits FTy.f32 0x3F800000#32 = 1 := by simp [Ideal.ofBits, Ideal.ieee, -EReal.coe_mul]; norm_num
  funext y
  unfold mixed mix
  rw [← e1]
  rfl

/-- The mixed row over the normalisers and outputs in natural order. -/
theorem mix_apply (l0 o0 : FVec Ideal S1x1x512x256 .f32) (a1 b1 a2 b2 c1 d1 c2 d2 : FVec Ideal S1x512x128 .f32)
    (L1 L2 O1 O2 : S2x512x128.Idx → EReal)
    (ha1 : ∀ r q, a1 (ix3 0 r q) = L1 (ix3 0 r q)) (hb1 : ∀ r q, b1 (ix3 0 r q) = L1 (ix3 1 r q))
    (ha2 : ∀ r q, a2 (ix3 0 r q) = L2 (ix3 0 r q)) (hb2 : ∀ r q, b2 (ix3 0 r q) = L2 (ix3 1 r q))
    (hc1 : ∀ r q, c1 (ix3 0 r q) = O1 (ix3 0 r q)) (hd1 : ∀ r q, d1 (ix3 0 r q) = O1 (ix3 1 r q))
    (hc2 : ∀ r q, c2 (ix3 0 r q) = O2 (ix3 0 r q)) (hd2 : ∀ r q, d2 (ix3 0 r q) = O2 (ix3 1 r q))
    (r : Fin 512) (c : Fin 256) :
    k0_pay105 (F := Ideal) (k0_pay67 (k0_pay56 (k0_pay4 l0) (k0_pay14 a1 b1) a2 b2 o0) (k0_pay57 (k0_pay4 l0) (k0_pay14 a1 b1) a2 b2) c1 d1)
      (k0_pay68 (k0_pay54 (k0_pay4 l0) (k0_pay14 a1 b1) a2 b2) (k0_pay55 (k0_pay4 l0) (k0_pay14 a1 b1) a2 b2))
      (k0_pay104 c2) d2 (ix2 r c)
    = mix (l0 (ix4 0 0 r c)) (side L1 r c) (side L2 r c) (o0 (ix4 0 0 r c)) (side O1 r c) (side O2 r c) := by
  have e4 : ∀ l : FVec Ideal S1x1x512x256 .f32, k0_pay4 (F := Ideal) l (ix2 r c) = l (ix4 0 0 r c) := by
    intro l
    pointwise [k0_pay4]
  rw [mixed_eq]
  unfold mixed
  rw [e4, e4, pair_apply a1 b1 L1 ha1 hb1, pair_apply a2 b2 L2 ha2 hb2, pair_apply c1 d1 O1 hc1 hd1, pair_apply c2 d2 O2 hc2 hd2]

/-- The four row tiles of the first branch side by side. -/
theorem tiles_apply (X : FVec Ideal S1x4x512x128 .bf16) (v0 v1 v2 v3 : FVec Ideal S1x1x512x128 .bf16)
    (h0 : ∀ q r, v0 (ix4 0 0 q r) = X (ix4 0 0 q r)) (h1 : ∀ q r, v1 (ix4 0 0 q r) = X (ix4 0 1 q r))
    (h2 : ∀ q r, v2 (ix4 0 0 q r) = X (ix4 0 2 q r)) (h3 : ∀ q r, v3 (ix4 0 0 q r) = X (ix4 0 3 q r))
    (q : Fin 512) (s : Fin 512) :
    k0_pay106 (F := Ideal) v0 v1 v2 v3 (ix2 q s) = X (ix4 0 ⟨s.val / 128, by omega⟩ q ⟨s.val % 128, by omega⟩) := by
  have hs := s.isLt
  have key : ∀ (a b : Fin 4) (u v : Fin 128), a.val = b.val → u.val = v.val → X (ix4 0 a q u) = X (ix4 0 b q v) := by
    intro a b u v hab huv
    rw [Fin.ext hab, Fin.ext huv]
  pointwise [k0_pay106]
  split
  · exact (h0 _ _).trans (key _ _ _ _ (show 0 = s.val / 128 by omega) (show s.val = s.val % 128 by omega))
  · split
    · exact (h1 _ _).trans (key _ _ _ _ (show 1 = s.val / 128 by omega) (show s.val - 128 = s.val % 128 by omega))
    · split
      · exact (h2 _ _).trans (key _ _ _ _ (show 2 = s.val / 128 by omega) (show s.val - 128 - 128 = s.val % 128 by omega))
      · exact (h3 _ _).trans (key _ _ _ _ (show 3 = s.val / 128 by omega) (show s.val - 128 - 128 - 128 = s.val % 128 by omega))

end Cert.MergeIdeal.Value

end
-- ==== Proof.MergeIdeal.Nat.lean ====
module

public import proofs.«01_k».proof.Proof.MergeIdeal.Pay
public import Idealize.ShloMosaic.Lib.Pipeline.ReadBack

/-! The rows of a dilated group, stored into the scratch at their natural places. -/

@[expose] public section

set_option maxRecDepth 16384

noncomputable section

namespace Cert.MergeIdeal.Value

open Cert.MergeIdeal Cert.MergeIdeal.Gen Idealize.ShloMosaic Idealize.SL.Sem

/-- What a list of writes leaves at an index that one of its newest `n` covers, where those all hold
values of one function `G`. -/
theorem canon_take {S : Shape} {e : EltTy} (G : S.Idx → Elt Ideal e) : ∀ (n : ℕ) (L : List (View.Piece (Elt Ideal) S e))
    (_ : ∀ p ∈ L.take n, ∀ x : p.1.shape.Idx, p.2 x = G (p.1.emb x)) (y : S.Idx)
    (_ : ∃ p ∈ L.take n, y ∈ p.1.set), View.canon L y = G y
  | 0, _, _, _, hy => by obtain ⟨p, hp, _⟩ := hy; simp at hp
  | _ + 1, [], _, _, hy => by obtain ⟨p, hp, _⟩ := hy; simp at hp
  | n + 1, p :: L, hL, y, hy => by
    by_cases hm : y ∈ p.1.set
    · obtain ⟨x, rfl⟩ := p.1.exists_idx_of_mem hm
      rw [show p.1.idx x = p.1.emb x from rfl, View.canon_cons_emb]
      exact hL p (by simp) x
    · rw [View.canon_cons_of_not_mem _ _ hm]
      refine canon_take G n L (fun q hq => hL q (by simp [hq])) y ?_
      obtain ⟨q, hq, hyq⟩ := hy
      rw [List.take_succ_cons] at hq
      rcases List.mem_cons.mp hq with rfl | hq'
      · exact absurd hyq hm
      · exact ⟨q, hq', hyq⟩

/-- The natural order of a group of four residues. -/
def nat4 (X : FVec Ideal S1x4x128x256 .f32) : S2x512x128.Idx → EReal := fun y =>
  X (ix4 0 ⟨(y 1).val % 4, by omega⟩ ⟨(y 1).val / 4, by have := (y 1).isLt; change (y 1).val < 512 at this; omega⟩
    ⟨(y 0).val * 128 + (y 2).val, by
      have h0 := (y 0).isLt; have h2 := (y 2).isLt; change (y 0).val < 2 at h0; change (y 2).val < 128 at h2; omega⟩)

/-- The natural order of a group of sixteen residues. -/
def nat16 (X : FVec Ideal S1x16x32x256 .f32) : S2x512x128.Idx → EReal := fun y =>
  X (ix4 0 ⟨(y 1).val % 16, by omega⟩ ⟨(y 1).val / 16, by have := (y 1).isLt; change (y 1).val < 512 at this; omega⟩
    ⟨(y 0).val * 128 + (y 2).val, by
      have h0 := (y 0).isLt; have h2 := (y 2).isLt; change (y 0).val < 2 at h0; change (y 2).val < 128 at h2; omega⟩)

/-- The rows of residue `r` of lane chunk `j`, of four residues. -/
abbrev rect4 (j r : ℕ) (i : ∀ a, S1x128x128.size a = 0 ∨ (![j, r, 0] : Fin 3 → ℕ) a + (![1, 4, 1] : Fin 3 → ℕ) a * (S1x128x128.size a - 1) < S2x512x128.size a)
    (s : ∀ a, 0 < (![1, 4, 1] : Fin 3 → ℕ) a) : Rect S2x512x128 :=
  ⟨(⟨![j, r, 0], S1x128x128.size, ![1, 4, 1], i⟩ : LoadRect S2x512x128), s⟩

/-- The rows of residue `r` of lane chunk `j`, of sixteen residues. -/
abbrev rect16 (j r : ℕ) (i : ∀ a, S1x32x128.size a = 0 ∨ (![j, r, 0] : Fin 3 → ℕ) a + (![1, 16, 1] : Fin 3 → ℕ) a * (S1x32x128.size a - 1) < S2x512x128.size a)
    (s : ∀ a, 0 < (![1, 16, 1] : Fin 3 → ℕ) a) : Rect S2x512x128 :=
  ⟨(⟨![j, r, 0], S1x32x128.size, ![1, 16, 1], i⟩ : LoadRect S2x512x128), s⟩

theorem piece4 (X : FVec Ideal S1x4x128x256 .f32) (j r o : ℕ) (hr : r < 4) (ho : o = j * 128) (i s)
    (i' : ∀ a, (![0, r, 0, o] : Fin 4 → ℕ) a + (![1, 1, 128, 128] : Fin 4 → ℕ) a ≤ S1x4x128x256.size a)
    (x : S1x128x128.Idx) :
    k0_pay5 (F := Ideal) (View.ld (Val := Elt Ideal) (e' := .f32) X (Rect.unit ![0, r, 0, o] ![1, 1, 128, 128] i')) x
    = nat4 X ((rect4 j r i s).emb x) := by
  have x0 : (x 0).val < 1 := (x 0).isLt
  have x1 : (x 1).val < 128 := (x 1).isLt
  have x2 : (x 2).val < 128 := (x 2).isLt
  have e0 : ((rect4 j r i s).emb x 0).val = j := show j + 1 * (x 0).val = j by omega
  have e1 : ((rect4 j r i s).emb x 1).val = r + 4 * (x 1).val := rfl
  have e2 : ((rect4 j r i s).emb x 2).val = (x 2).val := show 0 + 1 * (x 2).val = (x 2).val by omega
  have key : ∀ (a a' : Fin 4) (b b' : Fin 128) (c c' : Fin 256), a.val = a'.val → b.val = b'.val → c.val = c'.val →
      X (ix4 0 a b c) = X (ix4 0 a' b' c') := by
    intro a a' b b' c c' ha hb hc
    rw [Fin.ext ha, Fin.ext hb, Fin.ext hc]
  pointwise [k0_pay5]
  unfold nat4
  refine key _ _ _ _ _ _ ?_ ?_ ?_
  · show r = ((rect4 j r i s).emb x 1).val % 4
    rw [e1]; omega
  · show (x 1).val = ((rect4 j r i s).emb x 1).val / 4
    rw [e1]; omega
  · show o + (x 2).val = ((rect4 j r i s).emb x 0).val * 128 + ((rect4 j r i s).emb x 2).val
    rw [e0, e2]; omega

/-- Every place of lane chunk `j` lies in the rows of its residue. -/
theorem mem4 (j r : ℕ) (i s) (y : S2x512x128.Idx) (h0 : (y 0).val = j) (h1 : (y 1).val % 4 = r) : y ∈ (rect4 j r i s).set := by
  have y1 : (y 1).val < 512 := (y 1).isLt
  have y2 : (y 2).val < 128 := (y 2).isLt
  rw [LoadRect.mem_set]
  intro a
  match a with
  | ⟨0, _⟩ => exact ⟨0, Nat.one_pos, show (y 0).val = j + 1 * 0 by omega⟩
  | ⟨1, _⟩ => exact ⟨(y 1).val / 4, show (y 1).val / 4 < 128 by omega, show (y 1).val = r + 4 * ((y 1).val / 4) by omega⟩
  | ⟨2, _⟩ => exact ⟨(y 2).val, y2, show (y 2).val = 0 + 1 * (y 2).val by omega⟩

theorem piece16 (X : FVec Ideal S1x16x32x256 .f32) (j r o : ℕ) (hr : r < 16) (ho : o = j * 128) (i s)
    (i' : ∀ a, (![0, r, 0, o] : Fin 4 → ℕ) a + (![1, 1, 32, 128] : Fin 4 → ℕ) a ≤ S1x16x32x256.size a)
    (x : S1x32x128.Idx) :
    k0_pay15 (F := Ideal) (View.ld (Val := Elt Ideal) (e' := .f32) X (Rect.unit ![0, r, 0, o] ![1, 1, 32, 128] i')) x
    = nat16 X ((rect16 j r i s).emb x) := by
  have x0 : (x 0).val < 1 := (x 0).isLt
  have x1 : (x 1).val < 32 := (x 1).isLt
  have x2 : (x 2).val < 128 := (x 2).isLt
  have e0 : ((rect16 j r i s).emb x 0).val = j := show j + 1 * (x 0).val = j by omega
  have e1 : ((rect16 j r i s).emb x 1).val = r + 16 * (x 1).val := rfl
  have e2 : ((rect16 j r i s).emb x 2).val = (x 2).val := show 0 + 1 * (x 2).val = (x 2).val by omega
  have key : ∀ (a a' : Fin 16) (b b' : Fin 32) (c c' : Fin 256), a.val = a'.val → b.val = b'.val → c.val = c'.val →
      X (ix4 0 a b c) = X (ix4 0 a' b' c') := by
    intro a a' b b' c c' ha hb hc
    rw [Fin.ext ha, Fin.ext hb, Fin.ext hc]
  pointwise [k0_pay15]
  unfold nat16
  refine key _ _ _ _ _ _ ?_ ?_ ?_
  · show r = ((rect16 j r i s).emb x 1).val % 16
    rw [e1]; omega
  · show (x 1).val = ((rect16 j r i s).emb x 1).val / 16
    rw [e1]; omega
  · show o + (x 2).val = ((rect16 j r i s).emb x 0).val * 128 + ((rect16 j r i s).emb x 2).val
    rw [e0, e2]; omega

/-- Every place of lane chunk `j` lies in the rows of its residue. -/
theorem mem16 (j r : ℕ) (i s) (y : S2x512x128.Idx) (h0 : (y 0).val = j) (h1 : (y 1).val % 16 = r) : y ∈ (rect16 j r i s).set := by
  have y1 : (y 1).val < 512 := (y 1).isLt
  have y2 : (y 2).val < 128 := (y 2).isLt
  rw [LoadRect.mem_set]
  intro a
  match a with
  | ⟨0, _⟩ => exact ⟨0, Nat.one_pos, show (y 0).val = j + 1 * 0 by omega⟩
  | ⟨1, _⟩ => exact ⟨(y 1).val / 16, show (y 1).val / 16 < 32 by omega, show (y 1).val = r + 16 * ((y 1).val / 16) by omega⟩
  | ⟨2, _⟩ => exact ⟨(y 2).val, y2, show (y 2).val = 0 + 1 * (y 2).val by omega⟩

/-- The writes of a group of 4 residues into the scratch, over earlier writes. -/
def p4 (X : FVec Ideal S1x4x128x256 .f32) (L : List (View.Piece (Elt Ideal) S2x512x128 .f32)) : List (View.Piece (Elt Ideal) S2x512x128 .f32) :=
  ⟨rect4 1 3 (by decide) (by decide), k0_pay5 (F := Ideal) (View.ld (Val := Elt Ideal) (e' := .f32) X (Rect.unit ![0, 3, 0, 128] ![1, 1, 128, 128] (by decide)))⟩ ::
  ⟨rect4 0 3 (by decide) (by decide), k0_pay5 (F := Ideal) (View.ld (Val := Elt Ideal) (e' := .f32) X (Rect.unit ![0, 3, 0, 0] ![1, 1, 128, 128] (by decide)))⟩ ::
  ⟨rect4 1 2 (by decide) (by decide), k0_pay5 (F := Ideal) (View.ld (Val := Elt Ideal) (e' := .f32) X (Rect.unit ![0, 2, 0, 128] ![1, 1, 128, 128] (by decide)))⟩ ::
  ⟨rect4 0 2 (by decide) (by decide), k0_pay5 (F := Ideal) (View.ld (Val := Elt Ideal) (e' := .f32) X (Rect.unit ![0, 2, 0, 0] ![1, 1, 128, 128] (by decide)))⟩ ::
  ⟨rect4 1 1 (by decide) (by decide), k0_pay5 (F := Ideal) (View.ld (Val := Elt Ideal) (e' := .f32) X (Rect.unit ![0, 1, 0, 128] ![1, 1, 128, 128] (by decide)))⟩ ::
  ⟨rect4 0 1 (by decide) (by decide), k0_pay5 (F := Ideal) (View.ld (Val := Elt Ideal) (e' := .f32) X (Rect.unit ![0, 1, 0, 0] ![1, 1, 128, 128] (by decide)))⟩ ::
  ⟨rect4 1 0 (by decide) (by decide), k0_pay5 (F := Ideal) (View.ld (Val := Elt Ideal) (e' := .f32) X (Rect.unit ![0, 0, 0, 128] ![1, 1, 128, 128] (by decide)))⟩ ::
  ⟨rect4 0 0 (by decide) (by decide), k0_pay5 (F := Ideal) (View.ld (Val := Elt Ideal) (e' := .f32) X (Rect.unit ![0, 0, 0, 0] ![1, 1, 128, 128] (by decide)))⟩ :: L

theorem p4_agree (X : FVec Ideal S1x4x128x256 .f32) (L : List (View.Piece (Elt Ideal) S2x512x128 .f32)) :
    ∀ p ∈ (p4 X L).take 8, ∀ x : p.1.shape.Idx, p.2 x = nat4 X (p.1.emb x) := by
  unfold p4
  simp only [List.take_succ_cons, List.take_zero]
  refine List.forall_mem_cons.2 ⟨fun x => piece4 X 1 3 128 (by decide) (by decide) _ _ _ x, List.forall_mem_cons.2 ⟨fun x => piece4 X 0 3 0 (by decide) (by decide) _ _ _ x, List.forall_mem_cons.2 ⟨fun x => piece4 X 1 2 128 (by decide) (by decide) _ _ _ x, List.forall_mem_cons.2 ⟨fun x => piece4 X 0 2 0 (by decide) (by decide) _ _ _ x, List.forall_mem_cons.2 ⟨fun x => piece4 X 1 1 128 (by decide) (by decide) _ _ _ x, List.forall_mem_cons.2 ⟨fun x => piece4 X 0 1 0 (by decide) (by decide) _ _ _ x, List.forall_mem_cons.2 ⟨fun x => piece4 X 1 0 128 (by decide) (by decide) _ _ _ x, List.forall_mem_cons.2 ⟨fun x => piece4 X 0 0 0 (by decide) (by decide) _ _ _ x, fun p hp => absurd hp List.not_mem_nil⟩⟩⟩⟩⟩⟩⟩⟩

theorem p4_cover (X : FVec Ideal S1x4x128x256 .f32) (L : List (View.Piece (Elt Ideal) S2x512x128 .f32)) (y : S2x512x128.Idx) :
    ∀ (j : Fin 2) (r : Fin 4), (y 0).val = j.val → (y 1).val % 4 = r.val → ∃ p ∈ (p4 X L).take 8, y ∈ p.1.set := by
  unfold p4
  simp only [List.take_succ_cons, List.take_zero]
  intro j r
  match j, r with
  | ⟨0, _⟩, ⟨0, _⟩ => exact fun h0 h1 => ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem4 0 0 _ _ y h0 h1⟩
  | ⟨0, _⟩, ⟨1, _⟩ => exact fun h0 h1 => ⟨_, (List.mem_cons_of_mem _ (List.mem_cons_of_mem _ (List.mem_cons_of_mem _ (List.mem_cons_of_mem _ (List.mem_cons_of_mem _ List.mem_cons_self))))), mem4 0 1 _ _ y h0 h1⟩
  | ⟨0, _⟩, ⟨2, _⟩ => exact fun h0 h1 => ⟨_, (List.mem_cons_of_mem _ (List.mem_cons_of_mem _ (List.mem_cons_of_mem _ List.mem_cons_self))), mem4 0 2 _ _ y h0 h1⟩
  | ⟨0, _⟩, ⟨3, _⟩ => exact fun h0 h1 => ⟨_, (List.mem_cons_of_mem _ List.mem_cons_self), mem4 0 3 _ _ y h0 h1⟩
  | ⟨1, _⟩, ⟨0, _⟩ => exact fun h0 h1 => ⟨_, (List.mem_cons_of_mem _ (List.mem_cons_of_mem _ (List.mem_cons_of_mem _ (List.mem_cons_of_mem _ (List.mem_cons_of_mem _ (List.mem_cons_of_mem _ List.mem_cons_self)))))), mem4 1 0 _ _ y h0 h1⟩
  | ⟨1, _⟩, ⟨1, _⟩ => exact fun h0 h1 => ⟨_, (List.mem_cons_of_mem _ (List.mem_cons_of_mem _ (List.mem_cons_of_mem _ (List.mem_cons_of_mem _ List.mem_cons_self)))), mem4 1 1 _ _ y h0 h1⟩
  | ⟨1, _⟩, ⟨2, _⟩ => exact fun h0 h1 => ⟨_, (List.mem_cons_of_mem _ (List.mem_cons_of_mem _ List.mem_cons_self)), mem4 1 2 _ _ y h0 h1⟩
  | ⟨1, _⟩, ⟨3, _⟩ => exact fun h0 h1 => ⟨_, List.mem_cons_self, mem4 1 3 _ _ y h0 h1⟩
  | ⟨0, _⟩, ⟨k + 4, h⟩ => exact absurd h (by omega)
  | ⟨1, _⟩, ⟨k + 4, h⟩ => exact absurd h (by omega)

/-- Lane chunk `j` read back is the group in natural order. -/
theorem p4_read (X : FVec Ideal S1x4x128x256 .f32) (L : List (View.Piece (Elt Ideal) S2x512x128 .f32)) (j : Fin 2)
    (i : ∀ a, (![j.val, 0, 0] : Fin 3 → ℕ) a + (![1, 512, 128] : Fin 3 → ℕ) a ≤ S2x512x128.size a) (r : Fin 512) (q : Fin 128) :
    ((View.whole cc0_scratch0).readCov (Val := Elt Ideal) (p4 X L) (Rect.unit (s := S2x512x128) ![j.val, 0, 0] ![1, 512, 128] i).toLoadRect : FVec Ideal S1x512x128 .f32) (ix3 0 r q)
    = nat4 X (ix3 j r q) := by
  rw [View.readCov_eq_canon']
  have e : (Rect.unit (s := S2x512x128) ![j.val, 0, 0] ![1, 512, 128] i).toLoadRect.idx (ix3 0 r q) = ix3 j r q := by
    funext a
    match a with
    | ⟨0, _⟩ => exact Fin.ext (show j.val + 1 * 0 = j.val by omega)
    | ⟨1, _⟩ => exact Fin.ext (show 0 + 1 * r.val = r.val by omega)
    | ⟨2, _⟩ => exact Fin.ext (show 0 + 1 * q.val = q.val by omega)
  refine (congrArg _ e).trans ?_
  exact canon_take (nat4 X) 8 (p4 X L) (p4_agree X L) _ (p4_cover X L _ j ⟨r.val % 4, by omega⟩ rfl rfl)

/-- The writes of a group of 16 residues into the scratch, over earlier writes. -/
def p16 (X : FVec Ideal S1x16x32x256 .f32) (L : List (View.Piece (Elt Ideal) S2x512x128 .f32)) : List (View.Piece (Elt Ideal) S2x512x128 .f32) :=
  ⟨rect16 1 15 (by decide) (by decide), k0_pay15 (F := Ideal) (View.ld (Val := Elt Ideal) (e' := .f32) X (Rect.unit ![0, 15, 0, 128] ![1, 1, 32, 128] (by decide)))⟩ ::
  ⟨rect16 0 15 (by decide) (by decide), k0_pay15 (F := Ideal) (View.ld (Val := Elt Ideal) (e' := .f32) X (Rect.unit ![0, 15, 0, 0] ![1, 1, 32, 128] (by decide)))⟩ ::
  ⟨rect16 1 14 (by decide) (by decide), k0_pay15 (F := Ideal) (View.ld (Val := Elt Ideal) (e' := .f32) X (Rect.unit ![0, 14, 0, 128] ![1, 1, 32, 128] (by decide)))⟩ ::
  ⟨rect16 0 14 (by decide) (by decide), k0_pay15 (F := Ideal) (View.ld (Val := Elt Ideal) (e' := .f32) X (Rect.unit ![0, 14, 0, 0] ![1, 1, 32, 128] (by decide)))⟩ ::
  ⟨rect16 1 13 (by decide) (by decide), k0_pay15 (F := Ideal) (View.ld (Val := Elt Ideal) (e' := .f32) X (Rect.unit ![0, 13, 0, 128] ![1, 1, 32, 128] (by decide)))⟩ ::
  ⟨rect16 0 13 (by decide) (by decide), k0_pay15 (F := Ideal) (View.ld (Val := Elt Ideal) (e' := .f32) X (Rect.unit ![0, 13, 0, 0] ![1, 1, 32, 128] (by decide)))⟩ ::
  ⟨rect16 1 12 (by decide) (by decide), k0_pay15 (F := Ideal) (View.ld (Val := Elt Ideal) (e' := .f32) X (Rect.unit ![0, 12, 0, 128] ![1, 1, 32, 128] (by decide)))⟩ ::
  ⟨rect16 0 12 (by decide) (by decide), k0_pay15 (F := Ideal) (View.ld (Val := Elt Ideal) (e' := .f32) X (Rect.unit ![0, 12, 0, 0] ![1, 1, 32, 128] (by decide)))⟩ ::
  ⟨rect16 1 11 (by decide) (by decide), k0_pay15 (F := Ideal) (View.ld (Val := Elt Ideal) (e' := .f32) X (Rect.unit ![0, 11, 0, 128] ![1, 1, 32, 128] (by decide)))⟩ ::
  ⟨rect16 0 11 (by decide) (by decide), k0_pay15 (F := Ideal) (View.ld (Val := Elt Ideal) (e' := .f32) X (Rect.unit ![0, 11, 0, 0] ![1, 1, 32, 128] (by decide)))⟩ ::
  ⟨rect16 1 10 (by decide) (by decide), k0_pay15 (F := Ideal) (View.ld (Val := Elt Ideal) (e' := .f32) X (Rect.unit ![0, 10, 0, 128] ![1, 1, 32, 128] (by decide)))⟩ ::
  ⟨rect16 0 10 (by decide) (by decide), k0_pay15 (F := Ideal) (View.ld (Val := Elt Ideal) (e' := .f32) X (Rect.unit ![0, 10, 0, 0] ![1, 1, 32, 128] (by decide)))⟩ ::
  ⟨rect16 1 9 (by decide) (by decide), k0_pay15 (F := Ideal) (View.ld (Val := Elt Ideal) (e' := .f32) X (Rect.unit ![0, 9, 0, 128] ![1, 1, 32, 128] (by decide)))⟩ ::
  ⟨rect16 0 9 (by decide) (by decide), k0_pay15 (F := Ideal) (View.ld (Val := Elt Ideal) (e' := .f32) X (Rect.unit ![0, 9, 0, 0] ![1, 1, 32, 128] (by decide)))⟩ ::
  ⟨rect16 1 8 (by decide) (by decide), k0_pay15 (F := Ideal) (View.ld (Val := Elt Ideal) (e' := .f32) X (Rect.unit ![0, 8, 0, 128] ![1, 1, 32, 128] (by decide)))⟩ ::
  ⟨rect16 0 8 (by decide) (by decide), k0_pay15 (F := Ideal) (View.ld (Val := Elt Ideal) (e' := .f32) X (Rect.unit ![0, 8, 0, 0] ![1, 1, 32, 128] (by decide)))⟩ ::
  ⟨rect16 1 7 (by decide) (by decide), k0_pay15 (F := Ideal) (View.ld (Val := Elt Ideal) (e' := .f32) X (Rect.unit ![0, 7, 0, 128] ![1, 1, 32, 128] (by decide)))⟩ ::
  ⟨rect16 0 7 (by decide) (by decide), k0_pay15 (F := Ideal) (View.ld (Val := Elt Ideal) (e' := .f32) X (Rect.unit ![0, 7, 0, 0] ![1, 1, 32, 128] (by decide)))⟩ ::
  ⟨rect16 1 6 (by decide) (by decide), k0_pay15 (F := Ideal) (View.ld (Val := Elt Ideal) (e' := .f32) X (Rect.unit ![0, 6, 0, 128] ![1, 1, 32, 128] (by decide)))⟩ ::
  ⟨rect16 0 6 (by decide) (by decide), k0_pay15 (F := Ideal) (View.ld (Val := Elt Ideal) (e' := .f32) X (Rect.unit ![0, 6, 0, 0] ![1, 1, 32, 128] (by decide)))⟩ ::
  ⟨rect16 1 5 (by decide) (by decide), k0_pay15 (F := Ideal) (View.ld (Val := Elt Ideal) (e' := .f32) X (Rect.unit ![0, 5, 0, 128] ![1, 1, 32, 128] (by decide)))⟩ ::
  ⟨rect16 0 5 (by decide) (by decide), k0_pay15 (F := Ideal) (View.ld (Val := Elt Ideal) (e' := .f32) X (Rect.unit ![0, 5, 0, 0] ![1, 1, 32, 128] (by decide)))⟩ ::
  ⟨rect16 1 4 (by decide) (by decide), k0_pay15 (F := Ideal) (View.ld (Val := Elt Ideal) (e' := .f32) X (Rect.unit ![0, 4, 0, 128] ![1, 1, 32, 128] (by decide)))⟩ ::
  ⟨rect16 0 4 (by decide) (by decide), k0_pay15 (F := Ideal) (View.ld (Val := Elt Ideal) (e' := .f32) X (Rect.unit ![0, 4, 0, 0] ![1, 1, 32, 128] (by decide)))⟩ ::
  ⟨rect16 1 3 (by decide) (by decide), k0_pay15 (F := Ideal) (View.ld (Val := Elt Ideal) (e' := .f32) X (Rect.unit ![0, 3, 0, 128] ![1, 1, 32, 128] (by decide)))⟩ ::
  ⟨rect16 0 3 (by decide) (by decide), k0_pay15 (F := Ideal) (View.ld (Val := Elt Ideal) (e' := .f32) X (Rect.unit ![0, 3, 0, 0] ![1, 1, 32, 128] (by decide)))⟩ ::
  ⟨rect16 1 2 (by decide) (by decide), k0_pay15 (F := Ideal) (View.ld (Val := Elt Ideal) (e' := .f32) X (Rect.unit ![0, 2, 0, 128] ![1, 1, 32, 128] (by decide)))⟩ ::
  ⟨rect16 0 2 (by decide) (by decide), k0_pay15 (F := Ideal) (View.ld (Val := Elt Ideal) (e' := .f32) X (Rect.unit ![0, 2, 0, 0] ![1, 1, 32, 128] (by decide)))⟩ ::
  ⟨rect16 1 1 (by decide) (by decide), k0_pay15 (F := Ideal) (View.ld (Val := Elt Ideal) (e' := .f32) X (Rect.unit ![0, 1, 0, 128] ![1, 1, 32, 128] (by decide)))⟩ ::
  ⟨rect16 0 1 (by decide) (by decide), k0_pay15 (F := Ideal) (View.ld (Val := Elt Ideal) (e' := .f32) X (Rect.unit ![0, 1, 0, 0] ![1, 1, 32, 128] (by decide)))⟩ ::
  ⟨rect16 1 0 (by decide) (by decide), k0_pay15 (F := Ideal) (View.ld (Val := Elt Ideal) (e' := .f32) X (Rect.unit ![0, 0, 0, 128] ![1, 1, 32, 128] (by decide)))⟩ ::
  ⟨rect16 0 0 (by decide) (by decide), k0_pay15 (F := Ideal) (View.ld (Val := Elt Ideal) (e' := .f32) X (Rect.unit ![0, 0, 0, 0] ![1, 1, 32, 128] (by decide)))⟩ :: L

theorem p16_agree (X : FVec Ideal S1x16x32x256 .f32) (L : List (View.Piece (Elt Ideal) S2x512x128 .f32)) :
    ∀ p ∈ (p16 X L).take 32, ∀ x : p.1.shape.Idx, p.2 x = nat16 X (p.1.emb x) := by
  unfold p16
  simp only [List.take_succ_cons, List.take_zero]
  refine List.forall_mem_cons.2 ⟨fun x => piece16 X 1 15 128 (by decide) (by decide) _ _ _ x, List.forall_mem_cons.2 ⟨fun x => piece16 X 0 15 0 (by decide) (by decide) _ _ _ x, List.forall_mem_cons.2 ⟨fun x => piece16 X 1 14 128 (by decide) (by decide) _ _ _ x, List.forall_mem_cons.2 ⟨fun x => piece16 X 0 14 0 (by decide) (by decide) _ _ _ x, List.forall_mem_cons.2 ⟨fun x => piece16 X 1 13 128 (by decide) (by decide) _ _ _ x, List.forall_mem_cons.2 ⟨fun x => piece16 X 0 13 0 (by decide) (by decide) _ _ _ x, List.forall_mem_cons.2 ⟨fun x => piece16 X 1 12 128 (by decide) (by decide) _ _ _ x, List.forall_mem_cons.2 ⟨fun x => piece16 X 0 12 0 (by decide) (by decide) _ _ _ x, List.forall_mem_cons.2 ⟨fun x => piece16 X 1 11 128 (by decide) (by decide) _ _ _ x, List.forall_mem_cons.2 ⟨fun x => piece16 X 0 11 0 (by decide) (by decide) _ _ _ x, List.forall_mem_cons.2 ⟨fun x => piece16 X 1 10 128 (by decide) (by decide) _ _ _ x, List.forall_mem_cons.2 ⟨fun x => piece16 X 0 10 0 (by decide) (by decide) _ _ _ x, List.forall_mem_cons.2 ⟨fun x => piece16 X 1 9 128 (by decide) (by decide) _ _ _ x, List.forall_mem_cons.2 ⟨fun x => piece16 X 0 9 0 (by decide) (by decide) _ _ _ x, List.forall_mem_cons.2 ⟨fun x => piece16 X 1 8 128 (by decide) (by decide) _ _ _ x, List.forall_mem_cons.2 ⟨fun x => piece16 X 0 8 0 (by decide) (by decide) _ _ _ x, List.forall_mem_cons.2 ⟨fun x => piece16 X 1 7 128 (by decide) (by decide) _ _ _ x, List.forall_mem_cons.2 ⟨fun x => piece16 X 0 7 0 (by decide) (by decide) _ _ _ x, List.forall_mem_cons.2 ⟨fun x => piece16 X 1 6 128 (by decide) (by decide) _ _ _ x, List.forall_mem_cons.2 ⟨fun x => piece16 X 0 6 0 (by decide) (by decide) _ _ _ x, List.forall_mem_cons.2 ⟨fun x => piece16 X 1 5 128 (by decide) (by decide) _ _ _ x, List.forall_mem_cons.2 ⟨fun x => piece16 X 0 5 0 (by decide) (by decide) _ _ _ x, List.forall_mem_cons.2 ⟨fun x => piece16 X 1 4 128 (by decide) (by decide) _ _ _ x, List.forall_mem_cons.2 ⟨fun x => piece16 X 0 4 0 (by decide) (by decide) _ _ _ x, List.forall_mem_cons.2 ⟨fun x => piece16 X 1 3 128 (by decide) (by decide) _ _ _ x, List.forall_mem_cons.2 ⟨fun x => piece16 X 0 3 0 (by decide) (by decide) _ _ _ x, List.forall_mem_cons.2 ⟨fun x => piece16 X 1 2 128 (by decide) (by decide) _ _ _ x, List.forall_mem_cons.2 ⟨fun x => piece16 X 0 2 0 (by decide) (by decide) _ _ _ x, List.forall_mem_cons.2 ⟨fun x => piece16 X 1 1 128 (by decide) (by decide) _ _ _ x, List.forall_mem_cons.2 ⟨fun x => piece16 X 0 1 0 (by decide) (by decide) _ _ _ x, List.forall_mem_cons.2 ⟨fun x => piece16 X 1 0 128 (by decide) (by decide) _ _ _ x, List.forall_mem_cons.2 ⟨fun x => piece16 X 0 0 0 (by decide) (by decide) _ _ _ x, fun p hp => absurd hp List.not_mem_nil⟩⟩⟩⟩⟩⟩⟩⟩⟩⟩⟩⟩⟩⟩⟩⟩⟩⟩⟩⟩⟩⟩⟩⟩⟩⟩⟩⟩⟩⟩⟩⟩

theorem p16_cover (X : FVec Ideal S1x16x32x256 .f32) (L : List (View.Piece (Elt Ideal) S2x512x128 .f32)) (y : S2x512x128.Idx) :
    ∀ (j : Fin 2) (r : Fin 16), (y 0).val = j.val → (y 1).val % 16 = r.val → ∃ p ∈ (p16 X L).take 32, y ∈ p.1.set := by
  unfold p16
  simp only [List.take_succ_cons, List.take_zero]
  intro j r
  match j, r with
  | ⟨0, _⟩, ⟨0, _⟩ => exact fun h0 h1 => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))), mem16 0 0 _ _ y h0 h1⟩
  | ⟨0, _⟩, ⟨1, _⟩ => exact fun h0 h1 => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))), mem16 0 1 _ _ y h0 h1⟩
  | ⟨0, _⟩, ⟨2, _⟩ => exact fun h0 h1 => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))), mem16 0 2 _ _ y h0 h1⟩
  | ⟨0, _⟩, ⟨3, _⟩ => exact fun h0 h1 => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))), mem16 0 3 _ _ y h0 h1⟩
  | ⟨0, _⟩, ⟨4, _⟩ => exact fun h0 h1 => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))), mem16 0 4 _ _ y h0 h1⟩
  | ⟨0, _⟩, ⟨5, _⟩ => exact fun h0 h1 => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))), mem16 0 5 _ _ y h0 h1⟩
  | ⟨0, _⟩, ⟨6, _⟩ => exact fun h0 h1 => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))), mem16 0 6 _ _ y h0 h1⟩
  | ⟨0, _⟩, ⟨7, _⟩ => exact fun h0 h1 => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))), mem16 0 7 _ _ y h0 h1⟩
  | ⟨0, _⟩, ⟨8, _⟩ => exact fun h0 h1 => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), mem16 0 8 _ _ y h0 h1⟩
  | ⟨0, _⟩, ⟨9, _⟩ => exact fun h0 h1 => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), mem16 0 9 _ _ y h0 h1⟩
  | ⟨0, _⟩, ⟨10, _⟩ => exact fun h0 h1 => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), mem16 0 10 _ _ y h0 h1⟩
  | ⟨0, _⟩, ⟨11, _⟩ => exact fun h0 h1 => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), mem16 0 11 _ _ y h0 h1⟩
  | ⟨0, _⟩, ⟨12, _⟩ => exact fun h0 h1 => ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem16 0 12 _ _ y h0 h1⟩
  | ⟨0, _⟩, ⟨13, _⟩ => exact fun h0 h1 => ⟨_, (List.mem_cons_of_mem _ (List.mem_cons_of_mem _ (List.mem_cons_of_mem _ (List.mem_cons_of_mem _ (List.mem_cons_of_mem _ List.mem_cons_self))))), mem16 0 13 _ _ y h0 h1⟩
  | ⟨0, _⟩, ⟨14, _⟩ => exact fun h0 h1 => ⟨_, (List.mem_cons_of_mem _ (List.mem_cons_of_mem _ (List.mem_cons_of_mem _ List.mem_cons_self))), mem16 0 14 _ _ y h0 h1⟩
  | ⟨0, _⟩, ⟨15, _⟩ => exact fun h0 h1 => ⟨_, (List.mem_cons_of_mem _ List.mem_cons_self), mem16 0 15 _ _ y h0 h1⟩
  | ⟨1, _⟩, ⟨0, _⟩ => exact fun h0 h1 => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))), mem16 1 0 _ _ y h0 h1⟩
  | ⟨1, _⟩, ⟨1, _⟩ => exact fun h0 h1 => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))), mem16 1 1 _ _ y h0 h1⟩
  | ⟨1, _⟩, ⟨2, _⟩ => exact fun h0 h1 => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))), mem16 1 2 _ _ y h0 h1⟩
  | ⟨1, _⟩, ⟨3, _⟩ => exact fun h0 h1 => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))), mem16 1 3 _ _ y h0 h1⟩
  | ⟨1, _⟩, ⟨4, _⟩ => exact fun h0 h1 => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))), mem16 1 4 _ _ y h0 h1⟩
  | ⟨1, _⟩, ⟨5, _⟩ => exact fun h0 h1 => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))), mem16 1 5 _ _ y h0 h1⟩
  | ⟨1, _⟩, ⟨6, _⟩ => exact fun h0 h1 => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))), mem16 1 6 _ _ y h0 h1⟩
  | ⟨1, _⟩, ⟨7, _⟩ => exact fun h0 h1 => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))), mem16 1 7 _ _ y h0 h1⟩
  | ⟨1, _⟩, ⟨8, _⟩ => exact fun h0 h1 => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), mem16 1 8 _ _ y h0 h1⟩
  | ⟨1, _⟩, ⟨9, _⟩ => exact fun h0 h1 => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), mem16 1 9 _ _ y h0 h1⟩
  | ⟨1, _⟩, ⟨10, _⟩ => exact fun h0 h1 => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), mem16 1 10 _ _ y h0 h1⟩
  | ⟨1, _⟩, ⟨11, _⟩ => exact fun h0 h1 => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), mem16 1 11 _ _ y h0 h1⟩
  | ⟨1, _⟩, ⟨12, _⟩ => exact fun h0 h1 => ⟨_, (List.mem_cons_of_mem _ (List.mem_cons_of_mem _ (List.mem_cons_of_mem _ (List.mem_cons_of_mem _ (List.mem_cons_of_mem _ (List.mem_cons_of_mem _ List.mem_cons_self)))))), mem16 1 12 _ _ y h0 h1⟩
  | ⟨1, _⟩, ⟨13, _⟩ => exact fun h0 h1 => ⟨_, (List.mem_cons_of_mem _ (List.mem_cons_of_mem _ (List.mem_cons_of_mem _ (List.mem_cons_of_mem _ List.mem_cons_self)))), mem16 1 13 _ _ y h0 h1⟩
  | ⟨1, _⟩, ⟨14, _⟩ => exact fun h0 h1 => ⟨_, (List.mem_cons_of_mem _ (List.mem_cons_of_mem _ List.mem_cons_self)), mem16 1 14 _ _ y h0 h1⟩
  | ⟨1, _⟩, ⟨15, _⟩ => exact fun h0 h1 => ⟨_, List.mem_cons_self, mem16 1 15 _ _ y h0 h1⟩
  | ⟨0, _⟩, ⟨k + 16, h⟩ => exact absurd h (by omega)
  | ⟨1, _⟩, ⟨k + 16, h⟩ => exact absurd h (by omega)

/-- Lane chunk `j` read back is the group in natural order. -/
theorem p16_read (X : FVec Ideal S1x16x32x256 .f32) (L : List (View.Piece (Elt Ideal) S2x512x128 .f32)) (j : Fin 2)
    (i : ∀ a, (![j.val, 0, 0] : Fin 3 → ℕ) a + (![1, 512, 128] : Fin 3 → ℕ) a ≤ S2x512x128.size a) (r : Fin 512) (q : Fin 128) :
    ((View.whole cc0_scratch0).readCov (Val := Elt Ideal) (p16 X L) (Rect.unit (s := S2x512x128) ![j.val, 0, 0] ![1, 512, 128] i).toLoadRect : FVec Ideal S1x512x128 .f32) (ix3 0 r q)
    = nat16 X (ix3 j r q) := by
  rw [View.readCov_eq_canon']
  have e : (Rect.unit (s := S2x512x128) ![j.val, 0, 0] ![1, 512, 128] i).toLoadRect.idx (ix3 0 r q) = ix3 j r q := by
    funext a
    match a with
    | ⟨0, _⟩ => exact Fin.ext (show j.val + 1 * 0 = j.val by omega)
    | ⟨1, _⟩ => exact Fin.ext (show 0 + 1 * r.val = r.val by omega)
    | ⟨2, _⟩ => exact Fin.ext (show 0 + 1 * q.val = q.val by omega)
  refine (congrArg _ e).trans ?_
  exact canon_take (nat16 X) 32 (p16 X L) (p16_agree X L) _ (p16_cover X L _ j ⟨r.val % 16, by omega⟩ rfl rfl)

end Cert.MergeIdeal.Value

end
-- ==== Proof.MergeIdeal.Block.lean ====
module

public import proofs.«01_k».proof.Proof.Gen.MergeIdeal.Value
public import proofs.«01_k».proof.Proof.MergeIdeal.Nat

/-! What one grid point of the merge computes, at one element of its block. -/

@[expose] public section

set_option maxRecDepth 16384

noncomputable section

namespace Cert.MergeIdeal.Value

open Cert.MergeIdeal Cert.MergeIdeal.Gen Idealize.ShloMosaic Idealize.ShloMosaic.TcCoe Idealize.SL.Sem
open Idealize.ShloMosaic.Pipeline (Dat)
open Cert.MergeIdeal.Ref (mix)

/-- Lane chunk `j` of the scratch after the writes `L`. -/
def rd (L : List (View.Piece (Elt Ideal) S2x512x128 .f32)) (j : ℕ)
    (i : ∀ a, (![j, 0, 0] : Fin 3 → ℕ) a + (![1, 512, 128] : Fin 3 → ℕ) a ≤ S2x512x128.size a) : FVec Ideal S1x512x128 .f32 :=
  (View.whole cc0_scratch0).readCov (Val := Elt Ideal) L (Rect.unit (s := S2x512x128) ![j, 0, 0] ![1, 512, 128] i).toLoadRect

/-- The dilated branch's rows. -/
def dilK (x4 x5 : FVec Ideal S1x1x512x256 .f32) (x6 x7 : FVec Ideal S1x4x128x256 .f32) (x8 x9 : FVec Ideal S1x16x32x256 .f32) : FVec Ideal S512x256 .bf16 :=
  k0_pay105 (F := Ideal)
    (k0_pay67
      (k0_pay56 (k0_pay4 x5) (k0_pay14 (rd (p4 x7 []) 0 (by decide)) (rd (p4 x7 []) 1 (by decide)))
        (rd (p16 x9 (p4 x7 [])) 0 (by decide)) (rd (p16 x9 (p4 x7 [])) 1 (by decide)) x4)
      (k0_pay57 (k0_pay4 x5) (k0_pay14 (rd (p4 x7 []) 0 (by decide)) (rd (p4 x7 []) 1 (by decide)))
        (rd (p16 x9 (p4 x7 [])) 0 (by decide)) (rd (p16 x9 (p4 x7 [])) 1 (by decide)))
      (rd (p4 x6 (p16 x9 (p4 x7 []))) 0 (by decide)) (rd (p4 x6 (p16 x9 (p4 x7 []))) 1 (by decide)))
    (k0_pay68
      (k0_pay54 (k0_pay4 x5) (k0_pay14 (rd (p4 x7 []) 0 (by decide)) (rd (p4 x7 []) 1 (by decide)))
        (rd (p16 x9 (p4 x7 [])) 0 (by decide)) (rd (p16 x9 (p4 x7 [])) 1 (by decide)))
      (k0_pay55 (k0_pay4 x5) (k0_pay14 (rd (p4 x7 []) 0 (by decide)) (rd (p4 x7 []) 1 (by decide)))
        (rd (p16 x9 (p4 x7 [])) 0 (by decide)) (rd (p16 x9 (p4 x7 [])) 1 (by decide))))
    (k0_pay104 (rd (p16 x8 (p4 x6 (p16 x9 (p4 x7 [])))) 0 (by decide)))
    (rd (p16 x8 (p4 x6 (p16 x9 (p4 x7 [])))) 1 (by decide))

theorem dilK_apply (x4 x5 : FVec Ideal S1x1x512x256 .f32) (x6 x7 : FVec Ideal S1x4x128x256 .f32) (x8 x9 : FVec Ideal S1x16x32x256 .f32)
    (r : Fin 512) (c : Fin 256) :
    dilK x4 x5 x6 x7 x8 x9 (ix2 r c)
    = mix (x5 (ix4 0 0 r c)) (side (nat4 x7) r c) (side (nat16 x9) r c) (x4 (ix4 0 0 r c)) (side (nat4 x6) r c) (side (nat16 x8) r c) :=
  mix_apply x5 x4 _ _ _ _ _ _ _ _ (nat4 x7) (nat16 x9) (nat4 x6) (nat16 x8)
    (p4_read x7 _ 0 _) (p4_read x7 _ 1 _) (p16_read x9 _ 0 _) (p16_read x9 _ 1 _)
    (p4_read x6 _ 0 _) (p4_read x6 _ 1 _) (p16_read x8 _ 0 _) (p16_read x8 _ 1 _) r c

/-- The first branch's row tiles side by side. -/
def nsaK (x3 : FVec Ideal S1x4x512x128 .bf16) : FVec Ideal S512x512 .bf16 :=
  k0_pay106 (F := Ideal) (View.ld (Val := Elt Ideal) (e' := .bf16) x3 (Rect.unit ![0, 0, 0, 0] ![1, 1, 512, 128] (by decide)))
    (View.ld (Val := Elt Ideal) (e' := .bf16) x3 (Rect.unit ![0, 1, 0, 0] ![1, 1, 512, 128] (by decide)))
    (View.ld (Val := Elt Ideal) (e' := .bf16) x3 (Rect.unit ![0, 2, 0, 0] ![1, 1, 512, 128] (by decide)))
    (View.ld (Val := Elt Ideal) (e' := .bf16) x3 (Rect.unit ![0, 3, 0, 0] ![1, 1, 512, 128] (by decide)))

theorem tile_ld (x3 : FVec Ideal S1x4x512x128 .bf16) (k : Fin 4)
    (i : ∀ a, (![0, k.val, 0, 0] : Fin 4 → ℕ) a + (![1, 1, 512, 128] : Fin 4 → ℕ) a ≤ S1x4x512x128.size a) (q : Fin 512) (r : Fin 128) :
    (View.ld (Val := Elt Ideal) (e' := .bf16) x3 (Rect.unit ![0, k.val, 0, 0] ![1, 1, 512, 128] i) : FVec Ideal S1x1x512x128 .bf16) (ix4 0 0 q r)
    = x3 (ix4 0 k q r) := by
  refine View.ld_unit_apply_of (Val := Elt Ideal) (e := .bf16) x3 _ _ i _ _ (fun a => ?_)
  match a with
  | ⟨0, _⟩ => show 0 = 0 + 0; omega
  | ⟨1, _⟩ => show k.val = k.val + 0; omega
  | ⟨2, _⟩ => show q.val = 0 + q.val; omega
  | ⟨3, _⟩ => show r.val = 0 + r.val; omega

theorem nsaK_apply (x3 : FVec Ideal S1x4x512x128 .bf16) (q s : Fin 512) :
    nsaK x3 (ix2 q s) = x3 (ix4 0 ⟨s.val / 128, by omega⟩ q ⟨s.val % 128, by omega⟩) :=
  tiles_apply x3 _ _ _ _ (tile_ld x3 0 _) (tile_ld x3 1 _) (tile_ld x3 2 _) (tile_ld x3 3 _) q s

/-- The writes of the merged rows, four column tiles. -/
def mp (h : FVec Ideal S512x1024 .bf16) (d : FVec Ideal S512x256 .bf16) (Y : FVec Ideal S512x512 .bf16)
    (x2 : FVec Ideal S1024x2048 .bf16) (x10 : FVec Ideal S512x1024 .bf16) (x11 : FVec Ideal S256x1024 .bf16) :
    List (View.Piece (Elt Ideal) S512x1024 .bf16) :=
  [⟨Rect.unit ![0, 768] ![512, 256] (by decide), k0_pay118 (F := Ideal) (k0_pay117 h d Y (View.ld (Val := Elt Ideal) (e' := .bf16) x2 (Rect.unit ![0, 768] ![1024, 256] (by decide))) (View.ld (Val := Elt Ideal) (e' := .bf16) x2 (Rect.unit ![0, 1792] ![1024, 256] (by decide))) (View.ld (Val := Elt Ideal) (e' := .bf16) x10 (Rect.unit ![0, 768] ![512, 256] (by decide))) (View.ld (Val := Elt Ideal) (e' := .bf16) x11 (Rect.unit ![0, 768] ![256, 256] (by decide))))⟩,
   ⟨Rect.unit ![0, 512] ![512, 256] (by decide), k0_pay116 (F := Ideal) d (k0_pay114 h (View.ld (Val := Elt Ideal) (e' := .bf16) x2 (Rect.unit ![0, 1536] ![1024, 256] (by decide)))) (k0_pay115 h Y (View.ld (Val := Elt Ideal) (e' := .bf16) x2 (Rect.unit ![0, 512] ![1024, 256] (by decide))) (View.ld (Val := Elt Ideal) (e' := .bf16) x10 (Rect.unit ![0, 512] ![512, 256] (by decide)))) (View.ld (Val := Elt Ideal) (e' := .bf16) x11 (Rect.unit ![0, 512] ![256, 256] (by decide)))⟩,
   ⟨Rect.unit ![0, 256] ![512, 256] (by decide), k0_pay113 (F := Ideal) d Y (k0_pay110 h (View.ld (Val := Elt Ideal) (e' := .bf16) x2 (Rect.unit ![0, 256] ![1024, 256] (by decide)))) (k0_pay111 h (View.ld (Val := Elt Ideal) (e' := .bf16) x2 (Rect.unit ![0, 1280] ![1024, 256] (by decide)))) (k0_pay112 (View.ld (Val := Elt Ideal) (e' := .bf16) x10 (Rect.unit ![0, 256] ![512, 256] (by decide)))) (View.ld (Val := Elt Ideal) (e' := .bf16) x11 (Rect.unit ![0, 256] ![256, 256] (by decide)))⟩,
   ⟨Rect.unit ![0, 0] ![512, 256] (by decide), k0_pay109 (F := Ideal) d Y (k0_pay107 h (View.ld (Val := Elt Ideal) (e' := .bf16) x2 (Rect.unit ![0, 0] ![1024, 256] (by decide)))) (k0_pay108 h (View.ld (Val := Elt Ideal) (e' := .bf16) x2 (Rect.unit ![0, 1024] ![1024, 256] (by decide)))) (Scalar.ofBits .f32 0x3F000000#32) (View.ld (Val := Elt Ideal) (e' := .bf16) x10 (Rect.unit ![0, 0] ![512, 256] (by decide))) (View.ld (Val := Elt Ideal) (e' := .bf16) x11 (Rect.unit ![0, 0] ![256, 256] (by decide)))⟩]

/-- The merged rows, read back. -/
def merged (h : FVec Ideal S512x1024 .bf16) (d : FVec Ideal S512x256 .bf16) (Y : FVec Ideal S512x512 .bf16)
    (x2 : FVec Ideal S1024x2048 .bf16) (x10 : FVec Ideal S512x1024 .bf16) (x11 : FVec Ideal S256x1024 .bf16) : FVec Ideal S512x1024 .bf16 :=
  (View.whole cc0_scratch1).readCov (Val := Elt Ideal) (mp h d Y x2 x10 x11) (Rect.unit (s := S512x1024) ![0, 0] ![512, 1024] (by decide)).toLoadRect

/-- The block that a point stores. -/
def out (x0 : FVec Ideal S1x512x1024 .f32) (x1 : FVec Ideal S1x1024 .f32) (x2 : FVec Ideal S1024x2048 .bf16) (x3 : FVec Ideal S1x4x512x128 .bf16)
  (x4 x5 : FVec Ideal S1x1x512x256 .f32) (x6 x7 : FVec Ideal S1x4x128x256 .f32) (x8 x9 : FVec Ideal S1x16x32x256 .f32)
  (x10 : FVec Ideal S512x1024 .bf16) (x11 : FVec Ideal S256x1024 .bf16) (x12 : FVec Ideal S1024x1024 .bf16) (x13 : FVec Ideal S1x1024 .f32) : FVec Ideal S1x512x1024 .f32 :=
  k0_pay1 (F := Ideal) (k0_pay119 (k0_pay2 x0) (merged (k0_pay3 x0 x1) (dilK x4 x5 x6 x7 x8 x9) (nsaK x3) x2 x10 x11) x12 x13)

/-- A merged element over the whole operands. -/
def mrgK (h : FVec Ideal S512x1024 .bf16) (d : FVec Ideal S512x256 .bf16) (Y : FVec Ideal S512x512 .bf16)
    (x2 : FVec Ideal S1024x2048 .bf16) (x10 : FVec Ideal S512x1024 .bf16) (x11 : FVec Ideal S256x1024 .bf16) (r : Fin 512) (c : Fin 1024) : EReal :=
  Ref.sig (∑ q : Fin 1024, h (ix2 r q) * x2 (ix2 q ⟨c.val, by omega⟩)) * (∑ q : Fin 512, Y (ix2 q r) * x10 (ix2 q c))
  + Ref.sig (∑ q : Fin 1024, h (ix2 r q) * x2 (ix2 q ⟨1024 + c.val, by omega⟩)) * (∑ q : Fin 256, d (ix2 r q) * x11 (ix2 q c))

section
variable (h : FVec Ideal S512x1024 .bf16) (d : FVec Ideal S512x256 .bf16) (Y : FVec Ideal S512x512 .bf16)
    (x2 : FVec Ideal S1024x2048 .bf16) (x10 : FVec Ideal S512x1024 .bf16) (x11 : FVec Ideal S256x1024 .bf16)

/-- A column tile over its operands' columns. -/
theorem chunk_ld (o p : ℕ) (ho : o + 256 ≤ 1024) (hp : p = 1024 + o)
    (i1 : ∀ a, (![0, o] : Fin 2 → ℕ) a + (![1024, 256] : Fin 2 → ℕ) a ≤ S1024x2048.size a)
    (i2 : ∀ a, (![0, p] : Fin 2 → ℕ) a + (![1024, 256] : Fin 2 → ℕ) a ≤ S1024x2048.size a)
    (i3 : ∀ a, (![0, o] : Fin 2 → ℕ) a + (![512, 256] : Fin 2 → ℕ) a ≤ S512x1024.size a)
    (i4 : ∀ a, (![0, o] : Fin 2 → ℕ) a + (![256, 256] : Fin 2 → ℕ) a ≤ S256x1024.size a)
    (i5 : ∀ a, (![0, o] : Fin 2 → ℕ) a + (![512, 256] : Fin 2 → ℕ) a ≤ S512x1024.size a)
    (x : S512x256.Idx) :
    chunk h d Y (View.ld (Val := Elt Ideal) (e' := .bf16) x2 (Rect.unit ![0, o] ![1024, 256] i1))
      (View.ld (Val := Elt Ideal) (e' := .bf16) x2 (Rect.unit ![0, p] ![1024, 256] i2))
      (View.ld (Val := Elt Ideal) (e' := .bf16) x10 (Rect.unit ![0, o] ![512, 256] i3))
      (View.ld (Val := Elt Ideal) (e' := .bf16) x11 (Rect.unit ![0, o] ![256, 256] i4)) x
    = (fun y : S512x1024.Idx => mrgK h d Y x2 x10 x11 (y 0) (y 1)) ((Rect.unit (s := S512x1024) ![0, o] ![512, 256] i5).emb x) := by
  have x0 : (x 0).val < 512 := (x 0).isLt
  have x1 : (x 1).val < 256 := (x 1).isLt
  have e0 : (Rect.unit (s := S512x1024) ![0, o] ![512, 256] i5).emb x 0 = x 0 := Fin.ext (show 0 + 1 * (x 0).val = (x 0).val by omega)
  have e1 : (Rect.unit (s := S512x1024) ![0, o] ![512, 256] i5).emb x 1 = ⟨o + (x 1).val, show o + (x 1).val < 1024 by omega⟩ :=
    Fin.ext (show o + 1 * (x 1).val = o + (x 1).val by omega)
  show _ = mrgK h d Y x2 x10 x11 ((Rect.unit (s := S512x1024) ![0, o] ![512, 256] i5).emb x 0) ((Rect.unit (s := S512x1024) ![0, o] ![512, 256] i5).emb x 1)
  rw [e0, e1]
  unfold chunk mrgK
  rw [sigK_eq, sigK_eq]
  congr 1
  · congr 1
    · refine congrArg Ref.sig (Finset.sum_congr rfl fun q _ => congrArg (h (ix2 (x 0) q) * ·) ?_)
      refine View.ld_unit_apply_of (Val := Elt Ideal) (e := .bf16) x2 _ _ i1 _ _ (fun a => ?_)
      match a with
      | ⟨0, _⟩ => show q.val = 0 + q.val; omega
      | ⟨1, _⟩ => show o + (x 1).val = o + (x 1).val; omega
    · refine Finset.sum_congr rfl fun q _ => congrArg (Y (ix2 q (x 0)) * ·) ?_
      refine View.ld_unit_apply_of (Val := Elt Ideal) (e := .bf16) x10 _ _ i3 _ _ (fun a => ?_)
      match a with
      | ⟨0, _⟩ => show q.val = 0 + q.val; omega
      | ⟨1, _⟩ => show o + (x 1).val = o + (x 1).val; omega
  · congr 1
    · refine congrArg Ref.sig (Finset.sum_congr rfl fun q _ => congrArg (h (ix2 (x 0) q) * ·) ?_)
      refine View.ld_unit_apply_of (Val := Elt Ideal) (e := .bf16) x2 _ _ i2 _ _ (fun a => ?_)
      match a with
      | ⟨0, _⟩ => show q.val = 0 + q.val; omega
      | ⟨1, _⟩ => show 1024 + (o + (x 1).val) = p + (x 1).val; omega
    · refine Finset.sum_congr rfl fun q _ => congrArg (d (ix2 (x 0) q) * ·) ?_
      refine View.ld_unit_apply_of (Val := Elt Ideal) (e := .bf16) x11 _ _ i4 _ _ (fun a => ?_)
      match a with
      | ⟨0, _⟩ => show q.val = 0 + q.val; omega
      | ⟨1, _⟩ => show o + (x 1).val = o + (x 1).val; omega

theorem mp_agree : ∀ p ∈ mp h d Y x2 x10 x11, ∀ x : p.1.shape.Idx,
    p.2 x = (fun y : S512x1024.Idx => mrgK h d Y x2 x10 x11 (y 0) (y 1)) (p.1.emb x) := by
  unfold mp
  exact List.forall_mem_cons.2 ⟨fun x => (chunk3_apply h d Y _ _ _ _ x).trans (chunk_ld h d Y x2 x10 x11 768 1792 (by decide) (by decide) _ _ _ _ (by decide) x),
    List.forall_mem_cons.2 ⟨fun x => (chunk2_apply h d Y _ _ _ _ x).trans (chunk_ld h d Y x2 x10 x11 512 1536 (by decide) (by decide) _ _ _ _ (by decide) x),
    List.forall_mem_cons.2 ⟨fun x => (chunk1_apply h d Y _ _ _ _ x).trans (chunk_ld h d Y x2 x10 x11 256 1280 (by decide) (by decide) _ _ _ _ (by decide) x),
    List.forall_mem_cons.2 ⟨fun x => (chunk0_apply h d Y _ _ _ _ x).trans (chunk_ld h d Y x2 x10 x11 0 1024 (by decide) (by decide) _ _ _ _ (by decide) x),
    fun p hp => absurd hp List.not_mem_nil⟩⟩⟩⟩

/-- Every element of the merged rows lies in its column tile. -/
theorem mem_tile (o : ℕ) (i : ∀ a, (![0, o] : Fin 2 → ℕ) a + (![512, 256] : Fin 2 → ℕ) a ≤ S512x1024.size a) (y : S512x1024.Idx)
    (h1 : o ≤ (y 1).val) (h2 : (y 1).val < o + 256) : y ∈ (Rect.unit (s := S512x1024) ![0, o] ![512, 256] i).set := by
  have y0 : (y 0).val < 512 := (y 0).isLt
  rw [LoadRect.mem_set]
  intro a
  match a with
  | ⟨0, _⟩ => exact ⟨(y 0).val, y0, show (y 0).val = 0 + 1 * (y 0).val by omega⟩
  | ⟨1, _⟩ => exact ⟨(y 1).val - o, show (y 1).val - o < 256 by omega, show (y 1).val = o + 1 * ((y 1).val - o) by omega⟩

theorem mp_cover (y : S512x1024.Idx) : ∃ p ∈ mp h d Y x2 x10 x11, y ∈ p.1.set := by
  have y1 : (y 1).val < 1024 := (y 1).isLt
  unfold mp
  rcases Nat.lt_or_ge (y 1).val 256 with h1 | h1
  · exact ⟨_, List.mem_cons_of_mem _ (List.mem_cons_of_mem _ (List.mem_cons_of_mem _ List.mem_cons_self)), mem_tile 0 (by decide) y (by omega) (by omega)⟩
  rcases Nat.lt_or_ge (y 1).val 512 with h2 | h2
  · exact ⟨_, List.mem_cons_of_mem _ (List.mem_cons_of_mem _ List.mem_cons_self), mem_tile 256 (by decide) y (by omega) (by omega)⟩
  rcases Nat.lt_or_ge (y 1).val 768 with h3 | h3
  · exact ⟨_, List.mem_cons_of_mem _ List.mem_cons_self, mem_tile 512 (by decide) y (by omega) (by omega)⟩
  · exact ⟨_, List.mem_cons_self, mem_tile 768 (by decide) y (by omega) (by omega)⟩

theorem merged_apply (r : Fin 512) (c : Fin 1024) :
    merged h d Y x2 x10 x11 (ix2 r c) = mrgK h d Y x2 x10 x11 r c := by
  unfold merged
  rw [View.readCov_eq_canon']
  have e : (Rect.unit (s := S512x1024) ![0, 0] ![512, 1024] (by decide)).toLoadRect.idx (ix2 r c) = ix2 r c := by
    funext a
    match a with
    | ⟨0, _⟩ => exact Fin.ext (show 0 + 1 * r.val = r.val by omega)
    | ⟨1, _⟩ => exact Fin.ext (show 0 + 1 * c.val = c.val by omega)
  refine (congrArg _ e).trans ?_
  exact View.canon_apply_of_pieces (fun y : S512x1024.Idx => mrgK h d Y x2 x10 x11 (y 0) (y 1)) _ (mp_agree h d Y x2 x10 x11) _
    (mp_cover h d Y x2 x10 x11 _)

end

theorem out_apply (x0 : FVec Ideal S1x512x1024 .f32) (x1 : FVec Ideal S1x1024 .f32) (x2 : FVec Ideal S1024x2048 .bf16) (x3 : FVec Ideal S1x4x512x128 .bf16)
  (x4 x5 : FVec Ideal S1x1x512x256 .f32) (x6 x7 : FVec Ideal S1x4x128x256 .f32) (x8 x9 : FVec Ideal S1x16x32x256 .f32)
  (x10 : FVec Ideal S512x1024 .bf16) (x11 : FVec Ideal S256x1024 .bf16) (x12 : FVec Ideal S1024x1024 .bf16) (x13 : FVec Ideal S1x1024 .f32) (r : Fin 512) (c : Fin 1024) :
    out x0 x1 x2 x3 x4 x5 x6 x7 x8 x9 x10 x11 x12 x13 (ix3 0 r c)
    = x0 (ix3 0 r c) + Ref.nrm (fun k => ∑ p : Fin 1024,
        mrgK (k0_pay3 (F := Ideal) x0 x1) (dilK x4 x5 x6 x7 x8 x9) (nsaK x3) x2 x10 x11 r p * x12 (ix2 p k)) (x13 (ix2 0 c)) c := by
  have e1 : ∀ v : FVec Ideal S512x1024 .f32, k0_pay1 (F := Ideal) v (ix3 0 r c) = v (ix2 r c) := by
    intro v
    pointwise [k0_pay1]
  have e2 : k0_pay2 (F := Ideal) x0 (ix2 r c) = x0 (ix3 0 r c) := by
    pointwise [k0_pay2]
  unfold out
  rw [e1, last_apply, e2]
  simp only [merged_apply]

end Cert.MergeIdeal.Value

end
-- ==== Proof.MergeIdeal.Outs.lean ====
module

public import proofs.«01_k».proof.Proof.MergeIdeal.Block

/-! The block that the run leaves is the block of `Block.lean`: the scratch reads are named one by one, and each is compared by itself. -/

@[expose] public section

set_option maxRecDepth 16384

noncomputable section

namespace Cert.MergeIdeal.Value

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ)

set_option maxHeartbeats 1000000 in
theorem outs_eq (c : Dev nD) (t : Fin cfg0.N) : outsAt0 m c t
    = out (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) := by
  unfold outsAt0
  frame_out
  unfold out
  refine congrArg (k0_pay1 (F := Ideal)) ?_
  refine congrArg (fun M => k0_pay119 (F := Ideal) _ M _ _) ?_
  unfold merged mp
  refine congrArg (fun L => View.readCov (Val := Elt Ideal) _ L _) ?_
  generalize k0_pay3 (F := Ideal) _ _ = h
  generalize hd : k0_pay105 (F := Ideal) _ _ _ _ = d
  have e : d = dilK (iblk m c 4 t) (iblk m c 5 t) (iblk m c 6 t) (iblk m c 7 t) (iblk m c 8 t) (iblk m c 9 t) := by
    generalize h0 : View.readCov (Val := Elt Ideal) (View.whole cc0_scratch0) _ _ = a0 at hd
    generalize h1 : View.readCov (Val := Elt Ideal) (View.whole cc0_scratch0) _ _ = a1 at hd
    generalize h2 : View.readCov (Val := Elt Ideal) (View.whole cc0_scratch0) _ _ = a2 at hd
    generalize h3 : View.readCov (Val := Elt Ideal) (View.whole cc0_scratch0) _ _ = a3 at hd
    generalize h4 : View.readCov (Val := Elt Ideal) (View.whole cc0_scratch0) _ _ = a4 at hd
    generalize h5 : View.readCov (Val := Elt Ideal) (View.whole cc0_scratch0) _ _ = a5 at hd
    generalize h6 : View.readCov (Val := Elt Ideal) (View.whole cc0_scratch0) _ _ = a6 at hd
    generalize h7 : View.readCov (Val := Elt Ideal) (View.whole cc0_scratch0) _ _ = a7 at hd
    have e0 : a0 = rd (p4 (iblk m c 7 t) []) 0 (by decide) := by
      refine h0.symm.trans ?_
      unfold rd
      refine congrArg (fun L => View.readCov (Val := Elt Ideal) (View.whole cc0_scratch0) L _) ?_
      try simp only [Memref.IsWhole.read_unread]
      rfl
    have e1 : a1 = rd (p4 (iblk m c 7 t) []) 1 (by decide) := by
      refine h1.symm.trans ?_
      unfold rd
      refine congrArg (fun L => View.readCov (Val := Elt Ideal) (View.whole cc0_scratch0) L _) ?_
      try simp only [Memref.IsWhole.read_unread]
      rfl
    have e2 : a2 = rd (p16 (iblk m c 9 t) (p4 (iblk m c 7 t) [])) 0 (by decide) := by
      refine h2.symm.trans ?_
      unfold rd
      refine congrArg (fun L => View.readCov (Val := Elt Ideal) (View.whole cc0_scratch0) L _) ?_
      try simp only [Memref.IsWhole.read_unread]
      rfl
    have e3 : a3 = rd (p16 (iblk m c 9 t) (p4 (iblk m c 7 t) [])) 1 (by decide) := by
      refine h3.symm.trans ?_
      unfold rd
      refine congrArg (fun L => View.readCov (Val := Elt Ideal) (View.whole cc0_scratch0) L _) ?_
      try simp only [Memref.IsWhole.read_unread]
      rfl
    have e4 : a4 = rd (p4 (iblk m c 6 t) (p16 (iblk m c 9 t) (p4 (iblk m c 7 t) []))) 0 (by decide) := by
      refine h4.symm.trans ?_
      unfold rd
      refine congrArg (fun L => View.readCov (Val := Elt Ideal) (View.whole cc0_scratch0) L _) ?_
      try simp only [Memref.IsWhole.read_unread]
      rfl
    have e5 : a5 = rd (p4 (iblk m c 6 t) (p16 (iblk m c 9 t) (p4 (iblk m c 7 t) []))) 1 (by decide) := by
      refine h5.symm.trans ?_
      unfold rd
      refine congrArg (fun L => View.readCov (Val := Elt Ideal) (View.whole cc0_scratch0) L _) ?_
      try simp only [Memref.IsWhole.read_unread]
      rfl
    have e6 : a6 = rd (p16 (iblk m c 8 t) (p4 (iblk m c 6 t) (p16 (iblk m c 9 t) (p4 (iblk m c 7 t) [])))) 0 (by decide) := by
      refine h6.symm.trans ?_
      unfold rd
      refine congrArg (fun L => View.readCov (Val := Elt Ideal) (View.whole cc0_scratch0) L _) ?_
      try simp only [Memref.IsWhole.read_unread]
      rfl
    have e7 : a7 = rd (p16 (iblk m c 8 t) (p4 (iblk m c 6 t) (p16 (iblk m c 9 t) (p4 (iblk m c 7 t) [])))) 1 (by decide) := by
      refine h7.symm.trans ?_
      unfold rd
      refine congrArg (fun L => View.readCov (Val := Elt Ideal) (View.whole cc0_scratch0) L _) ?_
      try simp only [Memref.IsWhole.read_unread]
      rfl
    subst e0 e1 e2 e3 e4 e5 e6 e7
    exact hd.symm.trans rfl
  rw [e]
  rfl

end Cert.MergeIdeal.Value

end
-- ==== Proof.MergeIdeal.Reads.lean ====
module

public import proofs.«01_k».proof.Proof.Gen.MergeIdeal.Value
public import Idealize.ShloMosaic.Lib.Pipeline.ValueKit

/-! The merge's operands, block by block. -/

@[expose] public section

set_option maxRecDepth 16384

noncomputable section

namespace Cert.MergeIdeal.Value

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ)

/-- The windows' block indices. -/
theorem idx : ∀ t : Fin cfg0.N, (win0_0.index t = ![t.val / 16, t.val % 16, 0] ∧ win0_1.index t = ![0, 0] ∧ win0_2.index t = ![0, 0]
    ∧ win0_3.index t = ![t.val / 16, t.val % 16, 0, 0] ∧ win0_4.index t = ![t.val / 16, 0, t.val % 16, 0]
    ∧ win0_5.index t = ![t.val / 16, 0, t.val % 16, 0] ∧ win0_6.index t = ![t.val / 16, 0, t.val % 16, 0]
    ∧ win0_7.index t = ![t.val / 16, 0, t.val % 16, 0]) ∧ win0_8.index t = ![t.val / 16, 0, t.val % 16, 0]
    ∧ win0_9.index t = ![t.val / 16, 0, t.val % 16, 0] ∧ win0_10.index t = ![0, 0] ∧ win0_11.index t = ![0, 0]
    ∧ win0_12.index t = ![0, 0] ∧ win0_13.index t = ![0, 0] ∧ win0_14.index t = ![t.val / 16, t.val % 16, 0] ∧ t.val < 32 :=
  (by decide +kernel : ∀ t : Fin grid0.N, (win0_0.index t = ![t.val / 16, t.val % 16, 0] ∧ win0_1.index t = ![0, 0] ∧ win0_2.index t = ![0, 0]
    ∧ win0_3.index t = ![t.val / 16, t.val % 16, 0, 0] ∧ win0_4.index t = ![t.val / 16, 0, t.val % 16, 0]
    ∧ win0_5.index t = ![t.val / 16, 0, t.val % 16, 0] ∧ win0_6.index t = ![t.val / 16, 0, t.val % 16, 0]
    ∧ win0_7.index t = ![t.val / 16, 0, t.val % 16, 0]) ∧ win0_8.index t = ![t.val / 16, 0, t.val % 16, 0]
    ∧ win0_9.index t = ![t.val / 16, 0, t.val % 16, 0] ∧ win0_10.index t = ![0, 0] ∧ win0_11.index t = ![0, 0]
    ∧ win0_12.index t = ![0, 0] ∧ win0_13.index t = ![0, 0] ∧ win0_14.index t = ![t.val / 16, t.val % 16, 0] ∧ t.val < 32)

section
variable (c : Dev nD) (t : Fin cfg0.N) (b : Fin 2) (R : Fin 8192) (r : Fin 512)
  (hb : b.val = t.val / 16) (hR : R.val = t.val % 16 * 512 + r.val)
include hb hR

theorem read0 (q : Fin 1024) :
    (iblk m c 0 t : FVec Ideal S1x512x1024 .f32) (ix3 0 r q) = (m ((c : Thread nD τ).loc main_arg0) : FVec Ideal S2x8192x1024 .f32) (ix3 b R q) := by
  blk_ext [iblk, V, idx t]

theorem read3 (q : Fin 512) :
    (iblk m c 3 t : FVec Ideal S1x4x512x128 .bf16) (ix4 0 ⟨r.val / 128, by omega⟩ q ⟨r.val % 128, by omega⟩)
    = (m ((c : Thread nD τ).loc main_arg3) : FVec Ideal S2x64x512x128 .bf16) (ix4 b ⟨R.val / 128, by omega⟩ q ⟨R.val % 128, by omega⟩) := by
  blk_ext [iblk, V, idx t]

theorem read4 (q : Fin 256) :
    (iblk m c 4 t : FVec Ideal S1x1x512x256 .f32) (ix4 0 0 r q) = (m ((c : Thread nD τ).loc main_arg4) : FVec Ideal S2x1x8192x256 .f32) (ix4 b 0 R q) := by
  blk_ext [iblk, V, idx t]

theorem read5 (q : Fin 256) :
    (iblk m c 5 t : FVec Ideal S1x1x512x256 .f32) (ix4 0 0 r q) = (m ((c : Thread nD τ).loc main_arg5) : FVec Ideal S2x1x8192x256 .f32) (ix4 b 0 R q) := by
  blk_ext [iblk, V, idx t]

theorem read6 (q : Fin 256) :
    (iblk m c 6 t : FVec Ideal S1x4x128x256 .f32) (ix4 0 ⟨r.val % 4, by omega⟩ ⟨r.val / 4, by omega⟩ q)
    = (m ((c : Thread nD τ).loc main_arg6) : FVec Ideal S2x4x2048x256 .f32) (ix4 b ⟨R.val % 4, by omega⟩ ⟨R.val / 4, by omega⟩ q) := by
  blk_ext [iblk, V, idx t]

theorem read7 (q : Fin 256) :
    (iblk m c 7 t : FVec Ideal S1x4x128x256 .f32) (ix4 0 ⟨r.val % 4, by omega⟩ ⟨r.val / 4, by omega⟩ q)
    = (m ((c : Thread nD τ).loc main_arg7) : FVec Ideal S2x4x2048x256 .f32) (ix4 b ⟨R.val % 4, by omega⟩ ⟨R.val / 4, by omega⟩ q) := by
  blk_ext [iblk, V, idx t]

theorem read8 (q : Fin 256) :
    (iblk m c 8 t : FVec Ideal S1x16x32x256 .f32) (ix4 0 ⟨r.val % 16, by omega⟩ ⟨r.val / 16, by omega⟩ q)
    = (m ((c : Thread nD τ).loc main_arg8) : FVec Ideal S2x16x512x256 .f32) (ix4 b ⟨R.val % 16, by omega⟩ ⟨R.val / 16, by omega⟩ q) := by
  blk_ext [iblk, V, idx t]

theorem read9 (q : Fin 256) :
    (iblk m c 9 t : FVec Ideal S1x16x32x256 .f32) (ix4 0 ⟨r.val % 16, by omega⟩ ⟨r.val / 16, by omega⟩ q)
    = (m ((c : Thread nD τ).loc main_arg9) : FVec Ideal S2x16x512x256 .f32) (ix4 b ⟨R.val % 16, by omega⟩ ⟨R.val / 16, by omega⟩ q) := by
  blk_ext [iblk, V, idx t]

end

variable (c : Dev nD) (t : Fin cfg0.N)

theorem read1 (q : Fin 1024) :
    (iblk m c 1 t : FVec Ideal S1x1024 .f32) (ix2 0 q) = (m ((c : Thread nD τ).loc main_arg1) : FVec Ideal S1024 .f32) (ix1 q) := by
  blk_ext! [iblk, V, idx t]

theorem read2 :
    (iblk m c 2 t : FVec Ideal S1024x2048 .bf16) = (m ((c : Thread nD τ).loc main_arg2) : FVec Ideal S1024x2048 .f32) := by
  blk_ext! [iblk, V, idx t]

theorem read10 :
    (iblk m c 10 t : FVec Ideal S512x1024 .bf16) = (m ((c : Thread nD τ).loc main_arg10) : FVec Ideal S512x1024 .f32) := by
  blk_ext! [iblk, V, idx t]

theorem read11 :
    (iblk m c 11 t : FVec Ideal S256x1024 .bf16) = (m ((c : Thread nD τ).loc main_arg11) : FVec Ideal S256x1024 .f32) := by
  blk_ext! [iblk, V, idx t]

theorem read12 :
    (iblk m c 12 t : FVec Ideal S1024x1024 .bf16) = (m ((c : Thread nD τ).loc main_arg12) : FVec Ideal S1024x1024 .f32) := by
  blk_ext! [iblk, V, idx t]

theorem read13 (q : Fin 1024) :
    (iblk m c 13 t : FVec Ideal S1x1024 .f32) (ix2 0 q) = (m ((c : Thread nD τ).loc main_arg13) : FVec Ideal S1024 .f32) (ix1 q) := by
  blk_ext! [iblk, V, idx t]

end Cert.MergeIdeal.Value

end
-- ==== Proof.MergeIdeal.Value.lean ====
module

public import proofs.«01_k».proof.Proof.MergeIdeal.Outs
public import proofs.«01_k».proof.Proof.MergeIdeal.Reads

/-! The merge's result is its reference's, element by element. -/

@[expose] public section

set_option maxRecDepth 16384

noncomputable section

namespace Cert.MergeIdeal.Value

open Cert.MergeIdeal Cert.MergeIdeal.Gen Idealize.ShloMosaic Idealize.ShloMosaic.TcCoe Idealize.SL.Sem
open Idealize.ShloMosaic.Pipeline (Dat)
open Cert.MergeReferenceIdeal.Read

variable (m : (ℓ : Loc nD τ sig) → Buf (Elt Ideal) ℓ)

/-- The reference's result over the kernel's arguments. -/
abbrev REF (c : Dev nD) : FVec Ideal S2x8192x1024 .f32 :=
  val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

theorem side_nat4 (X : FVec Ideal S1x4x128x256 .f32) (r : Fin 512) (q : Fin 256) :
    side (nat4 X) r q = X (ix4 0 ⟨r.val % 4, by omega⟩ ⟨r.val / 4, by omega⟩ q) := by
  unfold side nat4
  have e : (⟨q.val / 128 * 128 + q.val % 128, by omega⟩ : Fin 256) = q := Fin.ext (show q.val / 128 * 128 + q.val % 128 = q.val by omega)
  exact congrArg (fun u => X (ix4 0 ⟨r.val % 4, by omega⟩ ⟨r.val / 4, by omega⟩ u)) e

theorem side_nat16 (X : FVec Ideal S1x16x32x256 .f32) (r : Fin 512) (q : Fin 256) :
    side (nat16 X) r q = X (ix4 0 ⟨r.val % 16, by omega⟩ ⟨r.val / 16, by omega⟩ q) := by
  unfold side nat16
  have e : (⟨q.val / 128 * 128 + q.val % 128, by omega⟩ : Fin 256) = q := Fin.ext (show q.val / 128 * 128 + q.val % 128 = q.val by omega)
  exact congrArg (fun u => X (ix4 0 ⟨r.val % 16, by omega⟩ ⟨r.val / 16, by omega⟩ u)) e

section
variable (c : Dev nD) (t : Fin cfg0.N) (b : Fin 2) (R : Fin 8192) (r : Fin 512)
  (hb : b.val = t.val / 16) (hR : R.val = t.val % 16 * 512 + r.val)
include hb hR

theorem dil_eq (q : Fin 256) :
    dilK (iblk m c 4 t) (iblk m c 5 t) (iblk m c 6 t) (iblk m c 7 t) (iblk m c 8 t) (iblk m c 9 t) (ix2 r q)
    = Ref.dil (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b R q := by
  refine (dilK_apply (iblk m c 4 t) (iblk m c 5 t) (iblk m c 6 t) (iblk m c 7 t) (iblk m c 8 t) (iblk m c 9 t) r q).trans ?_
  unfold Ref.dil
  rw [side_nat4, side_nat16, side_nat4, side_nat16, read5 m c t b R r hb hR, read7 m c t b R r hb hR, read9 m c t b R r hb hR,
    read4 m c t b R r hb hR, read6 m c t b R r hb hR, read8 m c t b R r hb hR]

theorem mrg_eq (p : Fin 1024) :
    mrgK (k0_pay3 (F := Ideal) (iblk m c 0 t) (iblk m c 1 t))
      (dilK (iblk m c 4 t) (iblk m c 5 t) (iblk m c 6 t) (iblk m c 7 t) (iblk m c 8 t) (iblk m c 9 t))
      (nsaK (iblk m c 3 t)) (iblk m c 2 t) (iblk m c 10 t) (iblk m c 11 t) r p
    = Ref.mrg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) b R p := by
  have eh : ∀ q : Fin 1024, k0_pay3 (F := Ideal) (iblk m c 0 t) (iblk m c 1 t) (ix2 r q)
      = Ref.nrm (fun k => (m ((c : Thread nD τ).loc main_arg0) : FVec Ideal S2x8192x1024 .f32) (ix3 b R k))
          ((m ((c : Thread nD τ).loc main_arg1) : FVec Ideal S1024 .f32) (ix1 q)) q := by
    intro q
    refine (pay3_apply (iblk m c 0 t) (iblk m c 1 t) r q).trans ?_
    rw [read1 m c t]
    exact congrArg (fun f => Ref.nrm f _ q) (funext fun k => read0 m c t b R r hb hR k)
  have ey : ∀ q : Fin 512, nsaK (iblk m c 3 t) (ix2 q r)
      = (m ((c : Thread nD τ).loc main_arg3) : FVec Ideal S2x64x512x128 .bf16) (ix4 b ⟨R.val / 128, by omega⟩ q ⟨R.val % 128, by omega⟩) :=
    fun q => (nsaK_apply (iblk m c 3 t) q r).trans (read3 m c t b R r hb hR q)
  unfold mrgK Ref.mrg
  simp only [eh, ey, dil_eq m c t b R r hb hR]
  rw [read2 m c t, read10 m c t, read11 m c t]

end

/-- What a point leaves at a block index is the reference's result where the block lies. -/
theorem point (c : Dev nD) (t : Fin cfg0.N) (y : S1x512x1024.Idx) (i : S2x8192x1024.Idx)
    (h0 : (i 0).val = t.val / 16) (h1 : (i 1).val = t.val % 16 * 512 + (y 1).val) (h2 : (i 2).val = (y 2).val) :
    outsAt0 m c t y = REF m c i := by
  obtain ⟨z, r, q, rfl⟩ : ∃ (z : Fin 1) (r : Fin 512) (q : Fin 1024), y = ix3 z r q := ⟨y 0, y 1, y 2, by
    funext a
    match a with
    | ⟨0, _⟩ => rfl
    | ⟨1, _⟩ => rfl
    | ⟨2, _⟩ => rfl⟩
  obtain ⟨b, R, Q, rfl⟩ : ∃ (b : Fin 2) (R : Fin 8192) (Q : Fin 1024), i = ix3 b R Q := ⟨i 0, i 1, i 2, by
    funext a
    match a with
    | ⟨0, _⟩ => rfl
    | ⟨1, _⟩ => rfl
    | ⟨2, _⟩ => rfl⟩
  obtain rfl : z = 0 := Fin.ext (by have := z.isLt; show z.val = 0; omega)
  obtain rfl : Q = q := Fin.ext h2
  refine (congrFun (outs_eq m c t) _).trans ?_
  refine (out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r Q).trans
    (Eq.trans ?_ (Ref.ref_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (ix3 b R Q)).symm)
  refine congr (congrArg HAdd.hAdd (read0 m c t b R r h0 h1 Q)) ?_
  rw [read13 m c t]
  refine congrArg (fun f => Ref.nrm f _ Q) (funext fun k => Finset.sum_congr rfl fun p _ => ?_)
  rw [mrg_eq m c t b R r h0 h1 p, read12 m c t]
  rfl

/-- The result array after the run is the reference's. -/
theorem final (c : Dev nD) : (dats m 0 c).arrAt 14 cfg0.N = REF m c := by
  refine (dats m 0 c).arrAt_eq_of_covers 14 _ (by decide +kernel) fun t hf y => ?_
  blk_simp
  rw [after0_14]
  exact point m c t y _ (by blk_simp [idx t]) (by blk_simp [idx t]) (by blk_simp [idx t])

end Cert.MergeIdeal.Value

end
-- ==== Proof.MergeClaims.lean ====
/- The merge's claims: its frames, its reference's, and the value claim. -/
module

public import proofs.«01_k».proof.Defs
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.MergeIdeal.Value
public import Idealize.ShloMosaic.Adequacy
public import Idealize.ShloMosaic.Init

@[expose] public section

noncomputable section

namespace Cert.Proof

open Idealize.ShloMosaic Idealize.SL.Sem

attribute [local instance] Cert.Merge.Gen.facts Cert.MergeIdeal.Gen.facts Cert.MergeReferenceIdeal.Gen.facts

theorem frame_merge : Cert.quiescent_Merge := fun m ρ _ => Cert.Merge.Gen.frame m ρ

theorem frame_merge_ideal : Cert.quiescent_MergeIdeal := fun m ρ _ => Cert.MergeIdeal.Gen.frame m ρ

theorem frame_merge_reference : Cert.quiescent_MergeReferenceIdeal := fun m ρ _ =>
  (θ_run Cert.MergeReferenceIdeal.defs _ _).mono (fun r h => ⟨fun c => (h c).2,
      Idealize.ShloMosaic.sem_eq_zero_of_no_sems (by decide) r.2⟩)
    (Cert.MergeReferenceIdeal.Value.run (F := Ideal) m ρ)

theorem merge_algebraic : Cert.algebraic_MergeIdeal_MergeReferenceIdeal := by
  intro m g m' g' _ hagree
  refine ⟨fun c => Cert.MergeIdeal.Value.REF m c, ?_, ?_⟩
  · refine (θ_run Cert.MergeIdeal.defs _ _).mono (fun _ h c => ?_) (Cert.MergeIdeal.Value.run_blocks m g)
    exact ⟨(h c).1.trans (Cert.MergeIdeal.Value.final m c), (h c).2⟩
  · refine (θ_run Cert.MergeReferenceIdeal.defs _ _).mono (fun _ h c => ?_) (Cert.MergeReferenceIdeal.Value.run (F := Ideal) m' g')
    obtain ⟨a0, a1, a2, a3, a4, a5, a6, a7, a8, a9, a10, a11, a12, a13⟩ := hagree c
    refine ⟨(h c).1.trans ((Cert.MergeReferenceIdeal.Read.val_main_v82_eq m' c).trans ?_), (h c).2⟩
    rw [a0, a1, a2, a3, a4, a5, a6, a7, a8, a9, a10, a11, a12, a13]

end Cert.Proof

end
-- ==== Proof.CompressIdeal.Ref.lean ====
module

public import proofs.«01_k».proof.Proof.Gen.CompressReferenceIdeal.Read
public import proofs.«01_k».proof.Proof.MergeIdeal.Pay
public import Idealize.ShloMosaic.Lib.Pipeline.ValueKit

/-! The compression's reference, at one element. -/

@[expose] public section

set_option maxRecDepth 16384

noncomputable section

namespace Cert.CompressIdeal.Ref

open Cert.CompressReferenceIdeal Cert.CompressReferenceIdeal.Gen Idealize.ShloMosaic
open Cert.CompressReferenceIdeal.Read

/-- A hidden unit of row `r`: the row with the next one, shifted by the positions, against the weights. -/
def hid (X : Fin 512 → Fin 1024 → EReal) (P : Fin 2048 → EReal) (W : Fin 2048 → Fin 256 → EReal) (r : Fin 512) (c : Fin 256) : EReal :=
  (∑ q : Fin 1024, (X r q + P ⟨q.val, by omega⟩) * W ⟨q.val, by omega⟩ c)
  + ∑ q : Fin 1024, (X ⟨(r.val + 1) % 512, by omega⟩ q + P ⟨1024 + q.val, by omega⟩) * W ⟨1024 + q.val, by omega⟩ c

/-- A hidden unit times its logistic. -/
def act (a : EReal) : EReal := a * Cert.MergeIdeal.Ref.sig a

theorem sum_halves (f : Fin 2048 → EReal) :
    ∑ k : Fin 2048, f k = (∑ q : Fin 1024, f ⟨q.val, by omega⟩) + ∑ q : Fin 1024, f ⟨1024 + q.val, by omega⟩ :=
  Fin.sum_univ_add (a := 1024) (b := 1024) f

variable (x : FVec Ideal S2x2x512x1024 .f32) (p : FVec Ideal S32x64 .f32) (w1 : FVec Ideal S2048x256 .f32) (w2 : FVec Ideal S256x64 .f32)

/-- The operands of `hid`, out of the arrays. -/
def hidA (b g : Fin 2) (r : Fin 512) (c : Fin 256) : EReal :=
  hid (fun r q => x (ix4 b g r q)) (fun k => p (ix2 ⟨k.val / 64, by omega⟩ ⟨k.val % 64, by omega⟩)) (fun k c => w1 (ix2 k c)) r c

theorem lo_v (b g : Fin 2) (r : Fin 512) (q : Fin 1024) : val_main_v7 (F := Ideal) x p (ix4 b g r ⟨q.val, by omega⟩)
    = x (ix4 b g r q) + p (ix2 ⟨q.val / 64, by omega⟩ ⟨q.val % 64, by omega⟩) := by
  pointwise [val_main_v0, val_main_v1, val_main_v2, val_main_v3, val_main_v4, val_main_v5, val_main_v6, val_main_v7]

theorem hi_v (b g : Fin 2) (r : Fin 512) (q : Fin 1024) : val_main_v7 (F := Ideal) x p (ix4 b g r ⟨1024 + q.val, by omega⟩)
    = x (ix4 b g ⟨(r.val + 1) % 512, by omega⟩ q) + p (ix2 ⟨(1024 + q.val) / 64, by omega⟩ ⟨(1024 + q.val) % 64, by omega⟩) := by
  pointwise [val_main_v0, val_main_v1, val_main_v2, val_main_v3, val_main_v4, val_main_v5, val_main_v6, val_main_v7]
  refine congrArg (· + _) ?_
  split
  · exact congrArg (fun u => x (ix4 b g u q)) (Fin.ext (show 1 + r.val = (r.val + 1) % 512 by omega))
  · exact congrArg (fun u => x (ix4 b g u q)) (Fin.ext (show r.val - 511 = (r.val + 1) % 512 by omega))

theorem dot_v (b g : Fin 2) (r : Fin 512) (c : Fin 256) : val_main_v8 (F := Ideal) x p w1 (ix4 b g r c) = hidA x p w1 b g r c := by
  have e : val_main_v8 (F := Ideal) x p w1 (ix4 b g r c) = ∑ k : Fin 2048, val_main_v7 (F := Ideal) x p (ix4 b g r k) * w1 (ix2 k c) := by
    unfold val_main_v8
    generalize val_main_v7 (F := Ideal) x p = y
    pointwise []
  rw [e, sum_halves]
  simp only [lo_v, hi_v]
  rfl

theorem act_v (b g : Fin 2) (r : Fin 512) (c : Fin 256) : val_main_v9 (F := Ideal) x p w1 (ix4 b g r c) = act (hidA x p w1 b g r c) := by
  unfold act Cert.MergeIdeal.Ref.sig
  rw [← dot_v x p w1 b g r c]
  pointwise [val_main_call0_v0, val_main_call0_v1, val_main_call0_cst, val_main_call0_v2, val_main_call0_v3, val_main_call0_cst_0, val_main_call0_v4, val_main_call0_v5, val_main_v9]

theorem act_k (b g : Fin 2) (r : Fin 512) (c : Fin 256) : val_main_v23 (F := Ideal) x p w1 (ix4 b g r c) = act (hidA x p w1 b g r c) :=
  act_v x p w1 b g r c

/-- The compressed keys. -/
theorem ref_k (b g : Fin 2) (r : Fin 512) (d : Fin 64) : val_main_v25 (F := Ideal) x p w1 w2 (ix4 b g r d)
    = ∑ h : Fin 256, act (hidA x p w1 b g r h) * w2 (ix2 h d) := by
  have e : val_main_v25 (F := Ideal) x p w1 w2 (ix4 b g r d) = ∑ h : Fin 256, val_main_v23 (F := Ideal) x p w1 (ix4 b g r h) * w2 (ix2 h d) := by
    unfold val_main_v25 val_main_v24
    generalize val_main_v23 (F := Ideal) x p w1 = y
    pointwise []
  rw [e]
  simp only [act_k]

/-- The compressed values, one column each, over a row of ones and rows of zeros. -/
theorem ref_v (b g : Fin 2) (d : Fin 80) (r : Fin 512) : val_main_v27 (F := Ideal) x p w1 w2 (ix4 b g d r)
    = if h : d.val < 64 then ∑ q : Fin 256, act (hidA x p w1 b g r q) * w2 (ix2 q ⟨d.val, h⟩)
      else if d.val = 64 then 1 else 0 := by
  have e : ∀ d : Fin 64, val_main_v11 (F := Ideal) x p w1 w2 (ix4 b g d r) = ∑ h : Fin 256, act (hidA x p w1 b g r h) * w2 (ix2 h d) := by
    intro d
    have e : val_main_v11 (F := Ideal) x p w1 w2 (ix4 b g d r) = ∑ h : Fin 256, val_main_v9 (F := Ideal) x p w1 (ix4 b g r h) * w2 (ix2 h d) := by
      unfold val_main_v11 val_main_v10
      generalize val_main_v9 (F := Ideal) x p w1 = y
      pointwise []
    rw [e]
    simp only [act_v]
  unfold val_main_v27 val_main_v26
  generalize val_main_v11 (F := Ideal) x p w1 w2 = y at e
  by_cases h : d.val < 64
  · rw [dif_pos h, ← e]
    pointwise [val_main_cst, val_main_v12, val_main_cst_0, val_main_v13]
    exact dif_pos h
  · rw [dif_neg h]
    pointwise [val_main_cst, val_main_v12, val_main_cst_0, val_main_v13]
    refine (dif_neg h).trans ?_
    by_cases h1 : d.val = 64
    · rw [if_pos h1, dif_pos (by omega)]
    · rw [if_neg h1, dif_neg (by omega)]

end Cert.CompressIdeal.Ref

end
-- ==== Proof.CompressIdeal.Pay.lean ====
module

public import proofs.«01_k».proof.Proof.Gen.CompressIdeal.Value
public import proofs.«01_k».proof.Proof.CompressIdeal.Ref

/-! What one grid point of the compression leaves, at one element of its blocks. -/

@[expose] public section

set_option maxRecDepth 16384

noncomputable section

namespace Cert.CompressIdeal.Value

open Cert.CompressIdeal Cert.CompressIdeal.Gen Idealize.ShloMosaic Idealize.ShloMosaic.TcCoe Idealize.SL.Sem
open Cert.CompressIdeal.Ref (hid act)
open Cert.MergeIdeal.Value (sigK half sigK_eq)

/-- A hidden unit, from the loads. -/
def hidL (v0 : FVec Ideal S1x1x512x1024 .f32) (v2 : FVec Ideal S1x1024 .f32) (v7 : FVec Ideal S1x1024x256 .bf16)
    (v10 : FVec Ideal S1x1024 .f32) (v15 : FVec Ideal S1x1024x256 .bf16) (r : Fin 512) (c : Fin 256) : EReal :=
  (∑ q : Fin 1024, (v0 (ix4 0 0 r q) + v2 (ix2 0 q)) * v7 (ix3 0 q c))
  + ∑ q : Fin 1024, (v0 (ix4 0 0 ⟨(r.val + 512 - 511) % 512, by omega⟩ q) + v10 (ix2 0 q)) * v15 (ix3 0 q c)

section
variable (v0 : FVec Ideal S1x1x512x1024 .f32) (v2 : FVec Ideal S1x1024 .f32) (v7 : FVec Ideal S1x1024x256 .bf16)
    (v10 : FVec Ideal S1x1024 .f32) (v15 : FVec Ideal S1x1024x256 .bf16)

theorem act_eq (a : EReal) : a * sigK a = act a := by
  unfold act
  rw [sigK_eq]

theorem pay5_apply (r : Fin 512) (c : Fin 256) : k0_pay5 (F := Ideal) v0 v2 v7 v10 v15 (ix2 r c) = act (hidL v0 v2 v7 v10 v15 r c) := by
  rw [← act_eq]
  unfold sigK half hidL
  pointwise [k0_pay5]

theorem pay2_apply (w : FVec Ideal S256x64 .bf16) (r : Fin 512) (d : Fin 64) :
    k0_pay2 (F := Ideal) v0 v2 v7 v10 v15 w (ix2 r d) = ∑ h : Fin 256, act (hidL v0 v2 v7 v10 v15 r h) * w (ix2 h d) := by
  simp only [← act_eq]
  unfold sigK half hidL
  pointwise [k0_pay2]

end

theorem pay1_apply (w : FVec Ideal S64x256 .bf16) (y : FVec Ideal S512x256 .bf16) (d : Fin 80) (r : Fin 512) :
    k0_pay1 (F := Ideal) (k0_pay4 w) y (constant S64x512 .f32 0x00000000#32) (ix4 0 0 d r)
    = if h : d.val < 64 then ∑ q : Fin 256, w (ix2 ⟨d.val, h⟩ q) * y (ix2 r q)
      else if d.val = 64 then 1 else 0 := by
  by_cases h : d.val < 64
  · rw [dif_pos h]
    pointwise [k0_pay1, k0_pay4]
    exact dif_pos h
  · rw [dif_neg h]
    pointwise [k0_pay1, k0_pay4]
    refine (dif_neg h).trans ?_
    have h2 : d.val - 64 < 16 := by omega
    have h3 : d.val = 64 ↔ d.val - 64 = 0 := by omega
    simp only [h3]
    generalize d.val - 64 = n at h2 ⊢
    interval_cases n <;> simp [Scalar.select, IntOp.cmpi]

/-- A window read from its own corner. -/
theorem ld_row (x : FVec Ideal S2x1024 .f32) (j : Fin 2)
    (i : ∀ a, (![j.val, 0] : Fin 2 → ℕ) a + (![1, 1024] : Fin 2 → ℕ) a ≤ S2x1024.size a) (q : Fin 1024) :
    (View.ld (Val := Elt Ideal) (e' := .f32) x (Rect.unit ![j.val, 0] ![1, 1024] i) : FVec Ideal S1x1024 .f32) (ix2 0 q) = x (ix2 j q) := by
  refine View.ld_unit_apply_of (Val := Elt Ideal) (e := .f32) x _ _ i _ _ (fun a => ?_)
  match a with
  | ⟨0, _⟩ => show j.val = j.val + 0; omega
  | ⟨1, _⟩ => show q.val = 0 + q.val; omega

theorem ld_half (x : FVec Ideal S2x1024x256 .bf16) (j : Fin 2)
    (i : ∀ a, (![j.val, 0, 0] : Fin 3 → ℕ) a + (![1, 1024, 256] : Fin 3 → ℕ) a ≤ S2x1024x256.size a) (q : Fin 1024) (c : Fin 256) :
    (View.ld (Val := Elt Ideal) (e' := .bf16) x (Rect.unit ![j.val, 0, 0] ![1, 1024, 256] i) : FVec Ideal S1x1024x256 .bf16) (ix3 0 q c) = x (ix3 j q c) := by
  refine View.ld_unit_apply_of (Val := Elt Ideal) (e := .bf16) x _ _ i _ _ (fun a => ?_)
  match a with
  | ⟨0, _⟩ => show j.val = j.val + 0; omega
  | ⟨1, _⟩ => show q.val = 0 + q.val; omega
  | ⟨2, _⟩ => show c.val = 0 + c.val; omega

theorem ld_x (x : FVec Ideal S1x1x512x1024 .f32)
    (i : ∀ a, (![0, 0, 0, 0] : Fin 4 → ℕ) a + (![1, 1, 512, 1024] : Fin 4 → ℕ) a ≤ S1x1x512x1024.size a) (r : Fin 512) (q : Fin 1024) :
    (View.ld (Val := Elt Ideal) (e' := .f32) x (Rect.unit ![0, 0, 0, 0] ![1, 1, 512, 1024] i) : FVec Ideal S1x1x512x1024 .f32) (ix4 0 0 r q) = x (ix4 0 0 r q) := by
  refine View.ld_unit_apply_of (Val := Elt Ideal) (e := .f32) x _ _ i _ _ (fun a => ?_)
  match a with
  | ⟨0, _⟩ => show 0 = 0 + 0; omega
  | ⟨1, _⟩ => show 0 = 0 + 0; omega
  | ⟨2, _⟩ => show r.val = 0 + r.val; omega
  | ⟨3, _⟩ => show q.val = 0 + q.val; omega

/-- A hidden unit, from the blocks. -/
theorem hidL_ld (x : FVec Ideal S1x1x512x1024 .f32) (p : FVec Ideal S2x1024 .f32) (w : FVec Ideal S2x1024x256 .bf16) (r : Fin 512) (c : Fin 256) :
    hidL (View.ld (Val := Elt Ideal) (e' := .f32) x r0_0) (View.ld (Val := Elt Ideal) (e' := .f32) p r0_1) (View.ld (Val := Elt Ideal) (e' := .bf16) w r0_2)
      (View.ld (Val := Elt Ideal) (e' := .f32) p r0_3) (View.ld (Val := Elt Ideal) (e' := .bf16) w r0_4) r c
    = (∑ q : Fin 1024, (x (ix4 0 0 r q) + p (ix2 0 q)) * w (ix3 0 q c))
      + ∑ q : Fin 1024, (x (ix4 0 0 ⟨(r.val + 512 - 511) % 512, by omega⟩ q) + p (ix2 1 q)) * w (ix3 1 q c) := by
  unfold hidL
  refine congr (congrArg HAdd.hAdd (Finset.sum_congr rfl fun q _ => ?_)) (Finset.sum_congr rfl fun q _ => ?_)
  · exact congr (congrArg HMul.hMul (congr (congrArg HAdd.hAdd (ld_x x _ r q)) (ld_row p 0 _ q))) (ld_half w 0 _ q c)
  · exact congr (congrArg HMul.hMul (congr (congrArg HAdd.hAdd (ld_x x _ _ q)) (ld_row p 1 _ q))) (ld_half w 1 _ q c)

end Cert.CompressIdeal.Value

end
-- ==== Proof.CompressIdeal.Value.lean ====
module

public import proofs.«01_k».proof.Proof.CompressIdeal.Pay

/-! The compression's two results are its reference's, element by element. -/

@[expose] public section

set_option maxRecDepth 16384

noncomputable section

namespace Cert.CompressIdeal.Value

open Cert.CompressIdeal Cert.CompressIdeal.Gen Idealize.ShloMosaic Idealize.ShloMosaic.TcCoe Idealize.SL.Sem
open Idealize.ShloMosaic.Pipeline (Dat)
open Cert.CompressIdeal.Ref (hid hidA act)

variable (m : (ℓ : Loc nD τ sig) → Buf (Elt Ideal) ℓ)

/-- The reference's compressed keys over the kernel's arguments. -/
abbrev REFK (c : Dev nD) : FVec Ideal S2x2x512x64 .bf16 :=
  Cert.CompressReferenceIdeal.Read.val_main_v25 (F := Ideal) (m ((c : Thread nD τ).loc main_arg0)) (m ((c : Thread nD τ).loc main_arg2)) (m ((c : Thread nD τ).loc main_arg3)) (m ((c : Thread nD τ).loc main_arg4))

/-- The reference's compressed values over the kernel's arguments. -/
abbrev REFV (c : Dev nD) : FVec Ideal S2x2x80x512 .bf16 :=
  Cert.CompressReferenceIdeal.Read.val_main_v27 (F := Ideal) (m ((c : Thread nD τ).loc main_arg1)) (m ((c : Thread nD τ).loc main_arg5)) (m ((c : Thread nD τ).loc main_arg6)) (m ((c : Thread nD τ).loc main_arg7))

/-- One piece over the whole block is the block. -/
theorem canon9_eq (p : FVec Ideal S1x1x80x512 .bf16) (y : S1x1x80x512.Idx) :
    (View.canon ([⟨r0_8, p⟩] : List (View.Piece (Elt Ideal) S1x1x80x512 .bf16)) : FVec Ideal S1x1x80x512 .bf16) y = p y := by
  refine View.canon_apply_of_pieces (Val := Elt Ideal) (e := .bf16) (p : Vec Ideal S1x1x80x512 .bf16) _ ?_ y (cover0_9 _ y)
  intro pc hpc
  rcases List.mem_cons.mp hpc with rfl | hpc
  · intro x
    refine congrArg p ?_
    funext a
    match a with
    | ⟨0, _⟩ => exact Fin.ext (show (x 0).val = 0 + 1 * (x 0).val by omega)
    | ⟨1, _⟩ => exact Fin.ext (show (x 1).val = 0 + 1 * (x 1).val by omega)
    | ⟨2, _⟩ => exact Fin.ext (show (x 2).val = 0 + 1 * (x 2).val by omega)
    | ⟨3, _⟩ => exact Fin.ext (show (x 3).val = 0 + 1 * (x 3).val by omega)
  nomatch hpc

section
variable (x0 x1 : FVec Ideal S1x1x512x1024 .f32) (x2 x3 : FVec Ideal S2x1024 .f32) (x4 x5 : FVec Ideal S2x1024x256 .bf16)
  (x6 : FVec Ideal S256x64 .bf16) (x7 : FVec Ideal S64x256 .bf16)

theorem out8_apply (r : Fin 512) (d : Fin 64) : out0_8 (F := Ideal) x0 x1 x2 x3 x4 x5 x6 x7 (ix4 0 0 r d)
    = ∑ h : Fin 256, act (hidL (View.ld (Val := Elt Ideal) (e' := .f32) x0 r0_0) (View.ld (Val := Elt Ideal) (e' := .f32) x2 r0_1) (View.ld (Val := Elt Ideal) (e' := .bf16) x4 r0_2)
      (View.ld (Val := Elt Ideal) (e' := .f32) x2 r0_3) (View.ld (Val := Elt Ideal) (e' := .bf16) x4 r0_4) r h) * x6 (ix2 h d) := by
  unfold out0_8
  rw [canon8_eq]
  generalize View.ld (Val := Elt Ideal) (e' := .f32) x0 r0_0 = l0
  generalize View.ld (Val := Elt Ideal) (e' := .f32) x2 r0_1 = l1
  generalize View.ld (Val := Elt Ideal) (e' := .f32) x2 r0_3 = l3
  generalize View.ld (Val := Elt Ideal) (e' := .bf16) x4 r0_2 = l2
  generalize View.ld (Val := Elt Ideal) (e' := .bf16) x4 r0_4 = l4
  have e : ix8_0 (ix4 0 0 r d) = ix2 r d := by
    funext a
    match a with
    | ⟨0, _⟩ => rfl
    | ⟨1, _⟩ => rfl
  show k0_pay2 (F := Ideal) l0 l1 l2 l3 l4 _ (ix8_0 (ix4 0 0 r d)) = _
  rw [e, pay2_apply]
  refine Finset.sum_congr rfl fun h _ => congrArg (HMul.hMul _) ?_
  refine View.ld_unit_apply_of (Val := Elt Ideal) (e := .bf16) x6 _ _ _ _ (ix2 h d) (fun a => ?_)
  match a with
  | ⟨0, _⟩ => show h.val = 0 + h.val; omega
  | ⟨1, _⟩ => show d.val = 0 + d.val; omega

theorem out9_apply (d : Fin 80) (r : Fin 512) : out0_9 (F := Ideal) x0 x1 x2 x3 x4 x5 x6 x7 (ix4 0 0 d r)
    = if h : d.val < 64 then ∑ q : Fin 256, act (hidL (View.ld (Val := Elt Ideal) (e' := .f32) x1 r0_0) (View.ld (Val := Elt Ideal) (e' := .f32) x3 r0_1)
      (View.ld (Val := Elt Ideal) (e' := .bf16) x5 r0_2) (View.ld (Val := Elt Ideal) (e' := .f32) x3 r0_3) (View.ld (Val := Elt Ideal) (e' := .bf16) x5 r0_4) r q) * x7 (ix2 ⟨d.val, h⟩ q)
      else if d.val = 64 then 1 else 0 := by
  unfold out0_9
  rw [canon9_eq]
  generalize View.ld (Val := Elt Ideal) (e' := .f32) x1 r0_0 = l0
  generalize View.ld (Val := Elt Ideal) (e' := .f32) x3 r0_1 = l1
  generalize View.ld (Val := Elt Ideal) (e' := .f32) x3 r0_3 = l3
  generalize View.ld (Val := Elt Ideal) (e' := .bf16) x5 r0_2 = l2
  generalize View.ld (Val := Elt Ideal) (e' := .bf16) x5 r0_4 = l4
  rw [pay1_apply]
  by_cases h : d.val < 64
  · rw [dif_pos h, dif_pos h]
    refine Finset.sum_congr rfl fun q _ => (mul_comm _ _).trans ?_
    refine congr (congrArg HMul.hMul (pay5_apply _ _ _ _ _ r q)) ?_
    refine View.ld_unit_apply_of (Val := Elt Ideal) (e := .bf16) x7 _ _ _ _ (ix2 ⟨d.val, h⟩ q) (fun a => ?_)
    match a with
    | ⟨0, _⟩ => show d.val = 0 + d.val; omega
    | ⟨1, _⟩ => show q.val = 0 + q.val; omega
  · rw [dif_neg h, dif_neg h]

end

/-- The windows' block indices. -/
theorem idx : ∀ t : Fin cfg0.N, (win0_0.index t = ![t.val / 2, t.val % 2, 0, 0] ∧ win0_1.index t = ![t.val / 2, t.val % 2, 0, 0]
    ∧ win0_2.index t = ![0, 0] ∧ win0_3.index t = ![0, 0] ∧ win0_4.index t = ![0, 0, 0] ∧ win0_5.index t = ![0, 0, 0]
    ∧ win0_6.index t = ![0, 0] ∧ win0_7.index t = ![0, 0]) ∧ win0_8.index t = ![t.val / 2, t.val % 2, 0, 0]
    ∧ win0_9.index t = ![t.val / 2, t.val % 2, 0, 0] ∧ t.val < 4 :=
  (by decide +kernel : ∀ t : Fin grid0.N, (win0_0.index t = ![t.val / 2, t.val % 2, 0, 0] ∧ win0_1.index t = ![t.val / 2, t.val % 2, 0, 0]
    ∧ win0_2.index t = ![0, 0] ∧ win0_3.index t = ![0, 0] ∧ win0_4.index t = ![0, 0, 0] ∧ win0_5.index t = ![0, 0, 0]
    ∧ win0_6.index t = ![0, 0] ∧ win0_7.index t = ![0, 0]) ∧ win0_8.index t = ![t.val / 2, t.val % 2, 0, 0]
    ∧ win0_9.index t = ![t.val / 2, t.val % 2, 0, 0] ∧ t.val < 4)

section
variable (c : Dev nD) (t : Fin cfg0.N) (b g : Fin 2) (hb : b.val = t.val / 2) (hg : g.val = t.val % 2)
include hb hg

theorem read0 (r : Fin 512) (q : Fin 1024) :
    (iblk m c 0 t : FVec Ideal S1x1x512x1024 .f32) (ix4 0 0 r q) = (m ((c : Thread nD τ).loc main_arg0) : FVec Ideal S2x2x512x1024 .f32) (ix4 b g r q) := by
  blk_ext [iblk, V, idx t]

theorem read1 (r : Fin 512) (q : Fin 1024) :
    (iblk m c 1 t : FVec Ideal S1x1x512x1024 .f32) (ix4 0 0 r q) = (m ((c : Thread nD τ).loc main_arg1) : FVec Ideal S2x2x512x1024 .f32) (ix4 b g r q) := by
  blk_ext [iblk, V, idx t]

end

variable (c : Dev nD) (t : Fin cfg0.N)

theorem read2 (j : Fin 2) (q : Fin 1024) (k : Fin 2048) (hk : k.val = j.val * 1024 + q.val) :
    (iblk m c 2 t : FVec Ideal S2x1024 .f32) (ix2 j q) = (m ((c : Thread nD τ).loc main_arg2) : FVec Ideal S32x64 .f32) (ix2 ⟨k.val / 64, by omega⟩ ⟨k.val % 64, by omega⟩) := by
  blk_ext! [iblk, V, idx t]

theorem read3 (j : Fin 2) (q : Fin 1024) (k : Fin 2048) (hk : k.val = j.val * 1024 + q.val) :
    (iblk m c 3 t : FVec Ideal S2x1024 .f32) (ix2 j q) = (m ((c : Thread nD τ).loc main_arg5) : FVec Ideal S32x64 .f32) (ix2 ⟨k.val / 64, by omega⟩ ⟨k.val % 64, by omega⟩) := by
  blk_ext! [iblk, V, idx t]

theorem read4 (j : Fin 2) (q : Fin 1024) (h : Fin 256) (k : Fin 2048) (hk : k.val = j.val * 1024 + q.val) :
    (iblk m c 4 t : FVec Ideal S2x1024x256 .bf16) (ix3 j q h) = (m ((c : Thread nD τ).loc main_arg3) : FVec Ideal S2048x256 .f32) (ix2 k h) := by
  blk_ext! [iblk, V, idx t]

theorem read5 (j : Fin 2) (q : Fin 1024) (h : Fin 256) (k : Fin 2048) (hk : k.val = j.val * 1024 + q.val) :
    (iblk m c 5 t : FVec Ideal S2x1024x256 .bf16) (ix3 j q h) = (m ((c : Thread nD τ).loc main_arg6) : FVec Ideal S2048x256 .f32) (ix2 k h) := by
  blk_ext! [iblk, V, idx t]

theorem read6 :
    (iblk m c 6 t : FVec Ideal S256x64 .bf16) = (m ((c : Thread nD τ).loc main_arg4) : FVec Ideal S256x64 .f32) := by
  blk_ext! [iblk, V, idx t]

theorem read7 (d : Fin 64) (h : Fin 256) :
    (iblk m c 7 t : FVec Ideal S64x256 .bf16) (ix2 d h) = (m ((c : Thread nD τ).loc main_arg7) : FVec Ideal S256x64 .f32) (ix2 h d) := by
  blk_ext! [iblk, V, idx t]

section
variable (b g : Fin 2) (hb : b.val = t.val / 2) (hg : g.val = t.val % 2)
include hb hg

theorem hid_k (r : Fin 512) (h : Fin 256) :
    hidL (View.ld (Val := Elt Ideal) (e' := .f32) (iblk m c 0 t) r0_0) (View.ld (Val := Elt Ideal) (e' := .f32) (iblk m c 2 t) r0_1)
      (View.ld (Val := Elt Ideal) (e' := .bf16) (iblk m c 4 t) r0_2) (View.ld (Val := Elt Ideal) (e' := .f32) (iblk m c 2 t) r0_3)
      (View.ld (Val := Elt Ideal) (e' := .bf16) (iblk m c 4 t) r0_4) r h
    = hidA (m ((c : Thread nD τ).loc main_arg0)) (m ((c : Thread nD τ).loc main_arg2)) (m ((c : Thread nD τ).loc main_arg3)) b g r h := by
  refine (hidL_ld (iblk m c 0 t) (iblk m c 2 t) (iblk m c 4 t) r h).trans ?_
  unfold hidA hid
  have er : (⟨(r.val + 512 - 511) % 512, by omega⟩ : Fin 512) = ⟨(r.val + 1) % 512, by omega⟩ := Fin.ext (show (r.val + 512 - 511) % 512 = (r.val + 1) % 512 by omega)
  refine congr (congrArg HAdd.hAdd (Finset.sum_congr rfl fun q _ => ?_)) (Finset.sum_congr rfl fun q _ => ?_)
  · rw [read0 m c t b g hb hg, read2 m c t 0 q ⟨q.val, by omega⟩ (show q.val = 0 * 1024 + q.val by omega),
      read4 m c t 0 q h ⟨q.val, by omega⟩ (show q.val = 0 * 1024 + q.val by omega)]
  · rw [er, read0 m c t b g hb hg, read2 m c t 1 q ⟨1024 + q.val, by omega⟩ (show 1024 + q.val = 1 * 1024 + q.val by omega),
      read4 m c t 1 q h ⟨1024 + q.val, by omega⟩ (show 1024 + q.val = 1 * 1024 + q.val by omega)]

theorem hid_v (r : Fin 512) (h : Fin 256) :
    hidL (View.ld (Val := Elt Ideal) (e' := .f32) (iblk m c 1 t) r0_0) (View.ld (Val := Elt Ideal) (e' := .f32) (iblk m c 3 t) r0_1)
      (View.ld (Val := Elt Ideal) (e' := .bf16) (iblk m c 5 t) r0_2) (View.ld (Val := Elt Ideal) (e' := .f32) (iblk m c 3 t) r0_3)
      (View.ld (Val := Elt Ideal) (e' := .bf16) (iblk m c 5 t) r0_4) r h
    = hidA (m ((c : Thread nD τ).loc main_arg1)) (m ((c : Thread nD τ).loc main_arg5)) (m ((c : Thread nD τ).loc main_arg6)) b g r h := by
  refine (hidL_ld (iblk m c 1 t) (iblk m c 3 t) (iblk m c 5 t) r h).trans ?_
  unfold hidA hid
  have er : (⟨(r.val + 512 - 511) % 512, by omega⟩ : Fin 512) = ⟨(r.val + 1) % 512, by omega⟩ := Fin.ext (show (r.val + 512 - 511) % 512 = (r.val + 1) % 512 by omega)
  refine congr (congrArg HAdd.hAdd (Finset.sum_congr rfl fun q _ => ?_)) (Finset.sum_congr rfl fun q _ => ?_)
  · rw [read1 m c t b g hb hg, read3 m c t 0 q ⟨q.val, by omega⟩ (show q.val = 0 * 1024 + q.val by omega),
      read5 m c t 0 q h ⟨q.val, by omega⟩ (show q.val = 0 * 1024 + q.val by omega)]
  · rw [er, read1 m c t b g hb hg, read3 m c t 1 q ⟨1024 + q.val, by omega⟩ (show 1024 + q.val = 1 * 1024 + q.val by omega),
      read5 m c t 1 q h ⟨1024 + q.val, by omega⟩ (show 1024 + q.val = 1 * 1024 + q.val by omega)]

theorem out_k (r : Fin 512) (d : Fin 64) :
    out0_8 (iblk m c 0 t) (iblk m c 1 t) (iblk m c 2 t) (iblk m c 3 t) (iblk m c 4 t) (iblk m c 5 t) (iblk m c 6 t) (iblk m c 7 t) (ix4 0 0 r d)
    = REFK m c (ix4 b g r d) := by
  refine Eq.trans ?_ (Ref.ref_k (m ((c : Thread nD τ).loc main_arg0)) (m ((c : Thread nD τ).loc main_arg2)) (m ((c : Thread nD τ).loc main_arg3)) (m ((c : Thread nD τ).loc main_arg4)) b g r d).symm
  refine (out8_apply _ _ _ _ _ _ _ _ r d).trans (Finset.sum_congr rfl fun h _ => ?_)
  exact congr (congrArg HMul.hMul (congrArg act (hid_k m c t b g hb hg r h))) (congrFun (read6 m c t) (ix2 h d))

theorem out_v (d : Fin 80) (r : Fin 512) :
    out0_9 (iblk m c 0 t) (iblk m c 1 t) (iblk m c 2 t) (iblk m c 3 t) (iblk m c 4 t) (iblk m c 5 t) (iblk m c 6 t) (iblk m c 7 t) (ix4 0 0 d r)
    = REFV m c (ix4 b g d r) := by
  refine Eq.trans ?_ (Ref.ref_v (m ((c : Thread nD τ).loc main_arg1)) (m ((c : Thread nD τ).loc main_arg5)) (m ((c : Thread nD τ).loc main_arg6)) (m ((c : Thread nD τ).loc main_arg7)) b g d r).symm
  refine (out9_apply _ _ _ _ _ _ _ _ d r).trans ?_
  by_cases h : d.val < 64
  · rw [dif_pos h, dif_pos h]
    refine Finset.sum_congr rfl fun q _ => ?_
    exact congr (congrArg HMul.hMul (congrArg act (hid_v m c t b g hb hg r q))) (read7 m c t ⟨d.val, h⟩ q)
  · rw [dif_neg h, dif_neg h]

end

/-- What a point leaves of the keys is the reference's result where the block lies. -/
theorem point_k (y : S1x1x512x64.Idx) (i : S2x2x512x64.Idx)
    (h0 : (i 0).val = t.val / 2) (h1 : (i 1).val = t.val % 2) (h2 : (i 2).val = (y 2).val) (h3 : (i 3).val = (y 3).val) :
    out0_8 (iblk m c 0 t) (iblk m c 1 t) (iblk m c 2 t) (iblk m c 3 t) (iblk m c 4 t) (iblk m c 5 t) (iblk m c 6 t) (iblk m c 7 t) y = REFK m c i := by
  obtain ⟨z, w, r, d, rfl⟩ : ∃ (z w : Fin 1) (r : Fin 512) (d : Fin 64), y = ix4 z w r d := ⟨y 0, y 1, y 2, y 3, by
    funext a
    match a with
    | ⟨0, _⟩ => rfl
    | ⟨1, _⟩ => rfl
    | ⟨2, _⟩ => rfl
    | ⟨3, _⟩ => rfl⟩
  obtain ⟨b, g, R, D, rfl⟩ : ∃ (b g : Fin 2) (R : Fin 512) (D : Fin 64), i = ix4 b g R D := ⟨i 0, i 1, i 2, i 3, by
    funext a
    match a with
    | ⟨0, _⟩ => rfl
    | ⟨1, _⟩ => rfl
    | ⟨2, _⟩ => rfl
    | ⟨3, _⟩ => rfl⟩
  obtain rfl : z = 0 := Fin.ext (by have := z.isLt; show z.val = 0; omega)
  obtain rfl : w = 0 := Fin.ext (by have := w.isLt; show w.val = 0; omega)
  obtain rfl : R = r := Fin.ext h2
  obtain rfl : D = d := Fin.ext h3
  exact out_k m c t b g h0 h1 R D

/-- What a point leaves of the values is the reference's result where the block lies. -/
theorem point_v (y : S1x1x80x512.Idx) (i : S2x2x80x512.Idx)
    (h0 : (i 0).val = t.val / 2) (h1 : (i 1).val = t.val % 2) (h2 : (i 2).val = (y 2).val) (h3 : (i 3).val = (y 3).val) :
    out0_9 (iblk m c 0 t) (iblk m c 1 t) (iblk m c 2 t) (iblk m c 3 t) (iblk m c 4 t) (iblk m c 5 t) (iblk m c 6 t) (iblk m c 7 t) y = REFV m c i := by
  obtain ⟨z, w, r, d, rfl⟩ : ∃ (z w : Fin 1) (r : Fin 80) (d : Fin 512), y = ix4 z w r d := ⟨y 0, y 1, y 2, y 3, by
    funext a
    match a with
    | ⟨0, _⟩ => rfl
    | ⟨1, _⟩ => rfl
    | ⟨2, _⟩ => rfl
    | ⟨3, _⟩ => rfl⟩
  obtain ⟨b, g, R, D, rfl⟩ : ∃ (b g : Fin 2) (R : Fin 80) (D : Fin 512), i = ix4 b g R D := ⟨i 0, i 1, i 2, i 3, by
    funext a
    match a with
    | ⟨0, _⟩ => rfl
    | ⟨1, _⟩ => rfl
    | ⟨2, _⟩ => rfl
    | ⟨3, _⟩ => rfl⟩
  obtain rfl : z = 0 := Fin.ext (by have := z.isLt; show z.val = 0; omega)
  obtain rfl : w = 0 := Fin.ext (by have := w.isLt; show w.val = 0; omega)
  obtain rfl : R = r := Fin.ext h2
  obtain rfl : D = d := Fin.ext h3
  exact out_v m c t b g h0 h1 R D

/-- The key array after the run is the reference's. -/
theorem final_k : (dats m 0 c).arrAt 8 cfg0.N = REFK m c := by
  refine (dats m 0 c).arrAt_eq_of_covers 8 _ (by decide +kernel) fun t hf y => ?_
  blk_simp
  rw [after0_8]
  exact point_k m c t y _ (by blk_simp [idx t]) (by blk_simp [idx t]) (by blk_simp [idx t]) (by blk_simp [idx t])

/-- The value array after the run is the reference's. -/
theorem final_v : (dats m 0 c).arrAt 9 cfg0.N = REFV m c := by
  refine (dats m 0 c).arrAt_eq_of_covers 9 _ (by decide +kernel) fun t hf y => ?_
  blk_simp
  rw [after0_9]
  exact point_v m c t y _ (by blk_simp [idx t]) (by blk_simp [idx t]) (by blk_simp [idx t]) (by blk_simp [idx t])

end Cert.CompressIdeal.Value

end
-- ==== Proof.CompressClaims.lean ====
/- The compression's claims: its frames, its reference's, and the value claim. -/
module

public import proofs.«01_k».proof.Defs
public import proofs.«01_k».proof.Proof.Gen.Compress
public import proofs.«01_k».proof.Proof.Gen.Compress.Frame
public import proofs.«01_k».proof.Proof.Gen.CompressIdeal
public import proofs.«01_k».proof.Proof.Gen.CompressIdeal.Frame
public import proofs.«01_k».proof.Proof.Gen.CompressIdeal.Value
public import proofs.«01_k».proof.Proof.Gen.CompressReferenceIdeal
public import proofs.«01_k».proof.Proof.Gen.CompressReferenceIdeal.Run
public import proofs.«01_k».proof.Proof.Gen.CompressReferenceIdeal.Read
public import proofs.«01_k».proof.Proof.CompressIdeal.Value
public import Idealize.ShloMosaic.Adequacy
public import Idealize.ShloMosaic.Init

@[expose] public section

noncomputable section

namespace Cert.Proof

open Idealize.ShloMosaic Idealize.SL.Sem

attribute [local instance] Cert.Compress.Gen.facts Cert.CompressIdeal.Gen.facts Cert.CompressReferenceIdeal.Gen.facts

theorem frame_compress : Cert.quiescent_Compress := fun m ρ _ => Cert.Compress.Gen.frame m ρ

theorem frame_compress_ideal : Cert.quiescent_CompressIdeal := fun m ρ _ => Cert.CompressIdeal.Gen.frame m ρ

theorem frame_compress_reference : Cert.quiescent_CompressReferenceIdeal := fun m ρ _ =>
  (θ_run Cert.CompressReferenceIdeal.defs _ _).mono (fun r h => ⟨fun c => (h c).2.2,
      Idealize.ShloMosaic.sem_eq_zero_of_no_sems (by decide) r.2⟩)
    (Cert.CompressReferenceIdeal.Value.run (F := Ideal) m ρ)

theorem compress_algebraic : Cert.algebraic_CompressIdeal_CompressReferenceIdeal := by
  intro m g m' g' _ hagree
  refine ⟨fun c => Cert.CompressIdeal.Value.REFK m c, fun c => Cert.CompressIdeal.Value.REFV m c, ?_, ?_⟩
  · refine (θ_run Cert.CompressIdeal.defs _ _).mono (fun _ h c => ?_) (Cert.CompressIdeal.Value.run_blocks m g)
    exact ⟨(h c).1.trans (Cert.CompressIdeal.Value.final_k m c), (h c).2.1.trans (Cert.CompressIdeal.Value.final_v m c), (h c).2.2⟩
  · refine (θ_run Cert.CompressReferenceIdeal.defs _ _).mono (fun _ h c => ?_) (Cert.CompressReferenceIdeal.Value.run (F := Ideal) m' g')
    obtain ⟨a0, a1, a2, a3, a4, a5, a6, a7⟩ := hagree c
    refine ⟨(h c).1.trans ((Cert.CompressReferenceIdeal.Read.val_main_v25_eq _ _ _ _).trans ?_),
      (h c).2.1.trans ((Cert.CompressReferenceIdeal.Read.val_main_v27_eq _ _ _ _).trans ?_), (h c).2.2⟩
    · rw [a0, a2, a3, a4]
    · rw [a1, a5, a6, a7]

end Cert.Proof

end
-- ==== Proof.lean ====
module

public import proofs.«01_k».proof.Defs
public import proofs.«01_k».proof.Proof.Gen.Kernel
public import proofs.«01_k».proof.Proof.Gen.KernelIdeal
public import proofs.«01_k».proof.Proof.Kernel.Launch
public import proofs.«01_k».proof.Proof.KernelIdeal.Launch
public import proofs.«01_k».proof.Proof.Claims
public import proofs.«01_k».proof.Proof.MergeClaims
public import proofs.«01_k».proof.Proof.CompressClaims
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts

theorem frame_kernel : Cert.quiescent_Kernel := fun m ρ _ => Cert.Kernel.frame_claim m ρ

theorem frame_kernel_ideal : Cert.quiescent_KernelIdeal := fun m ρ _ => Cert.KernelIdeal.frame_claim m ρ

/-- The named constants: the bound words decode near the reals that they stand for, the masks' words below every score. -/
theorem preserves_kernel : Cert.preserves_Kernel_KernelIdeal :=
  ⟨IdealRules.named_const.statement Cert.KernelIdeal.κ "q_scale" .f32 0x3E38AA3B#32 (((1 / 8) * (Real.log 2)⁻¹ : ℝ) : EReal) rfl,
    IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl,
    IdealRules.named_const.statement Cert.KernelIdeal.κ "half_mask" .f32 0xF0C9F2CA#32 ⊥ rfl,
    IdealRules.named_const.statement Cert.KernelIdeal.κ "mask" .bf16 0xF14A#16 ⊥ rfl⟩

theorem claim : Cert.Claim :=
  ⟨Cert.Kernel.Gen.facts, Cert.KernelIdeal.Gen.facts, Cert.ReferenceIdeal.Gen.facts, Cert.Ffn.Gen.facts,
    Cert.FfnIdeal.Gen.facts, Cert.FfnReferenceIdeal.Gen.facts, Cert.Merge.Gen.facts, Cert.MergeIdeal.Gen.facts,
    Cert.MergeReferenceIdeal.Gen.facts, Cert.Compress.Gen.facts, Cert.CompressIdeal.Gen.facts,
    Cert.CompressReferenceIdeal.Gen.facts, frame_kernel, frame_kernel_ideal, frame_reference,
    frame_ffn, frame_ffn_ideal, frame_ffn_reference, frame_merge, frame_merge_ideal, frame_merge_reference,
    frame_compress, frame_compress_ideal, frame_compress_reference, preserves_kernel, trivial, ffn_algebraic, trivial,
    merge_algebraic, trivial, compress_algebraic⟩

end Cert.Proof

end
